-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Psb (m : (ℓ : Loc Cert.Psb.nD Cert.Psb.τ Cert.Psb.sig) → Buf (Elt Bits) ℓ) : Prop :=
  True

def Pre_PsbIdeal (m : (ℓ : Loc Cert.PsbIdeal.nD Cert.PsbIdeal.τ Cert.PsbIdeal.sig) → Buf (Elt Ideal) ℓ) : Prop :=
  True

def Pre_PsbRefIdeal (m : (ℓ : Loc Cert.PsbRefIdeal.nD Cert.PsbRefIdeal.τ Cert.PsbRefIdeal.sig) → Buf (Elt Ideal) ℓ) : Prop :=
  True

def Pre_Pv (m : (ℓ : Loc Cert.Pv.nD Cert.Pv.τ Cert.Pv.sig) → Buf (Elt Bits) ℓ) : Prop :=
  True

def Pre_PvIdeal (m : (ℓ : Loc Cert.PvIdeal.nD Cert.PvIdeal.τ Cert.PvIdeal.sig) → Buf (Elt Ideal) ℓ) : Prop :=
  True

def Pre_PvRefIdeal (m : (ℓ : Loc Cert.PvRefIdeal.nD Cert.PvRefIdeal.τ Cert.PvRefIdeal.sig) → Buf (Elt Ideal) ℓ) : Prop :=
  True

def Pre_Pr (m : (ℓ : Loc Cert.Pr.nD Cert.Pr.τ Cert.Pr.sig) → Buf (Elt Bits) ℓ) : Prop :=
  True

def Pre_PrIdeal (m : (ℓ : Loc Cert.PrIdeal.nD Cert.PrIdeal.τ Cert.PrIdeal.sig) → Buf (Elt Ideal) ℓ) : Prop :=
  True

def Pre_PrRefIdeal (m : (ℓ : Loc Cert.PrRefIdeal.nD Cert.PrRefIdeal.τ Cert.PrRefIdeal.sig) → Buf (Elt Ideal) ℓ) : Prop :=
  True

def Pre_Pg (m : (ℓ : Loc Cert.Pg.nD Cert.Pg.τ Cert.Pg.sig) → Buf (Elt Bits) ℓ) : Prop :=
  True

def Pre_PgIdeal (m : (ℓ : Loc Cert.PgIdeal.nD Cert.PgIdeal.τ Cert.PgIdeal.sig) → Buf (Elt Ideal) ℓ) : Prop :=
  True

def Pre_PgRefIdeal (m : (ℓ : Loc Cert.PgRefIdeal.nD Cert.PgRefIdeal.τ Cert.PgRefIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaRefIdeal (m : (ℓ : Loc Cert.XaRefIdeal.nD Cert.XaRefIdeal.τ Cert.XaRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Psb [hPsb : Cert.Psb.Facts] : Prop :=
  ∀ (m : (ℓ : Loc Cert.Psb.nD Cert.Psb.τ Cert.Psb.sig) → Buf (Elt Bits) ℓ) (g : Dev Cert.Psb.nD → PrngReg), Pre_Psb m →
    θ_run (Cert.Psb.defs (F := Bits)) (onTc (τ := Cert.Psb.τ) (Cert.Psb.main (F := Bits))) ⟨m, fun _ => 0, g⟩ (fun r => (∀ c : Dev Cert.Psb.nD,
      r.2.mem ((c.tc : Thread Cert.Psb.nD Cert.Psb.τ).loc Cert.Psb.main_arg0) = m ((c.tc : Thread Cert.Psb.nD Cert.Psb.τ).loc Cert.Psb.main_arg0)
      ∧ r.2.mem ((c.tc : Thread Cert.Psb.nD Cert.Psb.τ).loc Cert.Psb.main_arg1) = m ((c.tc : Thread Cert.Psb.nD Cert.Psb.τ).loc Cert.Psb.main_arg1)
      ∧ r.2.mem ((c.tc : Thread Cert.Psb.nD Cert.Psb.τ).loc Cert.Psb.main_arg2) = m ((c.tc : Thread Cert.Psb.nD Cert.Psb.τ).loc Cert.Psb.main_arg2)
      ∧ r.2.mem ((c.tc : Thread Cert.Psb.nD Cert.Psb.τ).loc Cert.Psb.main_arg3) = m ((c.tc : Thread Cert.Psb.nD Cert.Psb.τ).loc Cert.Psb.main_arg3)
      ∧ r.2.mem ((c.tc : Thread Cert.Psb.nD Cert.Psb.τ).loc Cert.Psb.main_arg4) = m ((c.tc : Thread Cert.Psb.nD Cert.Psb.τ).loc Cert.Psb.main_arg4))
      ∧ r.2.sem = fun _ => 0)

def quiescent_PsbIdeal [hPsbIdeal : Cert.PsbIdeal.Facts] : Prop :=
  ∀ (m : (ℓ : Loc Cert.PsbIdeal.nD Cert.PsbIdeal.τ Cert.PsbIdeal.sig) → Buf (Elt Ideal) ℓ) (g : Dev Cert.PsbIdeal.nD → PrngReg), Pre_PsbIdeal m →
    θ_run (Cert.PsbIdeal.defs (F := Ideal)) (onTc (τ := Cert.PsbIdeal.τ) (Cert.PsbIdeal.main (F := Ideal))) ⟨m, fun _ => 0, g⟩ (fun r => (∀ c : Dev Cert.PsbIdeal.nD,
      r.2.mem ((c.tc : Thread Cert.PsbIdeal.nD Cert.PsbIdeal.τ).loc Cert.PsbIdeal.main_arg0) = m ((c.tc : Thread Cert.PsbIdeal.nD Cert.PsbIdeal.τ).loc Cert.PsbIdeal.main_arg0)
      ∧ r.2.mem ((c.tc : Thread Cert.PsbIdeal.nD Cert.PsbIdeal.τ).loc Cert.PsbIdeal.main_arg1) = m ((c.tc : Thread Cert.PsbIdeal.nD Cert.PsbIdeal.τ).loc Cert.PsbIdeal.main_arg1)
      ∧ r.2.mem ((c.tc : Thread Cert.PsbIdeal.nD Cert.PsbIdeal.τ).loc Cert.PsbIdeal.main_arg2) = m ((c.tc : Thread Cert.PsbIdeal.nD Cert.PsbIdeal.τ).loc Cert.PsbIdeal.main_arg2)
      ∧ r.2.mem ((c.tc : Thread Cert.PsbIdeal.nD Cert.PsbIdeal.τ).loc Cert.PsbIdeal.main_arg3) = m ((c.tc : Thread Cert.PsbIdeal.nD Cert.PsbIdeal.τ).loc Cert.PsbIdeal.main_arg3)
      ∧ r.2.mem ((c.tc : Thread Cert.PsbIdeal.nD Cert.PsbIdeal.τ).loc Cert.PsbIdeal.main_arg4) = m ((c.tc : Thread Cert.PsbIdeal.nD Cert.PsbIdeal.τ).loc Cert.PsbIdeal.main_arg4))
      ∧ r.2.sem = fun _ => 0)

def quiescent_PsbRefIdeal [hPsbRefIdeal : Cert.PsbRefIdeal.Facts] : Prop :=
  ∀ (m : (ℓ : Loc Cert.PsbRefIdeal.nD Cert.PsbRefIdeal.τ Cert.PsbRefIdeal.sig) → Buf (Elt Ideal) ℓ) (g : Dev Cert.PsbRefIdeal.nD → PrngReg), Pre_PsbRefIdeal m →
    θ_run (Cert.PsbRefIdeal.defs (F := Ideal)) (onTc (τ := Cert.PsbRefIdeal.τ) (Cert.PsbRefIdeal.main (F := Ideal))) ⟨m, fun _ => 0, g⟩ (fun r => (∀ c : Dev Cert.PsbRefIdeal.nD,
      r.2.mem ((c.tc : Thread Cert.PsbRefIdeal.nD Cert.PsbRefIdeal.τ).loc Cert.PsbRefIdeal.main_arg0) = m ((c.tc : Thread Cert.PsbRefIdeal.nD Cert.PsbRefIdeal.τ).loc Cert.PsbRefIdeal.main_arg0)
      ∧ r.2.mem ((c.tc : Thread Cert.PsbRefIdeal.nD Cert.PsbRefIdeal.τ).loc Cert.PsbRefIdeal.main_arg1) = m ((c.tc : Thread Cert.PsbRefIdeal.nD Cert.PsbRefIdeal.τ).loc Cert.PsbRefIdeal.main_arg1)
      ∧ r.2.mem ((c.tc : Thread Cert.PsbRefIdeal.nD Cert.PsbRefIdeal.τ).loc Cert.PsbRefIdeal.main_arg2) = m ((c.tc : Thread Cert.PsbRefIdeal.nD Cert.PsbRefIdeal.τ).loc Cert.PsbRefIdeal.main_arg2)
      ∧ r.2.mem ((c.tc : Thread Cert.PsbRefIdeal.nD Cert.PsbRefIdeal.τ).loc Cert.PsbRefIdeal.main_arg3) = m ((c.tc : Thread Cert.PsbRefIdeal.nD Cert.PsbRefIdeal.τ).loc Cert.PsbRefIdeal.main_arg3)
      ∧ r.2.mem ((c.tc : Thread Cert.PsbRefIdeal.nD Cert.PsbRefIdeal.τ).loc Cert.PsbRefIdeal.main_arg4) = m ((c.tc : Thread Cert.PsbRefIdeal.nD Cert.PsbRefIdeal.τ).loc Cert.PsbRefIdeal.main_arg4))
      ∧ r.2.sem = fun _ => 0)

def quiescent_Pv [hPv : Cert.Pv.Facts] : Prop :=
  ∀ (m : (ℓ : Loc Cert.Pv.nD Cert.Pv.τ Cert.Pv.sig) → Buf (Elt Bits) ℓ) (g : Dev Cert.Pv.nD → PrngReg), Pre_Pv m →
    θ_run (Cert.Pv.defs (F := Bits)) (onTc (τ := Cert.Pv.τ) (Cert.Pv.main (F := Bits))) ⟨m, fun _ => 0, g⟩ (fun r => (∀ c : Dev Cert.Pv.nD,
      r.2.mem ((c.tc : Thread Cert.Pv.nD Cert.Pv.τ).loc Cert.Pv.main_arg0) = m ((c.tc : Thread Cert.Pv.nD Cert.Pv.τ).loc Cert.Pv.main_arg0)
      ∧ r.2.mem ((c.tc : Thread Cert.Pv.nD Cert.Pv.τ).loc Cert.Pv.main_arg1) = m ((c.tc : Thread Cert.Pv.nD Cert.Pv.τ).loc Cert.Pv.main_arg1)
      ∧ r.2.mem ((c.tc : Thread Cert.Pv.nD Cert.Pv.τ).loc Cert.Pv.main_arg2) = m ((c.tc : Thread Cert.Pv.nD Cert.Pv.τ).loc Cert.Pv.main_arg2))
      ∧ r.2.sem = fun _ => 0)

def quiescent_PvIdeal [hPvIdeal : Cert.PvIdeal.Facts] : Prop :=
  ∀ (m : (ℓ : Loc Cert.PvIdeal.nD Cert.PvIdeal.τ Cert.PvIdeal.sig) → Buf (Elt Ideal) ℓ) (g : Dev Cert.PvIdeal.nD → PrngReg), Pre_PvIdeal m →
    θ_run (Cert.PvIdeal.defs (F := Ideal)) (onTc (τ := Cert.PvIdeal.τ) (Cert.PvIdeal.main (F := Ideal))) ⟨m, fun _ => 0, g⟩ (fun r => (∀ c : Dev Cert.PvIdeal.nD,
      r.2.mem ((c.tc : Thread Cert.PvIdeal.nD Cert.PvIdeal.τ).loc Cert.PvIdeal.main_arg0) = m ((c.tc : Thread Cert.PvIdeal.nD Cert.PvIdeal.τ).loc Cert.PvIdeal.main_arg0)
      ∧ r.2.mem ((c.tc : Thread Cert.PvIdeal.nD Cert.PvIdeal.τ).loc Cert.PvIdeal.main_arg1) = m ((c.tc : Thread Cert.PvIdeal.nD Cert.PvIdeal.τ).loc Cert.PvIdeal.main_arg1)
      ∧ r.2.mem ((c.tc : Thread Cert.PvIdeal.nD Cert.PvIdeal.τ).loc Cert.PvIdeal.main_arg2) = m ((c.tc : Thread Cert.PvIdeal.nD Cert.PvIdeal.τ).loc Cert.PvIdeal.main_arg2))
      ∧ r.2.sem = fun _ => 0)

def quiescent_PvRefIdeal [hPvRefIdeal : Cert.PvRefIdeal.Facts] : Prop :=
  ∀ (m : (ℓ : Loc Cert.PvRefIdeal.nD Cert.PvRefIdeal.τ Cert.PvRefIdeal.sig) → Buf (Elt Ideal) ℓ) (g : Dev Cert.PvRefIdeal.nD → PrngReg), Pre_PvRefIdeal m →
    θ_run (Cert.PvRefIdeal.defs (F := Ideal)) (onTc (τ := Cert.PvRefIdeal.τ) (Cert.PvRefIdeal.main (F := Ideal))) ⟨m, fun _ => 0, g⟩ (fun r => (∀ c : Dev Cert.PvRefIdeal.nD,
      r.2.mem ((c.tc : Thread Cert.PvRefIdeal.nD Cert.PvRefIdeal.τ).loc Cert.PvRefIdeal.main_arg0) = m ((c.tc : Thread Cert.PvRefIdeal.nD Cert.PvRefIdeal.τ).loc Cert.PvRefIdeal.main_arg0)
      ∧ r.2.mem ((c.tc : Thread Cert.PvRefIdeal.nD Cert.PvRefIdeal.τ).loc Cert.PvRefIdeal.main_arg1) = m ((c.tc : Thread Cert.PvRefIdeal.nD Cert.PvRefIdeal.τ).loc Cert.PvRefIdeal.main_arg1)
      ∧ r.2.mem ((c.tc : Thread Cert.PvRefIdeal.nD Cert.PvRefIdeal.τ).loc Cert.PvRefIdeal.main_arg2) = m ((c.tc : Thread Cert.PvRefIdeal.nD Cert.PvRefIdeal.τ).loc Cert.PvRefIdeal.main_arg2))
      ∧ r.2.sem = fun _ => 0)

def quiescent_Pr [hPr : Cert.Pr.Facts] : Prop :=
  ∀ (m : (ℓ : Loc Cert.Pr.nD Cert.Pr.τ Cert.Pr.sig) → Buf (Elt Bits) ℓ) (g : Dev Cert.Pr.nD → PrngReg), Pre_Pr m →
    θ_run (Cert.Pr.defs (F := Bits)) (onTc (τ := Cert.Pr.τ) (Cert.Pr.main (F := Bits))) ⟨m, fun _ => 0, g⟩ (fun r => (∀ c : Dev Cert.Pr.nD,
      r.2.mem ((c.tc : Thread Cert.Pr.nD Cert.Pr.τ).loc Cert.Pr.main_arg0) = m ((c.tc : Thread Cert.Pr.nD Cert.Pr.τ).loc Cert.Pr.main_arg0)
      ∧ r.2.mem ((c.tc : Thread Cert.Pr.nD Cert.Pr.τ).loc Cert.Pr.main_arg1) = m ((c.tc : Thread Cert.Pr.nD Cert.Pr.τ).loc Cert.Pr.main_arg1)
      ∧ r.2.mem ((c.tc : Thread Cert.Pr.nD Cert.Pr.τ).loc Cert.Pr.main_arg2) = m ((c.tc : Thread Cert.Pr.nD Cert.Pr.τ).loc Cert.Pr.main_arg2))
      ∧ r.2.sem = fun _ => 0)

def quiescent_PrIdeal [hPrIdeal : Cert.PrIdeal.Facts] : Prop :=
  ∀ (m : (ℓ : Loc Cert.PrIdeal.nD Cert.PrIdeal.τ Cert.PrIdeal.sig) → Buf (Elt Ideal) ℓ) (g : Dev Cert.PrIdeal.nD → PrngReg), Pre_PrIdeal m →
    θ_run (Cert.PrIdeal.defs (F := Ideal)) (onTc (τ := Cert.PrIdeal.τ) (Cert.PrIdeal.main (F := Ideal))) ⟨m, fun _ => 0, g⟩ (fun r => (∀ c : Dev Cert.PrIdeal.nD,
      r.2.mem ((c.tc : Thread Cert.PrIdeal.nD Cert.PrIdeal.τ).loc Cert.PrIdeal.main_arg0) = m ((c.tc : Thread Cert.PrIdeal.nD Cert.PrIdeal.τ).loc Cert.PrIdeal.main_arg0)
      ∧ r.2.mem ((c.tc : Thread Cert.PrIdeal.nD Cert.PrIdeal.τ).loc Cert.PrIdeal.main_arg1) = m ((c.tc : Thread Cert.PrIdeal.nD Cert.PrIdeal.τ).loc Cert.PrIdeal.main_arg1)
      ∧ r.2.mem ((c.tc : Thread Cert.PrIdeal.nD Cert.PrIdeal.τ).loc Cert.PrIdeal.main_arg2) = m ((c.tc : Thread Cert.PrIdeal.nD Cert.PrIdeal.τ).loc Cert.PrIdeal.main_arg2))
      ∧ r.2.sem = fun _ => 0)

def quiescent_PrRefIdeal [hPrRefIdeal : Cert.PrRefIdeal.Facts] : Prop :=
  ∀ (m : (ℓ : Loc Cert.PrRefIdeal.nD Cert.PrRefIdeal.τ Cert.PrRefIdeal.sig) → Buf (Elt Ideal) ℓ) (g : Dev Cert.PrRefIdeal.nD → PrngReg), Pre_PrRefIdeal m →
    θ_run (Cert.PrRefIdeal.defs (F := Ideal)) (onTc (τ := Cert.PrRefIdeal.τ) (Cert.PrRefIdeal.main (F := Ideal))) ⟨m, fun _ => 0, g⟩ (fun r => (∀ c : Dev Cert.PrRefIdeal.nD,
      r.2.mem ((c.tc : Thread Cert.PrRefIdeal.nD Cert.PrRefIdeal.τ).loc Cert.PrRefIdeal.main_arg0) = m ((c.tc : Thread Cert.PrRefIdeal.nD Cert.PrRefIdeal.τ).loc Cert.PrRefIdeal.main_arg0)
      ∧ r.2.mem ((c.tc : Thread Cert.PrRefIdeal.nD Cert.PrRefIdeal.τ).loc Cert.PrRefIdeal.main_arg1) = m ((c.tc : Thread Cert.PrRefIdeal.nD Cert.PrRefIdeal.τ).loc Cert.PrRefIdeal.main_arg1)
      ∧ r.2.mem ((c.tc : Thread Cert.PrRefIdeal.nD Cert.PrRefIdeal.τ).loc Cert.PrRefIdeal.main_arg2) = m ((c.tc : Thread Cert.PrRefIdeal.nD Cert.PrRefIdeal.τ).loc Cert.PrRefIdeal.main_arg2))
      ∧ r.2.sem = fun _ => 0)

def quiescent_Pg [hPg : Cert.Pg.Facts] : Prop :=
  ∀ (m : (ℓ : Loc Cert.Pg.nD Cert.Pg.τ Cert.Pg.sig) → Buf (Elt Bits) ℓ) (g : Dev Cert.Pg.nD → PrngReg), Pre_Pg m →
    θ_run (Cert.Pg.defs (F := Bits)) (onTc (τ := Cert.Pg.τ) (Cert.Pg.main (F := Bits))) ⟨m, fun _ => 0, g⟩ (fun r => (∀ c : Dev Cert.Pg.nD,
      r.2.mem ((c.tc : Thread Cert.Pg.nD Cert.Pg.τ).loc Cert.Pg.main_arg0) = m ((c.tc : Thread Cert.Pg.nD Cert.Pg.τ).loc Cert.Pg.main_arg0)
      ∧ r.2.mem ((c.tc : Thread Cert.Pg.nD Cert.Pg.τ).loc Cert.Pg.main_arg1) = m ((c.tc : Thread Cert.Pg.nD Cert.Pg.τ).loc Cert.Pg.main_arg1)
      ∧ r.2.mem ((c.tc : Thread Cert.Pg.nD Cert.Pg.τ).loc Cert.Pg.main_arg2) = m ((c.tc : Thread Cert.Pg.nD Cert.Pg.τ).loc Cert.Pg.main_arg2)
      ∧ r.2.mem ((c.tc : Thread Cert.Pg.nD Cert.Pg.τ).loc Cert.Pg.main_arg3) = m ((c.tc : Thread Cert.Pg.nD Cert.Pg.τ).loc Cert.Pg.main_arg3)
      ∧ r.2.mem ((c.tc : Thread Cert.Pg.nD Cert.Pg.τ).loc Cert.Pg.main_arg4) = m ((c.tc : Thread Cert.Pg.nD Cert.Pg.τ).loc Cert.Pg.main_arg4)
      ∧ r.2.mem ((c.tc : Thread Cert.Pg.nD Cert.Pg.τ).loc Cert.Pg.main_arg5) = m ((c.tc : Thread Cert.Pg.nD Cert.Pg.τ).loc Cert.Pg.main_arg5))
      ∧ r.2.sem = fun _ => 0)

def quiescent_PgIdeal [hPgIdeal : Cert.PgIdeal.Facts] : Prop :=
  ∀ (m : (ℓ : Loc Cert.PgIdeal.nD Cert.PgIdeal.τ Cert.PgIdeal.sig) → Buf (Elt Ideal) ℓ) (g : Dev Cert.PgIdeal.nD → PrngReg), Pre_PgIdeal m →
    θ_run (Cert.PgIdeal.defs (F := Ideal)) (onTc (τ := Cert.PgIdeal.τ) (Cert.PgIdeal.main (F := Ideal))) ⟨m, fun _ => 0, g⟩ (fun r => (∀ c : Dev Cert.PgIdeal.nD,
      r.2.mem ((c.tc : Thread Cert.PgIdeal.nD Cert.PgIdeal.τ).loc Cert.PgIdeal.main_arg0) = m ((c.tc : Thread Cert.PgIdeal.nD Cert.PgIdeal.τ).loc Cert.PgIdeal.main_arg0)
      ∧ r.2.mem ((c.tc : Thread Cert.PgIdeal.nD Cert.PgIdeal.τ).loc Cert.PgIdeal.main_arg1) = m ((c.tc : Thread Cert.PgIdeal.nD Cert.PgIdeal.τ).loc Cert.PgIdeal.main_arg1)
      ∧ r.2.mem ((c.tc : Thread Cert.PgIdeal.nD Cert.PgIdeal.τ).loc Cert.PgIdeal.main_arg2) = m ((c.tc : Thread Cert.PgIdeal.nD Cert.PgIdeal.τ).loc Cert.PgIdeal.main_arg2)
      ∧ r.2.mem ((c.tc : Thread Cert.PgIdeal.nD Cert.PgIdeal.τ).loc Cert.PgIdeal.main_arg3) = m ((c.tc : Thread Cert.PgIdeal.nD Cert.PgIdeal.τ).loc Cert.PgIdeal.main_arg3)
      ∧ r.2.mem ((c.tc : Thread Cert.PgIdeal.nD Cert.PgIdeal.τ).loc Cert.PgIdeal.main_arg4) = m ((c.tc : Thread Cert.PgIdeal.nD Cert.PgIdeal.τ).loc Cert.PgIdeal.main_arg4)
      ∧ r.2.mem ((c.tc : Thread Cert.PgIdeal.nD Cert.PgIdeal.τ).loc Cert.PgIdeal.main_arg5) = m ((c.tc : Thread Cert.PgIdeal.nD Cert.PgIdeal.τ).loc Cert.PgIdeal.main_arg5))
      ∧ r.2.sem = fun _ => 0)

def quiescent_PgRefIdeal [hPgRefIdeal : Cert.PgRefIdeal.Facts] : Prop :=
  ∀ (m : (ℓ : Loc Cert.PgRefIdeal.nD Cert.PgRefIdeal.τ Cert.PgRefIdeal.sig) → Buf (Elt Ideal) ℓ) (g : Dev Cert.PgRefIdeal.nD → PrngReg), Pre_PgRefIdeal m →
    θ_run (Cert.PgRefIdeal.defs (F := Ideal)) (onTc (τ := Cert.PgRefIdeal.τ) (Cert.PgRefIdeal.main (F := Ideal))) ⟨m, fun _ => 0, g⟩ (fun r => (∀ c : Dev Cert.PgRefIdeal.nD,
      r.2.mem ((c.tc : Thread Cert.PgRefIdeal.nD Cert.PgRefIdeal.τ).loc Cert.PgRefIdeal.main_arg0) = m ((c.tc : Thread Cert.PgRefIdeal.nD Cert.PgRefIdeal.τ).loc Cert.PgRefIdeal.main_arg0)
      ∧ r.2.mem ((c.tc : Thread Cert.PgRefIdeal.nD Cert.PgRefIdeal.τ).loc Cert.PgRefIdeal.main_arg1) = m ((c.tc : Thread Cert.PgRefIdeal.nD Cert.PgRefIdeal.τ).loc Cert.PgRefIdeal.main_arg1)
      ∧ r.2.mem ((c.tc : Thread Cert.PgRefIdeal.nD Cert.PgRefIdeal.τ).loc Cert.PgRefIdeal.main_arg2) = m ((c.tc : Thread Cert.PgRefIdeal.nD Cert.PgRefIdeal.τ).loc Cert.PgRefIdeal.main_arg2)
      ∧ r.2.mem ((c.tc : Thread Cert.PgRefIdeal.nD Cert.PgRefIdeal.τ).loc Cert.PgRefIdeal.main_arg3) = m ((c.tc : Thread Cert.PgRefIdeal.nD Cert.PgRefIdeal.τ).loc Cert.PgRefIdeal.main_arg3)
      ∧ r.2.mem ((c.tc : Thread Cert.PgRefIdeal.nD Cert.PgRefIdeal.τ).loc Cert.PgRefIdeal.main_arg4) = m ((c.tc : Thread Cert.PgRefIdeal.nD Cert.PgRefIdeal.τ).loc Cert.PgRefIdeal.main_arg4)
      ∧ r.2.mem ((c.tc : Thread Cert.PgRefIdeal.nD Cert.PgRefIdeal.τ).loc Cert.PgRefIdeal.main_arg5) = m ((c.tc : Thread Cert.PgRefIdeal.nD Cert.PgRefIdeal.τ).loc Cert.PgRefIdeal.main_arg5))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4)
      ∧ r.2.mem ((c.tc : Thread Cert.Xa.nD Cert.Xa.τ).loc Cert.Xa.main_arg5) = m ((c.tc : Thread Cert.Xa.nD Cert.Xa.τ).loc Cert.Xa.main_arg5)
      ∧ r.2.mem ((c.tc : Thread Cert.Xa.nD Cert.Xa.τ).loc Cert.Xa.main_arg6) = m ((c.tc : Thread Cert.Xa.nD Cert.Xa.τ).loc Cert.Xa.main_arg6))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2)
      ∧ r.2.mem ((c.tc : Thread Cert.Mkv.nD Cert.Mkv.τ).loc Cert.Mkv.main_arg3) = m ((c.tc : Thread Cert.Mkv.nD Cert.Mkv.τ).loc Cert.Mkv.main_arg3))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
      ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2)
      ∧ r.2.mem ((c.tc : Thread Cert.MkvRefIdeal.nD Cert.MkvRefIdeal.τ).loc Cert.MkvRefIdeal.main_arg3) = m ((c.tc : Thread Cert.MkvRefIdeal.nD Cert.MkvRefIdeal.τ).loc Cert.MkvRefIdeal.main_arg3))
      ∧ r.2.sem = fun _ => 0)

def preserves_Sb_SbIdeal : Prop :=
  True

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v27) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v41) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Psb_PsbIdeal : Prop :=
  True

def algebraic_PsbIdeal_PsbRefIdeal [hPsbIdeal : Cert.PsbIdeal.Facts] [hPsbRefIdeal : Cert.PsbRefIdeal.Facts] : Prop :=
  ∀ (m : (ℓ : Loc Cert.PsbIdeal.nD Cert.PsbIdeal.τ Cert.PsbIdeal.sig) → Buf (Elt Ideal) ℓ) (g : Dev Cert.PsbIdeal.nD → PrngReg)
    (m' : (ℓ : Loc Cert.PsbRefIdeal.nD Cert.PsbRefIdeal.τ Cert.PsbRefIdeal.sig) → Buf (Elt Ideal) ℓ) (g' : Dev Cert.PsbRefIdeal.nD → PrngReg), Pre_PsbIdeal m →
    (∀ c : Dev Cert.PsbIdeal.nD,
      m' ((c.tc : Thread Cert.PsbRefIdeal.nD Cert.PsbRefIdeal.τ).loc Cert.PsbRefIdeal.main_arg0) = m ((c.tc : Thread Cert.PsbIdeal.nD Cert.PsbIdeal.τ).loc Cert.PsbIdeal.main_arg0)
      ∧ m' ((c.tc : Thread Cert.PsbRefIdeal.nD Cert.PsbRefIdeal.τ).loc Cert.PsbRefIdeal.main_arg1) = m ((c.tc : Thread Cert.PsbIdeal.nD Cert.PsbIdeal.τ).loc Cert.PsbIdeal.main_arg1)
      ∧ m' ((c.tc : Thread Cert.PsbRefIdeal.nD Cert.PsbRefIdeal.τ).loc Cert.PsbRefIdeal.main_arg2) = m ((c.tc : Thread Cert.PsbIdeal.nD Cert.PsbIdeal.τ).loc Cert.PsbIdeal.main_arg2)
      ∧ m' ((c.tc : Thread Cert.PsbRefIdeal.nD Cert.PsbRefIdeal.τ).loc Cert.PsbRefIdeal.main_arg3) = m ((c.tc : Thread Cert.PsbIdeal.nD Cert.PsbIdeal.τ).loc Cert.PsbIdeal.main_arg3)
      ∧ m' ((c.tc : Thread Cert.PsbRefIdeal.nD Cert.PsbRefIdeal.τ).loc Cert.PsbRefIdeal.main_arg4) = m ((c.tc : Thread Cert.PsbIdeal.nD Cert.PsbIdeal.τ).loc Cert.PsbIdeal.main_arg4)) →
    ∃ (v0 : (c : Dev Cert.PsbIdeal.nD) → Buf (Elt Ideal) ((c.tc : Thread Cert.PsbIdeal.nD Cert.PsbIdeal.τ).loc Cert.PsbIdeal.main_v4_0)) (v1 : (c : Dev Cert.PsbIdeal.nD) → Buf (Elt Ideal) ((c.tc : Thread Cert.PsbIdeal.nD Cert.PsbIdeal.τ).loc Cert.PsbIdeal.main_v4_1)) (v2 : (c : Dev Cert.PsbIdeal.nD) → Buf (Elt Ideal) ((c.tc : Thread Cert.PsbIdeal.nD Cert.PsbIdeal.τ).loc Cert.PsbIdeal.main_v4_2)),
      θ_run (Cert.PsbIdeal.defs (F := Ideal)) (onTc (τ := Cert.PsbIdeal.τ) (Cert.PsbIdeal.main (F := Ideal))) ⟨m, fun _ => 0, g⟩ (fun r => ∀ c : Dev Cert.PsbIdeal.nD,
          r.2.mem ((c.tc : Thread Cert.PsbIdeal.nD Cert.PsbIdeal.τ).loc Cert.PsbIdeal.main_v4_0) = v0 c
          ∧ r.2.mem ((c.tc : Thread Cert.PsbIdeal.nD Cert.PsbIdeal.τ).loc Cert.PsbIdeal.main_v4_1) = v1 c
          ∧ r.2.mem ((c.tc : Thread Cert.PsbIdeal.nD Cert.PsbIdeal.τ).loc Cert.PsbIdeal.main_v4_2) = v2 c
          ∧ r.2.mem ((c.tc : Thread Cert.PsbIdeal.nD Cert.PsbIdeal.τ).loc Cert.PsbIdeal.main_arg0) = m ((c.tc : Thread Cert.PsbIdeal.nD Cert.PsbIdeal.τ).loc Cert.PsbIdeal.main_arg0)
          ∧ r.2.mem ((c.tc : Thread Cert.PsbIdeal.nD Cert.PsbIdeal.τ).loc Cert.PsbIdeal.main_arg1) = m ((c.tc : Thread Cert.PsbIdeal.nD Cert.PsbIdeal.τ).loc Cert.PsbIdeal.main_arg1)
          ∧ r.2.mem ((c.tc : Thread Cert.PsbIdeal.nD Cert.PsbIdeal.τ).loc Cert.PsbIdeal.main_arg2) = m ((c.tc : Thread Cert.PsbIdeal.nD Cert.PsbIdeal.τ).loc Cert.PsbIdeal.main_arg2)
          ∧ r.2.mem ((c.tc : Thread Cert.PsbIdeal.nD Cert.PsbIdeal.τ).loc Cert.PsbIdeal.main_arg3) = m ((c.tc : Thread Cert.PsbIdeal.nD Cert.PsbIdeal.τ).loc Cert.PsbIdeal.main_arg3)
          ∧ r.2.mem ((c.tc : Thread Cert.PsbIdeal.nD Cert.PsbIdeal.τ).loc Cert.PsbIdeal.main_arg4) = m ((c.tc : Thread Cert.PsbIdeal.nD Cert.PsbIdeal.τ).loc Cert.PsbIdeal.main_arg4))
      ∧ θ_run (Cert.PsbRefIdeal.defs (F := Ideal)) (onTc (τ := Cert.PsbRefIdeal.τ) (Cert.PsbRefIdeal.main (F := Ideal))) ⟨m', fun _ => 0, g'⟩ (fun r => ∀ c : Dev Cert.PsbRefIdeal.nD,
          r.2.mem ((c.tc : Thread Cert.PsbRefIdeal.nD Cert.PsbRefIdeal.τ).loc Cert.PsbRefIdeal.main_v49) = v0 c
          ∧ r.2.mem ((c.tc : Thread Cert.PsbRefIdeal.nD Cert.PsbRefIdeal.τ).loc Cert.PsbRefIdeal.main_v50) = v1 c
          ∧ r.2.mem ((c.tc : Thread Cert.PsbRefIdeal.nD Cert.PsbRefIdeal.τ).loc Cert.PsbRefIdeal.main_v51) = v2 c
          ∧ r.2.mem ((c.tc : Thread Cert.PsbRefIdeal.nD Cert.PsbRefIdeal.τ).loc Cert.PsbRefIdeal.main_arg0) = m' ((c.tc : Thread Cert.PsbRefIdeal.nD Cert.PsbRefIdeal.τ).loc Cert.PsbRefIdeal.main_arg0)
          ∧ r.2.mem ((c.tc : Thread Cert.PsbRefIdeal.nD Cert.PsbRefIdeal.τ).loc Cert.PsbRefIdeal.main_arg1) = m' ((c.tc : Thread Cert.PsbRefIdeal.nD Cert.PsbRefIdeal.τ).loc Cert.PsbRefIdeal.main_arg1)
          ∧ r.2.mem ((c.tc : Thread Cert.PsbRefIdeal.nD Cert.PsbRefIdeal.τ).loc Cert.PsbRefIdeal.main_arg2) = m' ((c.tc : Thread Cert.PsbRefIdeal.nD Cert.PsbRefIdeal.τ).loc Cert.PsbRefIdeal.main_arg2)
          ∧ r.2.mem ((c.tc : Thread Cert.PsbRefIdeal.nD Cert.PsbRefIdeal.τ).loc Cert.PsbRefIdeal.main_arg3) = m' ((c.tc : Thread Cert.PsbRefIdeal.nD Cert.PsbRefIdeal.τ).loc Cert.PsbRefIdeal.main_arg3)
          ∧ r.2.mem ((c.tc : Thread Cert.PsbRefIdeal.nD Cert.PsbRefIdeal.τ).loc Cert.PsbRefIdeal.main_arg4) = m' ((c.tc : Thread Cert.PsbRefIdeal.nD Cert.PsbRefIdeal.τ).loc Cert.PsbRefIdeal.main_arg4))

def preserves_Pv_PvIdeal : Prop :=
  True

def algebraic_PvIdeal_PvRefIdeal [hPvIdeal : Cert.PvIdeal.Facts] [hPvRefIdeal : Cert.PvRefIdeal.Facts] : Prop :=
  ∀ (m : (ℓ : Loc Cert.PvIdeal.nD Cert.PvIdeal.τ Cert.PvIdeal.sig) → Buf (Elt Ideal) ℓ) (g : Dev Cert.PvIdeal.nD → PrngReg)
    (m' : (ℓ : Loc Cert.PvRefIdeal.nD Cert.PvRefIdeal.τ Cert.PvRefIdeal.sig) → Buf (Elt Ideal) ℓ) (g' : Dev Cert.PvRefIdeal.nD → PrngReg), Pre_PvIdeal m →
    (∀ c : Dev Cert.PvIdeal.nD,
      m' ((c.tc : Thread Cert.PvRefIdeal.nD Cert.PvRefIdeal.τ).loc Cert.PvRefIdeal.main_arg0) = m ((c.tc : Thread Cert.PvIdeal.nD Cert.PvIdeal.τ).loc Cert.PvIdeal.main_arg0)
      ∧ m' ((c.tc : Thread Cert.PvRefIdeal.nD Cert.PvRefIdeal.τ).loc Cert.PvRefIdeal.main_arg1) = m ((c.tc : Thread Cert.PvIdeal.nD Cert.PvIdeal.τ).loc Cert.PvIdeal.main_arg1)
      ∧ m' ((c.tc : Thread Cert.PvRefIdeal.nD Cert.PvRefIdeal.τ).loc Cert.PvRefIdeal.main_arg2) = m ((c.tc : Thread Cert.PvIdeal.nD Cert.PvIdeal.τ).loc Cert.PvIdeal.main_arg2)) →
    ∃ (v0 : (c : Dev Cert.PvIdeal.nD) → Buf (Elt Ideal) ((c.tc : Thread Cert.PvIdeal.nD Cert.PvIdeal.τ).loc Cert.PvIdeal.main_v2)),
      θ_run (Cert.PvIdeal.defs (F := Ideal)) (onTc (τ := Cert.PvIdeal.τ) (Cert.PvIdeal.main (F := Ideal))) ⟨m, fun _ => 0, g⟩ (fun r => ∀ c : Dev Cert.PvIdeal.nD,
          r.2.mem ((c.tc : Thread Cert.PvIdeal.nD Cert.PvIdeal.τ).loc Cert.PvIdeal.main_v2) = v0 c
          ∧ r.2.mem ((c.tc : Thread Cert.PvIdeal.nD Cert.PvIdeal.τ).loc Cert.PvIdeal.main_arg0) = m ((c.tc : Thread Cert.PvIdeal.nD Cert.PvIdeal.τ).loc Cert.PvIdeal.main_arg0)
          ∧ r.2.mem ((c.tc : Thread Cert.PvIdeal.nD Cert.PvIdeal.τ).loc Cert.PvIdeal.main_arg1) = m ((c.tc : Thread Cert.PvIdeal.nD Cert.PvIdeal.τ).loc Cert.PvIdeal.main_arg1)
          ∧ r.2.mem ((c.tc : Thread Cert.PvIdeal.nD Cert.PvIdeal.τ).loc Cert.PvIdeal.main_arg2) = m ((c.tc : Thread Cert.PvIdeal.nD Cert.PvIdeal.τ).loc Cert.PvIdeal.main_arg2))
      ∧ θ_run (Cert.PvRefIdeal.defs (F := Ideal)) (onTc (τ := Cert.PvRefIdeal.τ) (Cert.PvRefIdeal.main (F := Ideal))) ⟨m', fun _ => 0, g'⟩ (fun r => ∀ c : Dev Cert.PvRefIdeal.nD,
          r.2.mem ((c.tc : Thread Cert.PvRefIdeal.nD Cert.PvRefIdeal.τ).loc Cert.PvRefIdeal.main_v14) = v0 c
          ∧ r.2.mem ((c.tc : Thread Cert.PvRefIdeal.nD Cert.PvRefIdeal.τ).loc Cert.PvRefIdeal.main_arg0) = m' ((c.tc : Thread Cert.PvRefIdeal.nD Cert.PvRefIdeal.τ).loc Cert.PvRefIdeal.main_arg0)
          ∧ r.2.mem ((c.tc : Thread Cert.PvRefIdeal.nD Cert.PvRefIdeal.τ).loc Cert.PvRefIdeal.main_arg1) = m' ((c.tc : Thread Cert.PvRefIdeal.nD Cert.PvRefIdeal.τ).loc Cert.PvRefIdeal.main_arg1)
          ∧ r.2.mem ((c.tc : Thread Cert.PvRefIdeal.nD Cert.PvRefIdeal.τ).loc Cert.PvRefIdeal.main_arg2) = m' ((c.tc : Thread Cert.PvRefIdeal.nD Cert.PvRefIdeal.τ).loc Cert.PvRefIdeal.main_arg2))

def preserves_Pr_PrIdeal : Prop :=
  True

def algebraic_PrIdeal_PrRefIdeal [hPrIdeal : Cert.PrIdeal.Facts] [hPrRefIdeal : Cert.PrRefIdeal.Facts] : Prop :=
  ∀ (m : (ℓ : Loc Cert.PrIdeal.nD Cert.PrIdeal.τ Cert.PrIdeal.sig) → Buf (Elt Ideal) ℓ) (g : Dev Cert.PrIdeal.nD → PrngReg)
    (m' : (ℓ : Loc Cert.PrRefIdeal.nD Cert.PrRefIdeal.τ Cert.PrRefIdeal.sig) → Buf (Elt Ideal) ℓ) (g' : Dev Cert.PrRefIdeal.nD → PrngReg), Pre_PrIdeal m →
    (∀ c : Dev Cert.PrIdeal.nD,
      m' ((c.tc : Thread Cert.PrRefIdeal.nD Cert.PrRefIdeal.τ).loc Cert.PrRefIdeal.main_arg0) = m ((c.tc : Thread Cert.PrIdeal.nD Cert.PrIdeal.τ).loc Cert.PrIdeal.main_arg0)
      ∧ m' ((c.tc : Thread Cert.PrRefIdeal.nD Cert.PrRefIdeal.τ).loc Cert.PrRefIdeal.main_arg1) = m ((c.tc : Thread Cert.PrIdeal.nD Cert.PrIdeal.τ).loc Cert.PrIdeal.main_arg1)
      ∧ m' ((c.tc : Thread Cert.PrRefIdeal.nD Cert.PrRefIdeal.τ).loc Cert.PrRefIdeal.main_arg2) = m ((c.tc : Thread Cert.PrIdeal.nD Cert.PrIdeal.τ).loc Cert.PrIdeal.main_arg2)) →
    ∃ (v0 : (c : Dev Cert.PrIdeal.nD) → Buf (Elt Ideal) ((c.tc : Thread Cert.PrIdeal.nD Cert.PrIdeal.τ).loc Cert.PrIdeal.main_v2)),
      θ_run (Cert.PrIdeal.defs (F := Ideal)) (onTc (τ := Cert.PrIdeal.τ) (Cert.PrIdeal.main (F := Ideal))) ⟨m, fun _ => 0, g⟩ (fun r => ∀ c : Dev Cert.PrIdeal.nD,
          r.2.mem ((c.tc : Thread Cert.PrIdeal.nD Cert.PrIdeal.τ).loc Cert.PrIdeal.main_v2) = v0 c
          ∧ r.2.mem ((c.tc : Thread Cert.PrIdeal.nD Cert.PrIdeal.τ).loc Cert.PrIdeal.main_arg0) = m ((c.tc : Thread Cert.PrIdeal.nD Cert.PrIdeal.τ).loc Cert.PrIdeal.main_arg0)
          ∧ r.2.mem ((c.tc : Thread Cert.PrIdeal.nD Cert.PrIdeal.τ).loc Cert.PrIdeal.main_arg1) = m ((c.tc : Thread Cert.PrIdeal.nD Cert.PrIdeal.τ).loc Cert.PrIdeal.main_arg1)
          ∧ r.2.mem ((c.tc : Thread Cert.PrIdeal.nD Cert.PrIdeal.τ).loc Cert.PrIdeal.main_arg2) = m ((c.tc : Thread Cert.PrIdeal.nD Cert.PrIdeal.τ).loc Cert.PrIdeal.main_arg2))
      ∧ θ_run (Cert.PrRefIdeal.defs (F := Ideal)) (onTc (τ := Cert.PrRefIdeal.τ) (Cert.PrRefIdeal.main (F := Ideal))) ⟨m', fun _ => 0, g'⟩ (fun r => ∀ c : Dev Cert.PrRefIdeal.nD,
          r.2.mem ((c.tc : Thread Cert.PrRefIdeal.nD Cert.PrRefIdeal.τ).loc Cert.PrRefIdeal.main_v15) = v0 c
          ∧ r.2.mem ((c.tc : Thread Cert.PrRefIdeal.nD Cert.PrRefIdeal.τ).loc Cert.PrRefIdeal.main_arg0) = m' ((c.tc : Thread Cert.PrRefIdeal.nD Cert.PrRefIdeal.τ).loc Cert.PrRefIdeal.main_arg0)
          ∧ r.2.mem ((c.tc : Thread Cert.PrRefIdeal.nD Cert.PrRefIdeal.τ).loc Cert.PrRefIdeal.main_arg1) = m' ((c.tc : Thread Cert.PrRefIdeal.nD Cert.PrRefIdeal.τ).loc Cert.PrRefIdeal.main_arg1)
          ∧ r.2.mem ((c.tc : Thread Cert.PrRefIdeal.nD Cert.PrRefIdeal.τ).loc Cert.PrRefIdeal.main_arg2) = m' ((c.tc : Thread Cert.PrRefIdeal.nD Cert.PrRefIdeal.τ).loc Cert.PrRefIdeal.main_arg2))

def preserves_Pg_PgIdeal : Prop :=
  True

def algebraic_PgIdeal_PgRefIdeal [hPgIdeal : Cert.PgIdeal.Facts] [hPgRefIdeal : Cert.PgRefIdeal.Facts] : Prop :=
  ∀ (m : (ℓ : Loc Cert.PgIdeal.nD Cert.PgIdeal.τ Cert.PgIdeal.sig) → Buf (Elt Ideal) ℓ) (g : Dev Cert.PgIdeal.nD → PrngReg)
    (m' : (ℓ : Loc Cert.PgRefIdeal.nD Cert.PgRefIdeal.τ Cert.PgRefIdeal.sig) → Buf (Elt Ideal) ℓ) (g' : Dev Cert.PgRefIdeal.nD → PrngReg), Pre_PgIdeal m →
    (∀ c : Dev Cert.PgIdeal.nD,
      m' ((c.tc : Thread Cert.PgRefIdeal.nD Cert.PgRefIdeal.τ).loc Cert.PgRefIdeal.main_arg0) = m ((c.tc : Thread Cert.PgIdeal.nD Cert.PgIdeal.τ).loc Cert.PgIdeal.main_arg0)
      ∧ m' ((c.tc : Thread Cert.PgRefIdeal.nD Cert.PgRefIdeal.τ).loc Cert.PgRefIdeal.main_arg1) = m ((c.tc : Thread Cert.PgIdeal.nD Cert.PgIdeal.τ).loc Cert.PgIdeal.main_arg1)
      ∧ m' ((c.tc : Thread Cert.PgRefIdeal.nD Cert.PgRefIdeal.τ).loc Cert.PgRefIdeal.main_arg2) = m ((c.tc : Thread Cert.PgIdeal.nD Cert.PgIdeal.τ).loc Cert.PgIdeal.main_arg2)
      ∧ m' ((c.tc : Thread Cert.PgRefIdeal.nD Cert.PgRefIdeal.τ).loc Cert.PgRefIdeal.main_arg3) = m ((c.tc : Thread Cert.PgIdeal.nD Cert.PgIdeal.τ).loc Cert.PgIdeal.main_arg3)
      ∧ m' ((c.tc : Thread Cert.PgRefIdeal.nD Cert.PgRefIdeal.τ).loc Cert.PgRefIdeal.main_arg4) = m ((c.tc : Thread Cert.PgIdeal.nD Cert.PgIdeal.τ).loc Cert.PgIdeal.main_arg4)
      ∧ m' ((c.tc : Thread Cert.PgRefIdeal.nD Cert.PgRefIdeal.τ).loc Cert.PgRefIdeal.main_arg5) = m ((c.tc : Thread Cert.PgIdeal.nD Cert.PgIdeal.τ).loc Cert.PgIdeal.main_arg5)) →
    ∃ (v0 : (c : Dev Cert.PgIdeal.nD) → Buf (Elt Ideal) ((c.tc : Thread Cert.PgIdeal.nD Cert.PgIdeal.τ).loc Cert.PgIdeal.main_v8_0)) (v1 : (c : Dev Cert.PgIdeal.nD) → Buf (Elt Ideal) ((c.tc : Thread Cert.PgIdeal.nD Cert.PgIdeal.τ).loc Cert.PgIdeal.main_v8_1)) (v2 : (c : Dev Cert.PgIdeal.nD) → Buf (Elt Ideal) ((c.tc : Thread Cert.PgIdeal.nD Cert.PgIdeal.τ).loc Cert.PgIdeal.main_v8_2)),
      θ_run (Cert.PgIdeal.defs (F := Ideal)) (onTc (τ := Cert.PgIdeal.τ) (Cert.PgIdeal.main (F := Ideal))) ⟨m, fun _ => 0, g⟩ (fun r => ∀ c : Dev Cert.PgIdeal.nD,
          r.2.mem ((c.tc : Thread Cert.PgIdeal.nD Cert.PgIdeal.τ).loc Cert.PgIdeal.main_v8_0) = v0 c
          ∧ r.2.mem ((c.tc : Thread Cert.PgIdeal.nD Cert.PgIdeal.τ).loc Cert.PgIdeal.main_v8_1) = v1 c
          ∧ r.2.mem ((c.tc : Thread Cert.PgIdeal.nD Cert.PgIdeal.τ).loc Cert.PgIdeal.main_v8_2) = v2 c
          ∧ r.2.mem ((c.tc : Thread Cert.PgIdeal.nD Cert.PgIdeal.τ).loc Cert.PgIdeal.main_arg0) = m ((c.tc : Thread Cert.PgIdeal.nD Cert.PgIdeal.τ).loc Cert.PgIdeal.main_arg0)
          ∧ r.2.mem ((c.tc : Thread Cert.PgIdeal.nD Cert.PgIdeal.τ).loc Cert.PgIdeal.main_arg1) = m ((c.tc : Thread Cert.PgIdeal.nD Cert.PgIdeal.τ).loc Cert.PgIdeal.main_arg1)
          ∧ r.2.mem ((c.tc : Thread Cert.PgIdeal.nD Cert.PgIdeal.τ).loc Cert.PgIdeal.main_arg2) = m ((c.tc : Thread Cert.PgIdeal.nD Cert.PgIdeal.τ).loc Cert.PgIdeal.main_arg2)
          ∧ r.2.mem ((c.tc : Thread Cert.PgIdeal.nD Cert.PgIdeal.τ).loc Cert.PgIdeal.main_arg3) = m ((c.tc : Thread Cert.PgIdeal.nD Cert.PgIdeal.τ).loc Cert.PgIdeal.main_arg3)
          ∧ r.2.mem ((c.tc : Thread Cert.PgIdeal.nD Cert.PgIdeal.τ).loc Cert.PgIdeal.main_arg4) = m ((c.tc : Thread Cert.PgIdeal.nD Cert.PgIdeal.τ).loc Cert.PgIdeal.main_arg4)
          ∧ r.2.mem ((c.tc : Thread Cert.PgIdeal.nD Cert.PgIdeal.τ).loc Cert.PgIdeal.main_arg5) = m ((c.tc : Thread Cert.PgIdeal.nD Cert.PgIdeal.τ).loc Cert.PgIdeal.main_arg5))
      ∧ θ_run (Cert.PgRefIdeal.defs (F := Ideal)) (onTc (τ := Cert.PgRefIdeal.τ) (Cert.PgRefIdeal.main (F := Ideal))) ⟨m', fun _ => 0, g'⟩ (fun r => ∀ c : Dev Cert.PgRefIdeal.nD,
          r.2.mem ((c.tc : Thread Cert.PgRefIdeal.nD Cert.PgRefIdeal.τ).loc Cert.PgRefIdeal.main_v25) = v0 c
          ∧ r.2.mem ((c.tc : Thread Cert.PgRefIdeal.nD Cert.PgRefIdeal.τ).loc Cert.PgRefIdeal.main_v15) = v1 c
          ∧ r.2.mem ((c.tc : Thread Cert.PgRefIdeal.nD Cert.PgRefIdeal.τ).loc Cert.PgRefIdeal.main_v23) = v2 c
          ∧ r.2.mem ((c.tc : Thread Cert.PgRefIdeal.nD Cert.PgRefIdeal.τ).loc Cert.PgRefIdeal.main_arg0) = m' ((c.tc : Thread Cert.PgRefIdeal.nD Cert.PgRefIdeal.τ).loc Cert.PgRefIdeal.main_arg0)
          ∧ r.2.mem ((c.tc : Thread Cert.PgRefIdeal.nD Cert.PgRefIdeal.τ).loc Cert.PgRefIdeal.main_arg1) = m' ((c.tc : Thread Cert.PgRefIdeal.nD Cert.PgRefIdeal.τ).loc Cert.PgRefIdeal.main_arg1)
          ∧ r.2.mem ((c.tc : Thread Cert.PgRefIdeal.nD Cert.PgRefIdeal.τ).loc Cert.PgRefIdeal.main_arg2) = m' ((c.tc : Thread Cert.PgRefIdeal.nD Cert.PgRefIdeal.τ).loc Cert.PgRefIdeal.main_arg2)
          ∧ r.2.mem ((c.tc : Thread Cert.PgRefIdeal.nD Cert.PgRefIdeal.τ).loc Cert.PgRefIdeal.main_arg3) = m' ((c.tc : Thread Cert.PgRefIdeal.nD Cert.PgRefIdeal.τ).loc Cert.PgRefIdeal.main_arg3)
          ∧ r.2.mem ((c.tc : Thread Cert.PgRefIdeal.nD Cert.PgRefIdeal.τ).loc Cert.PgRefIdeal.main_arg4) = m' ((c.tc : Thread Cert.PgRefIdeal.nD Cert.PgRefIdeal.τ).loc Cert.PgRefIdeal.main_arg4)
          ∧ r.2.mem ((c.tc : Thread Cert.PgRefIdeal.nD Cert.PgRefIdeal.τ).loc Cert.PgRefIdeal.main_arg5) = m' ((c.tc : Thread Cert.PgRefIdeal.nD Cert.PgRefIdeal.τ).loc Cert.PgRefIdeal.main_arg5))

def preserves_Xa_XaIdeal : Prop :=
  True

def algebraic_XaIdeal_XaRefIdeal [hXaIdeal : Cert.XaIdeal.Facts] [hXaRefIdeal : Cert.XaRefIdeal.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)
      ∧ m' ((c.tc : Thread Cert.XaRefIdeal.nD Cert.XaRefIdeal.τ).loc Cert.XaRefIdeal.main_arg3) = m ((c.tc : Thread Cert.XaIdeal.nD Cert.XaIdeal.τ).loc Cert.XaIdeal.main_arg3)
      ∧ m' ((c.tc : Thread Cert.XaRefIdeal.nD Cert.XaRefIdeal.τ).loc Cert.XaRefIdeal.main_arg4) = m ((c.tc : Thread Cert.XaIdeal.nD Cert.XaIdeal.τ).loc Cert.XaIdeal.main_arg4)
      ∧ m' ((c.tc : Thread Cert.XaRefIdeal.nD Cert.XaRefIdeal.τ).loc Cert.XaRefIdeal.main_arg5) = m ((c.tc : Thread Cert.XaIdeal.nD Cert.XaIdeal.τ).loc Cert.XaIdeal.main_arg5)
      ∧ m' ((c.tc : Thread Cert.XaRefIdeal.nD Cert.XaRefIdeal.τ).loc Cert.XaRefIdeal.main_arg6) = m ((c.tc : Thread Cert.XaIdeal.nD Cert.XaIdeal.τ).loc Cert.XaIdeal.main_arg6)) →
    ∃ (v0 : (c : Dev Cert.XaIdeal.nD) → Buf (Elt Ideal) ((c.tc : Thread Cert.XaIdeal.nD Cert.XaIdeal.τ).loc Cert.XaIdeal.main_v4)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v4) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
          ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
          ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v53) = v0 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4)
          ∧ r.2.mem ((c.tc : Thread Cert.XaRefIdeal.nD Cert.XaRefIdeal.τ).loc Cert.XaRefIdeal.main_arg5) = m' ((c.tc : Thread Cert.XaRefIdeal.nD Cert.XaRefIdeal.τ).loc Cert.XaRefIdeal.main_arg5)
          ∧ r.2.mem ((c.tc : Thread Cert.XaRefIdeal.nD Cert.XaRefIdeal.τ).loc Cert.XaRefIdeal.main_arg6) = m' ((c.tc : Thread Cert.XaRefIdeal.nD Cert.XaRefIdeal.τ).loc Cert.XaRefIdeal.main_arg6))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)
      ∧ m' ((c.tc : Thread Cert.MkvRefIdeal.nD Cert.MkvRefIdeal.τ).loc Cert.MkvRefIdeal.main_arg3) = m ((c.tc : Thread Cert.MkvIdeal.nD Cert.MkvIdeal.τ).loc Cert.MkvIdeal.main_arg3)) →
    ∃ (v0 : (c : Dev Cert.MkvIdeal.nD) → Buf (Elt Ideal) ((c.tc : Thread Cert.MkvIdeal.nD Cert.MkvIdeal.τ).loc Cert.MkvIdeal.main_v3_0)) (v1 : (c : Dev Cert.MkvIdeal.nD) → Buf (Elt Ideal) ((c.tc : Thread Cert.MkvIdeal.nD Cert.MkvIdeal.τ).loc Cert.MkvIdeal.main_v3_1)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v3_0) = v0 c
          ∧ r.2.mem ((c.tc : Thread Cert.MkvIdeal.nD Cert.MkvIdeal.τ).loc Cert.MkvIdeal.main_v3_1) = v1 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
          ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v31) = v0 c
          ∧ r.2.mem ((c.tc : Thread Cert.MkvRefIdeal.nD Cert.MkvRefIdeal.τ).loc Cert.MkvRefIdeal.main_v32) = v1 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2)
          ∧ r.2.mem ((c.tc : Thread Cert.MkvRefIdeal.nD Cert.MkvRefIdeal.τ).loc Cert.MkvRefIdeal.main_arg3) = m' ((c.tc : Thread Cert.MkvRefIdeal.nD Cert.MkvRefIdeal.τ).loc Cert.MkvRefIdeal.main_arg3))

def Claim : Prop :=
  ∃ (hSb : Cert.Sb.Facts) (hSbIdeal : Cert.SbIdeal.Facts) (hSbRefIdeal : Cert.SbRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hOut : Cert.Out.Facts) (hOutIdeal : Cert.OutIdeal.Facts) (hOutRefIdeal : Cert.OutRefIdeal.Facts) (hPsb : Cert.Psb.Facts) (hPsbIdeal : Cert.PsbIdeal.Facts) (hPsbRefIdeal : Cert.PsbRefIdeal.Facts) (hPv : Cert.Pv.Facts) (hPvIdeal : Cert.PvIdeal.Facts) (hPvRefIdeal : Cert.PvRefIdeal.Facts) (hPr : Cert.Pr.Facts) (hPrIdeal : Cert.PrIdeal.Facts) (hPrRefIdeal : Cert.PrRefIdeal.Facts) (hPg : Cert.Pg.Facts) (hPgIdeal : Cert.PgIdeal.Facts) (hPgRefIdeal : Cert.PgRefIdeal.Facts) (hXa : Cert.Xa.Facts) (hXaIdeal : Cert.XaIdeal.Facts) (hXaRefIdeal : Cert.XaRefIdeal.Facts) (hMkv : Cert.Mkv.Facts) (hMkvIdeal : Cert.MkvIdeal.Facts) (hMkvRefIdeal : Cert.MkvRefIdeal.Facts),
    quiescent_Sb (hSb := hSb)
    ∧ quiescent_SbIdeal (hSbIdeal := hSbIdeal)
    ∧ quiescent_SbRefIdeal (hSbRefIdeal := hSbRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Out (hOut := hOut)
    ∧ quiescent_OutIdeal (hOutIdeal := hOutIdeal)
    ∧ quiescent_OutRefIdeal (hOutRefIdeal := hOutRefIdeal)
    ∧ quiescent_Psb (hPsb := hPsb)
    ∧ quiescent_PsbIdeal (hPsbIdeal := hPsbIdeal)
    ∧ quiescent_PsbRefIdeal (hPsbRefIdeal := hPsbRefIdeal)
    ∧ quiescent_Pv (hPv := hPv)
    ∧ quiescent_PvIdeal (hPvIdeal := hPvIdeal)
    ∧ quiescent_PvRefIdeal (hPvRefIdeal := hPvRefIdeal)
    ∧ quiescent_Pr (hPr := hPr)
    ∧ quiescent_PrIdeal (hPrIdeal := hPrIdeal)
    ∧ quiescent_PrRefIdeal (hPrRefIdeal := hPrRefIdeal)
    ∧ quiescent_Pg (hPg := hPg)
    ∧ quiescent_PgIdeal (hPgIdeal := hPgIdeal)
    ∧ quiescent_PgRefIdeal (hPgRefIdeal := hPgRefIdeal)
    ∧ quiescent_Xa (hXa := hXa)
    ∧ quiescent_XaIdeal (hXaIdeal := hXaIdeal)
    ∧ quiescent_XaRefIdeal (hXaRefIdeal := hXaRefIdeal)
    ∧ quiescent_Mkv (hMkv := hMkv)
    ∧ quiescent_MkvIdeal (hMkvIdeal := hMkvIdeal)
    ∧ quiescent_MkvRefIdeal (hMkvRefIdeal := hMkvRefIdeal)
    ∧ preserves_Sb_SbIdeal
    ∧ algebraic_SbIdeal_SbRefIdeal (hSbIdeal := hSbIdeal) (hSbRefIdeal := hSbRefIdeal)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Out_OutIdeal
    ∧ algebraic_OutIdeal_OutRefIdeal (hOutIdeal := hOutIdeal) (hOutRefIdeal := hOutRefIdeal)
    ∧ preserves_Psb_PsbIdeal
    ∧ algebraic_PsbIdeal_PsbRefIdeal (hPsbIdeal := hPsbIdeal) (hPsbRefIdeal := hPsbRefIdeal)
    ∧ preserves_Pv_PvIdeal
    ∧ algebraic_PvIdeal_PvRefIdeal (hPvIdeal := hPvIdeal) (hPvRefIdeal := hPvRefIdeal)
    ∧ preserves_Pr_PrIdeal
    ∧ algebraic_PrIdeal_PrRefIdeal (hPrIdeal := hPrIdeal) (hPrRefIdeal := hPrRefIdeal)
    ∧ preserves_Pg_PgIdeal
    ∧ algebraic_PgIdeal_PgRefIdeal (hPgIdeal := hPgIdeal) (hPgRefIdeal := hPgRefIdeal)
    ∧ preserves_Xa_XaIdeal
    ∧ algebraic_XaIdeal_XaRefIdeal (hXaIdeal := hXaIdeal) (hXaRefIdeal := hXaRefIdeal)
    ∧ preserves_Mkv_MkvIdeal
    ∧ algebraic_MkvIdeal_MkvRefIdeal (hMkvIdeal := hMkvIdeal) (hMkvRefIdeal := hMkvRefIdeal)
-- ==== Sb.lean ====
abbrev S2x16384x512 : Shape := ⟨3, ![2, 16384, 512]⟩
abbrev S1x256x128 : Shape := ⟨3, ![1, 256, 128]⟩
abbrev S1x16384x128 : Shape := ⟨3, ![1, 16384, 128]⟩
abbrev S256x128 : Shape := ⟨2, ![256, 128]⟩
abbrev S256x1 : Shape := ⟨2, ![256, 1]⟩
abbrev S256x256 : Shape := ⟨2, ![256, 256]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x128, .f32⟩
  | .local _ .vmem, ⟨9, _⟩ => ⟨S256x1, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 64], ![false, false, false]⟩

@[reducible] def k0_t1_loop (i : grid0.Coords) : Scf.Loop 32 :=
  let c0_i32_7 : BitVec 32 := 0#32
  let arg2 : BitVec 32 := BitVec.ofNat 32 (i 2).val
  let c1_i32 : BitVec 32 := 1#32
  let v16 : BitVec 32 := Scalar.addi arg2 c1_i32
  let v17 : BitVec 32 := Scalar.subi v16 c0_i32_7
  let c1_i32_8 : BitVec 32 := 1#32
  let v19 : BitVec 32 := Scalar.divsi v17 c1_i32_8
  let v20 : BitVec 32 := Scalar.muli v19 c1_i32_8
  let v21 : BitVec 32 := Scalar.addi c0_i32_7 v20
  let c1_i32_9 : BitVec 32 := 1#32
  ⟨c0_i32_7, v21, c1_i32_9⟩
def k0_mult1 (i : grid0.Coords) (k0_t1 : Fin (k0_t1_loop i).trips) : BitVec 32 :=
  let arg2 : BitVec 32 := BitVec.ofNat 32 (i 2).val
  let c0_i32_7 : BitVec 32 := 0#32
  let c1_i32_9 : BitVec 32 := 1#32
  let arg9 : BitVec 32 := Scf.iv c0_i32_7 c1_i32_9 k0_t1
  let v27 : BitVec 32 := Scalar.subi arg2 arg9
  let c256_i32 : BitVec 32 := 256#32
  let v28 : BitVec 32 := Scalar.muli v27 c256_i32
  v28
def k0_off1 (i : grid0.Coords) (k0_t1 : Fin (k0_t1_loop i).trips) : Fin 3 → Nat :=
  let c0_16 : Index := 0#32
  let arg2 : BitVec 32 := BitVec.ofNat 32 (i 2).val
  let c0_i32_7 : BitVec 32 := 0#32
  let c1_i32_9 : BitVec 32 := 1#32
  let arg9 : BitVec 32 := Scf.iv c0_i32_7 c1_i32_9 k0_t1
  let v27 : BitVec 32 := Scalar.subi arg2 arg9
  let c256_i32 : BitVec 32 := 256#32
  let v28 : BitVec 32 := Scalar.muli v27 c256_i32
  let v29 : BitVec 32 := v28
  let v30 : Index := Scalar.indexCast v29
  let c0_17 : Index := 0#32
  ![0, v30.toNat, 0]
@[reducible] def k0_t2_loop (i : grid0.Coords) : Scf.Loop 32 :=
  let c0_i32_7 : BitVec 32 := 0#32
  let arg2 : BitVec 32 := BitVec.ofNat 32 (i 2).val
  let c1_i32 : BitVec 32 := 1#32
  let v16 : BitVec 32 := Scalar.addi arg2 c1_i32
  let v17 : BitVec 32 := Scalar.subi v16 c0_i32_7
  let c1_i32_8 : BitVec 32 := 1#32
  let v19 : BitVec 32 := Scalar.divsi v17 c1_i32_8
  let v20 : BitVec 32 := Scalar.muli v19 c1_i32_8
  let v21 : BitVec 32 := Scalar.addi c0_i32_7 v20
  let v18 : BitVec 32 := Scalar.addi c0_i32_7 v17
  let c1_i32_10 : BitVec 32 := 1#32
  ⟨v21, v18, c1_i32_10⟩
def k0_mult2 (i : grid0.Coords) (k0_t2 : Fin (k0_t2_loop i).trips) : BitVec 32 :=
  let arg2 : BitVec 32 := BitVec.ofNat 32 (i 2).val
  let c0_i32_7 : BitVec 32 := 0#32
  let c1_i32 : BitVec 32 := 1#32
  let v16 : BitVec 32 := Scalar.addi arg2 c1_i32
  let v17 : BitVec 32 := Scalar.subi v16 c0_i32_7
  let c1_i32_8 : BitVec 32 := 1#32
  let v19 : BitVec 32 := Scalar.divsi v17 c1_i32_8
  let v20 : BitVec 32 := Scalar.muli v19 c1_i32_8
  let v21 : BitVec 32 := Scalar.addi c0_i32_7 v20
  let c1_i32_10 : BitVec 32 := 1#32
  let arg9 : BitVec 32 := Scf.iv v21 c1_i32_10 k0_t2
  let v27 : BitVec 32 := Scalar.subi arg2 arg9
  let c256_i32 : BitVec 32 := 256#32
  let v28 : BitVec 32 := Scalar.muli v27 c256_i32
  v28
def k0_off2 (i : grid0.Coords) (k0_t2 : Fin (k0_t2_loop i).trips) : Fin 3 → Nat :=
  let c0_16 : Index := 0#32
  let arg2 : BitVec 32 := BitVec.ofNat 32 (i 2).val
  let c0_i32_7 : BitVec 32 := 0#32
  let c1_i32 : BitVec 32 := 1#32
  let v16 : BitVec 32 := Scalar.addi arg2 c1_i32
  let v17 : BitVec 32 := Scalar.subi v16 c0_i32_7
  let c1_i32_8 : BitVec 32 := 1#32
  let v19 : BitVec 32 := Scalar.divsi v17 c1_i32_8
  let v20 : BitVec 32 := Scalar.muli v19 c1_i32_8
  let v21 : BitVec 32 := Scalar.addi c0_i32_7 v20
  let c1_i32_10 : BitVec 32 := 1#32
  let arg9 : BitVec 32 := Scf.iv v21 c1_i32_10 k0_t2
  let v27 : BitVec 32 := Scalar.subi arg2 arg9
  let c256_i32 : BitVec 32 := 256#32
  let v28 : BitVec 32 := Scalar.muli v27 c256_i32
  let v29 : BitVec 32 := v28
  let v30 : Index := Scalar.indexCast v29
  let c0_17 : Index := 0#32
  ![0, v30.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S2x16384x512 : Shape := ⟨3, ![2, 16384, 512]⟩
abbrev S2x16384x4x128 : Shape := ⟨4, ![2, 16384, 4, 128]⟩
abbrev S2x4x16384x128 : Shape := ⟨4, ![2, 4, 16384, 128]⟩
abbrev S2x4x16384x16384 : Shape := ⟨4, ![2, 4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x512, .f32⟩
  | .hbm, ⟨4, _⟩ => ⟨S2x16384x4x128, .f32⟩
  | .hbm, ⟨5, _⟩ => ⟨S2x4x16384x128, .f32⟩
  | .hbm, ⟨6, _⟩ => ⟨S2x16384x512, .f32⟩
  | .hbm, ⟨7, _⟩ => ⟨S2x16384x4x128, .f32⟩
  | .hbm, ⟨8, _⟩ => ⟨S2x4x16384x128, .f32⟩
  | .hbm, ⟨9, _⟩ => ⟨S2x16384x512, .f32⟩
  | .hbm, ⟨10, _⟩ => ⟨S2x16384x4x128, .f32⟩
  | .hbm, ⟨11, _⟩ => ⟨S2x4x16384x128, .f32⟩
  | .hbm, ⟨12, _⟩ => ⟨S2x4x16384x16384, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S2x4x16384x16384, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S2x4x16384x16384, .i1⟩
  | .hbm, ⟨25, _⟩ => ⟨S2x4x16384x16384, .f32⟩
  | .hbm, ⟨26, _⟩ => ⟨S2x4x16384x16384, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .f32⟩
  | .hbm, ⟨32, _⟩ => ⟨S2x4x16384x16384, .f32⟩
  | .hbm, ⟨33, _⟩ => ⟨S_, .f32⟩
  | .hbm, ⟨34, _⟩ => ⟨S_, .f32⟩
  | .hbm, ⟨35, _⟩ => ⟨S2x4x16384x16384, .i1⟩
  | .hbm, ⟨36, _⟩ => ⟨S2x4x16384x16384, .f32⟩
  | .hbm, ⟨37, _⟩ => ⟨S2x4x16384x16384, .f32⟩
  | .hbm, ⟨38, _⟩ => ⟨S_, .f32⟩
  | .hbm, ⟨39, _⟩ => ⟨S16384x16384, .f32⟩
  | .hbm, ⟨40, _⟩ => ⟨S16384x16384, .i32⟩
  | .hbm, ⟨41, _⟩ => ⟨S_, .i32⟩
  | .hbm, ⟨42, _⟩ => ⟨S16384x16384, .i32⟩
  | .hbm, ⟨43, _⟩ => ⟨S16384x16384, .i32⟩
  | .hbm, ⟨44, _⟩ => ⟨S16384x16384, .i32⟩
  | .hbm, ⟨45, _⟩ => ⟨S16384x16384, .i1⟩
  | .hbm, ⟨46, _⟩ => ⟨S_, .f32⟩
  | .hbm, ⟨47, _⟩ => ⟨S16384x16384, .f32⟩
  | .hbm, ⟨48, _⟩ => ⟨S16384x16384, .f32⟩
  | .hbm, ⟨49, _⟩ => ⟨S2x4x16384x16384, .f32⟩
  | .hbm, ⟨50, _⟩ => ⟨S2x4x16384x16384, .f32⟩
  | .hbm, ⟨51, _⟩ => ⟨S2x4x16384x16384, .f32⟩
  | .hbm, ⟨52, _⟩ => ⟨S_, .f32⟩
  | .hbm, ⟨53, _⟩ => ⟨S_, .f32⟩
  | .hbm, ⟨54, _⟩ => ⟨S2x4x16384x16384, .i1⟩
  | .hbm, ⟨55, _⟩ => ⟨S2x4x16384x16384, .f32⟩
  | .hbm, ⟨56, _⟩ => ⟨S2x4x16384x16384, .f32⟩
  | .hbm, ⟨57, _⟩ => ⟨S2x4x16384x128, .f32⟩
  | .hbm, ⟨58, _⟩ => ⟨S2x16384x4x128, .f32⟩
  | .hbm, ⟨59, _⟩ => ⟨S2x16384x512, .f32⟩
  | .hbm, ⟨60, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_cst : Ref sig .tc := ⟨.hbm, 46, rfl⟩
abbrev main_call2_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Ffn.lean ====
abbrev S32768x2048 : Shape := ⟨2, ![32768, 2048]⟩
abbrev S2048 : Shape := ⟨1, ![2048]⟩
abbrev S2048x8192 : Shape := ⟨2, ![2048, 8192]⟩
abbrev S4096x2048 : Shape := ⟨2, ![4096, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S4096x2048, .f32⟩
  | .hbm, ⟨4, _⟩ => ⟨S1x2048, .f32⟩
  | .hbm, ⟨5, _⟩ => ⟨S2048x8192, .bf16⟩
  | .hbm, ⟨6, _⟩ => ⟨S4096x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x2048 : Shape := ⟨2, ![32768, 2048]⟩
abbrev S2048 : Shape := ⟨1, ![2048]⟩
abbrev S2048x8192 : Shape := ⟨2, ![2048, 8192]⟩
abbrev S4096x2048 : Shape := ⟨2, ![4096, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8192 : Shape := ⟨2, ![32768, 8192]⟩
abbrev S32768x4096 : Shape := ⟨2, ![32768, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S4096x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x8192, .f32⟩
  | .hbm, ⟨21, _⟩ => ⟨S32768x4096, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S_, .f32⟩
  | .hbm, ⟨26, _⟩ => ⟨S32768x4096, .f32⟩
  | .hbm, ⟨27, _⟩ => ⟨S32768x4096, .f32⟩
  | .hbm, ⟨28, _⟩ => ⟨S_, .f32⟩
  | .hbm, ⟨29, _⟩ => ⟨S32768x4096, .f32⟩
  | .hbm, ⟨30, _⟩ => ⟨S32768x4096, .f32⟩
  | .hbm, ⟨31, _⟩ => ⟨S32768x4096, .f32⟩
  | .hbm, ⟨32, _⟩ => ⟨S32768x4096, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Conv.lean ====
abbrev S2x16384x2048 : Shape := ⟨3, ![2, 16384, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S1x2048 : Shape := ⟨2, ![1, 2048]⟩
abbrev S1x512x2048 : Shape := ⟨3, ![1, 512, 2048]⟩
abbrev S2048x512 : Shape := ⟨2, ![2048, 512]⟩
abbrev S3x512 : Shape := ⟨2, ![3, 512]⟩
abbrev S512x2048 : Shape := ⟨2, ![512, 2048]⟩
abbrev S4x8x512 : Shape := ⟨3, ![4, 8, 512]⟩
abbrev S512 : Shape := ⟨1, ![512]⟩
abbrev S512x1 : Shape := ⟨2, ![512, 1]⟩
abbrev S8x512 : Shape := ⟨2, ![8, 512]⟩
abbrev S1x8x512 : Shape := ⟨3, ![1, 8, 512]⟩
abbrev S512x512 : Shape := ⟨2, ![512, 512]⟩
abbrev S1x512 : Shape := ⟨2, ![1, 512]⟩

abbrev nBuf : Space → Nat
  | .hbm => 9
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048x2048, .f32⟩
  | .hbm, ⟨5, _⟩ => ⟨S1x2048, .f32⟩
  | .hbm, ⟨6, _⟩ => ⟨S2048x6144, .bf16⟩
  | .hbm, ⟨7, _⟩ => ⟨S2048x2048, .bf16⟩
  | .hbm, ⟨8, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S512x2048, .bf16⟩
  | .local _ .vmem, ⟨12, _⟩ => ⟨S512x2048, .bf16⟩
  | .local _ .vmem, ⟨13, _⟩ => ⟨S1x512x2048, .f32⟩
  | .local _ .vmem, ⟨14, _⟩ => ⟨S1x512x2048, .f32⟩
  | .local _ .vmem, ⟨15, _⟩ => ⟨S512x2048, .bf16⟩
  | .local _ .vmem, ⟨16, _⟩ => ⟨S4x8x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 32, 4], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v72 : Index := Scalar.indexCast arg2
  let c0_32 : Index := 0#32
  let c0_33 : Index := 0#32
  ![v72.toNat, 0, 0]
def k0_off2 (i : grid0.Coords) : Fin 3 → Nat :=
  let arg2 : BitVec 32 := BitVec.ofNat 32 (i 2).val
  let v17 : Index := Scalar.indexCast arg2
  let c0_12 : Index := 0#32
  let c0_13 : Index := 0#32
  ![v17.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ConvRefIdeal.lean ====
abbrev S2x16384x2048 : Shape := ⟨3, ![2, 16384, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6144 : Shape := ⟨3, ![2, 16384, 6144]⟩
abbrev S2x16386x2048 : Shape := ⟨3, ![2, 16386, 2048]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x16384x6144, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S_, .i32⟩
  | .hbm, ⟨27, _⟩ => ⟨S_, .f32⟩
  | .hbm, ⟨28, _⟩ => ⟨S2x16386x2048, .f32⟩
  | .hbm, ⟨29, _⟩ => ⟨S1x2048, .f32⟩
  | .hbm, ⟨30, _⟩ => ⟨S2048, .f32⟩
  | .hbm, ⟨31, _⟩ => ⟨S2x16384x2048, .f32⟩
  | .hbm, ⟨32, _⟩ => ⟨S1x1x2048, .f32⟩
  | .hbm, ⟨33, _⟩ => ⟨S2x16384x2048, .f32⟩
  | .hbm, ⟨34, _⟩ => ⟨S2x16384x2048, .f32⟩
  | .hbm, ⟨35, _⟩ => ⟨S1x2048, .f32⟩
  | .hbm, ⟨36, _⟩ => ⟨S2048, .f32⟩
  | .hbm, ⟨37, _⟩ => ⟨S2x16384x2048, .f32⟩
  | .hbm, ⟨38, _⟩ => ⟨S1x1x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S1x2048, .f32⟩
  | .hbm, ⟨43, _⟩ => ⟨S2048, .f32⟩
  | .hbm, ⟨44, _⟩ => ⟨S2x16384x2048, .f32⟩
  | .hbm, ⟨45, _⟩ => ⟨S1x1x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Out.lean ====
abbrev S32768x2048 : Shape := ⟨2, ![32768, 2048]⟩
abbrev S32768x512 : Shape := ⟨2, ![32768, 512]⟩
abbrev S32768x1536 : Shape := ⟨2, ![32768, 1536]⟩
abbrev S2048x2048 : Shape := ⟨2, ![2048, 2048]⟩
abbrev S512x2048 : Shape := ⟨2, ![512, 2048]⟩
abbrev S1536x2048 : Shape := ⟨2, ![1536, 2048]⟩
abbrev S512x512 : Shape := ⟨2, ![512, 512]⟩
abbrev S512x1536 : Shape := ⟨2, ![512, 1536]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x1536, .bf16⟩
  | .hbm, ⟨3, _⟩ => ⟨S2048x2048, .f32⟩
  | .hbm, ⟨4, _⟩ => ⟨S2048x2048, .bf16⟩
  | .hbm, ⟨5, _⟩ => ⟨S512x2048, .bf16⟩
  | .hbm, ⟨6, _⟩ => ⟨S1536x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x1536, .bf16⟩
  | .local _ .vmem, ⟨5, _⟩ => ⟨S512x1536, .bf16⟩
  | .local _ .vmem, ⟨6, _⟩ => ⟨S512x2048, .bf16⟩
  | .local _ .vmem, ⟨7, _⟩ => ⟨S1536x2048, .bf16⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S32768x2048 : Shape := ⟨2, ![32768, 2048]⟩
abbrev S32768x512 : Shape := ⟨2, ![32768, 512]⟩
abbrev S32768x1536 : Shape := ⟨2, ![32768, 1536]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x1536, .bf16⟩
  | .hbm, ⟨3, _⟩ => ⟨S2048x2048, .f32⟩
  | .hbm, ⟨4, _⟩ => ⟨S32768x2048, .bf16⟩
  | .hbm, ⟨5, _⟩ => ⟨S32768x2048, .f32⟩
  | .hbm, ⟨6, _⟩ => ⟨S32768x2048, .f32⟩
  | .hbm, ⟨7, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Psb.lean ====
abbrev S32768x2048 : Shape := ⟨2, ![32768, 2048]⟩
abbrev S2048 : Shape := ⟨1, ![2048]⟩
abbrev S2048x1536 : Shape := ⟨2, ![2048, 1536]⟩
abbrev S128 : Shape := ⟨1, ![128]⟩
abbrev S1x2048 : Shape := ⟨2, ![1, 2048]⟩
abbrev S1x128 : Shape := ⟨2, ![1, 128]⟩
abbrev S32768x512 : Shape := ⟨2, ![32768, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S128, .f32⟩
  | .hbm, ⟨4, _⟩ => ⟨S128, .f32⟩
  | .hbm, ⟨5, _⟩ => ⟨S1x2048, .f32⟩
  | .hbm, ⟨6, _⟩ => ⟨S2048x1536, .bf16⟩
  | .hbm, ⟨7, _⟩ => ⟨S1x128, .f32⟩
  | .hbm, ⟨8, _⟩ => ⟨S1x128, .f32⟩
  | .hbm, ⟨9, _⟩ => ⟨S32768x512, .bf16⟩
  | .hbm, ⟨10, _⟩ => ⟨S32768x512, .bf16⟩
  | .hbm, ⟨11, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PsbRefIdeal.lean ====
abbrev S32768x2048 : Shape := ⟨2, ![32768, 2048]⟩
abbrev S2048 : Shape := ⟨1, ![2048]⟩
abbrev S2048x1536 : Shape := ⟨2, ![2048, 1536]⟩
abbrev S128 : Shape := ⟨1, ![128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x1536 : Shape := ⟨2, ![32768, 1536]⟩
abbrev S32768x512 : Shape := ⟨2, ![32768, 512]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S128, .f32⟩
  | .hbm, ⟨4, _⟩ => ⟨S128, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x1536, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x4x128, .f32⟩
  | .hbm, ⟨26, _⟩ => ⟨S32768x4x128, .f32⟩
  | .hbm, ⟨27, _⟩ => ⟨S_, .f32⟩
  | .hbm, ⟨28, _⟩ => ⟨S32768x4, .f32⟩
  | .hbm, ⟨29, _⟩ => ⟨S32768x4x1, .f32⟩
  | .hbm, ⟨30, _⟩ => ⟨S_, .f32⟩
  | .hbm, ⟨31, _⟩ => ⟨S32768x4x1, .f32⟩
  | .hbm, ⟨32, _⟩ => ⟨S32768x4x1, .f32⟩
  | .hbm, ⟨33, _⟩ => ⟨S_, .f32⟩
  | .hbm, ⟨34, _⟩ => ⟨S32768x4x1, .f32⟩
  | .hbm, ⟨35, _⟩ => ⟨S32768x4x1, .f32⟩
  | .hbm, ⟨36, _⟩ => ⟨S32768x4x1, .f32⟩
  | .hbm, ⟨37, _⟩ => ⟨S32768x4x128, .f32⟩
  | .hbm, ⟨38, _⟩ => ⟨S32768x4x128, .f32⟩
  | .hbm, ⟨39, _⟩ => ⟨S1x1x128, .f32⟩
  | .hbm, ⟨40, _⟩ => ⟨S32768x4x128, .f32⟩
  | .hbm, ⟨41, _⟩ => ⟨S32768x4x128, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32768x4x128, .f32⟩
  | .hbm, ⟨47, _⟩ => ⟨S32768x4x128, .f32⟩
  | .hbm, ⟨48, _⟩ => ⟨S_, .f32⟩
  | .hbm, ⟨49, _⟩ => ⟨S32768x4, .f32⟩
  | .hbm, ⟨50, _⟩ => ⟨S32768x4x1, .f32⟩
  | .hbm, ⟨51, _⟩ => ⟨S_, .f32⟩
  | .hbm, ⟨52, _⟩ => ⟨S32768x4x1, .f32⟩
  | .hbm, ⟨53, _⟩ => ⟨S32768x4x1, .f32⟩
  | .hbm, ⟨54, _⟩ => ⟨S_, .f32⟩
  | .hbm, ⟨55, _⟩ => ⟨S32768x4x1, .f32⟩
  | .hbm, ⟨56, _⟩ => ⟨S32768x4x1, .f32⟩
  | .hbm, ⟨57, _⟩ => ⟨S32768x4x1, .f32⟩
  | .hbm, ⟨58, _⟩ => ⟨S32768x4x128, .f32⟩
  | .hbm, ⟨59, _⟩ => ⟨S32768x4x128, .f32⟩
  | .hbm, ⟨60, _⟩ => ⟨S1x1x128, .f32⟩
  | .hbm, ⟨61, _⟩ => ⟨S32768x4x128, .f32⟩
  | .hbm, ⟨62, _⟩ => ⟨S32768x4x128, .f32⟩
  | .hbm, ⟨63, _⟩ => ⟨S32768x512, .f32⟩
  | .hbm, ⟨64, _⟩ => ⟨S32768x512, .bf16⟩
  | .hbm, ⟨65, _⟩ => ⟨S32768x512, .bf16⟩
  | .hbm, ⟨66, _⟩ => ⟨S32768x512, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Pv.lean ====
abbrev S32768x2048 : Shape := ⟨2, ![32768, 2048]⟩
abbrev S2048 : Shape := ⟨1, ![2048]⟩
abbrev S2048x1536 : Shape := ⟨2, ![2048, 1536]⟩
abbrev S1x2048 : Shape := ⟨2, ![1, 2048]⟩
abbrev S32768x1536 : Shape := ⟨2, ![32768, 1536]⟩
abbrev S512x2048 : Shape := ⟨2, ![512, 2048]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S1x2048, .f32⟩
  | .hbm, ⟨4, _⟩ => ⟨S2048x1536, .bf16⟩
  | .hbm, ⟨5, _⟩ => ⟨S32768x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PvRefIdeal.lean ====
abbrev S32768x2048 : Shape := ⟨2, ![32768, 2048]⟩
abbrev S2048 : Shape := ⟨1, ![2048]⟩
abbrev S2048x1536 : Shape := ⟨2, ![2048, 1536]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x1536 : Shape := ⟨2, ![32768, 1536]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x1536, .f32⟩
  | .hbm, ⟨20, _⟩ => ⟨S32768x1536, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Pr.lean ====
abbrev S32768x2048 : Shape := ⟨2, ![32768, 2048]⟩
abbrev S2048 : Shape := ⟨1, ![2048]⟩
abbrev S2048x1536 : Shape := ⟨2, ![2048, 1536]⟩
abbrev S1x2048 : Shape := ⟨2, ![1, 2048]⟩
abbrev S32768x1536 : Shape := ⟨2, ![32768, 1536]⟩
abbrev S512x2048 : Shape := ⟨2, ![512, 2048]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S1x2048, .f32⟩
  | .hbm, ⟨4, _⟩ => ⟨S2048x1536, .bf16⟩
  | .hbm, ⟨5, _⟩ => ⟨S32768x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrRefIdeal.lean ====
abbrev S32768x2048 : Shape := ⟨2, ![32768, 2048]⟩
abbrev S2048 : Shape := ⟨1, ![2048]⟩
abbrev S2048x1536 : Shape := ⟨2, ![2048, 1536]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x1536 : Shape := ⟨2, ![32768, 1536]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x1536, .f32⟩
  | .hbm, ⟨20, _⟩ => ⟨S32768x1536, .f32⟩
  | .hbm, ⟨21, _⟩ => ⟨S32768x1536, .f32⟩
  | .hbm, ⟨22, _⟩ => ⟨S_, .f32⟩
  | .hbm, ⟨23, _⟩ => ⟨S32768x1536, .f32⟩
  | .hbm, ⟨24, _⟩ => ⟨S32768x1536, .f32⟩
  | .hbm, ⟨25, _⟩ => ⟨S_, .f32⟩
  | .hbm, ⟨26, _⟩ => ⟨S32768x1536, .f32⟩
  | .hbm, ⟨27, _⟩ => ⟨S32768x1536, .f32⟩
  | .hbm, ⟨28, _⟩ => ⟨S32768x1536, .f32⟩
  | .hbm, ⟨29, _⟩ => ⟨S32768x1536, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Pg.lean ====
abbrev S32768x2048 : Shape := ⟨2, ![32768, 2048]⟩
abbrev S2048 : Shape := ⟨1, ![2048]⟩
abbrev S2048x1536 : Shape := ⟨2, ![2048, 1536]⟩
abbrev S2048x16 : Shape := ⟨2, ![2048, 16]⟩
abbrev S16x768 : Shape := ⟨2, ![16, 768]⟩
abbrev S768 : Shape := ⟨1, ![768]⟩
abbrev S_ : Shape := ⟨0, ![]⟩
abbrev S2048x112 : Shape := ⟨2, ![2048, 112]⟩
abbrev S2048x1664 : Shape := ⟨2, ![2048, 1664]⟩
abbrev S112x768 : Shape := ⟨2, ![112, 768]⟩
abbrev S128x768 : Shape := ⟨2, ![128, 768]⟩
abbrev S1x2048 : Shape := ⟨2, ![1, 2048]⟩
abbrev S1x768 : Shape := ⟨2, ![1, 768]⟩
abbrev S32768x768 : Shape := ⟨2, ![32768, 768]⟩
abbrev S512x2048 : Shape := ⟨2, ![512, 2048]⟩
abbrev S512x768 : Shape := ⟨2, ![512, 768]⟩
abbrev S512 : Shape := ⟨1, ![512]⟩
abbrev S512x1 : Shape := ⟨2, ![512, 1]⟩
abbrev S512x1664 : Shape := ⟨2, ![512, 1664]⟩
abbrev S512x128 : Shape := ⟨2, ![512, 128]⟩

abbrev nBuf : Space → Nat
  | .hbm => 19
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S2048x16, .f32⟩
  | .hbm, ⟨4, _⟩ => ⟨S16x768, .f32⟩
  | .hbm, ⟨5, _⟩ => ⟨S768, .f32⟩
  | .hbm, ⟨6, _⟩ => ⟨S_, .f32⟩
  | .hbm, ⟨7, _⟩ => ⟨S2048x112, .f32⟩
  | .hbm, ⟨8, _⟩ => ⟨S2048x1664, .f32⟩
  | .hbm, ⟨9, _⟩ => ⟨S_, .f32⟩
  | .hbm, ⟨10, _⟩ => ⟨S112x768, .f32⟩
  | .hbm, ⟨11, _⟩ => ⟨S128x768, .f32⟩
  | .hbm, ⟨12, _⟩ => ⟨S128x768, .bf16⟩
  | .hbm, ⟨13, _⟩ => ⟨S1x2048, .f32⟩
  | .hbm, ⟨14, _⟩ => ⟨S2048x1664, .bf16⟩
  | .hbm, ⟨15, _⟩ => ⟨S1x768, .f32⟩
  | .hbm, ⟨16, _⟩ => ⟨S32768x768, .f32⟩
  | .hbm, ⟨17, _⟩ => ⟨S32768x768, .f32⟩
  | .hbm, ⟨18, _⟩ => ⟨S32768x768, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1664, .bf16⟩
  | .local _ .vmem, ⟨4, _⟩ => ⟨S128x768, .bf16⟩
  | .local _ .vmem, ⟨5, _⟩ => ⟨S1x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PgRefIdeal.lean ====
abbrev S32768x2048 : Shape := ⟨2, ![32768, 2048]⟩
abbrev S2048 : Shape := ⟨1, ![2048]⟩
abbrev S2048x1536 : Shape := ⟨2, ![2048, 1536]⟩
abbrev S2048x16 : Shape := ⟨2, ![2048, 16]⟩
abbrev S16x768 : Shape := ⟨2, ![16, 768]⟩
abbrev S768 : Shape := ⟨1, ![768]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x1536 : Shape := ⟨2, ![32768, 1536]⟩
abbrev S32768x768 : Shape := ⟨2, ![32768, 768]⟩
abbrev S32768x16 : Shape := ⟨2, ![32768, 16]⟩
abbrev S1x768 : Shape := ⟨2, ![1, 768]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .f32⟩
  | .hbm, ⟨3, _⟩ => ⟨S2048x16, .f32⟩
  | .hbm, ⟨4, _⟩ => ⟨S16x768, .f32⟩
  | .hbm, ⟨5, _⟩ => ⟨S768, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x1536, .f32⟩
  | .hbm, ⟨23, _⟩ => ⟨S32768x768, .f32⟩
  | .hbm, ⟨24, _⟩ => ⟨S32768x768, .f32⟩
  | .hbm, ⟨25, _⟩ => ⟨S32768x16, .f32⟩
  | .hbm, ⟨26, _⟩ => ⟨S32768x768, .f32⟩
  | .hbm, ⟨27, _⟩ => ⟨S1x768, .f32⟩
  | .hbm, ⟨28, _⟩ => ⟨S32768x768, .f32⟩
  | .hbm, ⟨29, _⟩ => ⟨S32768x768, .f32⟩
  | .hbm, ⟨30, _⟩ => ⟨S32768x768, .f32⟩
  | .hbm, ⟨31, _⟩ => ⟨S_, .f32⟩
  | .hbm, ⟨32, _⟩ => ⟨S32768x768, .f32⟩
  | .hbm, ⟨33, _⟩ => ⟨S32768x768, .f32⟩
  | .hbm, ⟨34, _⟩ => ⟨S32768x768, .f32⟩
  | .hbm, ⟨35, _⟩ => ⟨S32768x768, .f32⟩
  | .hbm, ⟨36, _⟩ => ⟨S32768x768, .i1⟩
  | .hbm, ⟨37, _⟩ => ⟨S32768x768, .f32⟩
  | .hbm, ⟨38, _⟩ => ⟨S32768x768, .f32⟩
  | .hbm, ⟨39, _⟩ => ⟨S32768x768, .f32⟩
  | .hbm, ⟨40, _⟩ => ⟨S32768x768, .f32⟩
  | .hbm, ⟨41, _⟩ => ⟨S32768x768, .f32⟩
  | .hbm, ⟨42, _⟩ => ⟨S32768x768, .f32⟩
  | .hbm, ⟨43, _⟩ => ⟨S32768x768, .f32⟩
  | .hbm, ⟨44, _⟩ => ⟨S32768x768, .f32⟩
  | .hbm, ⟨45, _⟩ => ⟨S32768x768, .f32⟩
  | .hbm, ⟨46, _⟩ => ⟨S_, .f32⟩
  | .hbm, ⟨47, _⟩ => ⟨S32768x768, .f32⟩
  | .hbm, ⟨48, _⟩ => ⟨S32768x768, .f32⟩
  | .hbm, ⟨49, _⟩ => ⟨S_, .f32⟩
  | .hbm, ⟨50, _⟩ => ⟨S32768x768, .f32⟩
  | .hbm, ⟨51, _⟩ => ⟨S32768x768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩

abbrev nD : Nat := 1
abbrev τ : Topo := Topo.v7x

variable {F : FTy → Type} [FloatOps F]
-- ==== Xa.lean ====
abbrev S2x16384x2048 : Shape := ⟨3, ![2, 16384, 2048]⟩
abbrev S2048 : Shape := ⟨1, ![2048]⟩
abbrev S2048x512 : Shape := ⟨2, ![2048, 512]⟩
abbrev S128 : Shape := ⟨1, ![128]⟩
abbrev S2x256x512 : Shape := ⟨3, ![2, 256, 512]⟩
abbrev S512x2048 : Shape := ⟨2, ![512, 2048]⟩
abbrev S1x2048 : Shape := ⟨2, ![1, 2048]⟩
abbrev S1x128 : Shape := ⟨2, ![1, 128]⟩
abbrev S1x512x2048 : Shape := ⟨3, ![1, 512, 2048]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 12
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x512, .f32⟩
  | .hbm, ⟨3, _⟩ => ⟨S128, .f32⟩
  | .hbm, ⟨4, _⟩ => ⟨S2x256x512, .bf16⟩
  | .hbm, ⟨5, _⟩ => ⟨S2x256x512, .bf16⟩
  | .hbm, ⟨6, _⟩ => ⟨S512x2048, .f32⟩
  | .hbm, ⟨7, _⟩ => ⟨S1x2048, .f32⟩
  | .hbm, ⟨8, _⟩ => ⟨S2048x512, .bf16⟩
  | .hbm, ⟨9, _⟩ => ⟨S1x128, .f32⟩
  | .hbm, ⟨10, _⟩ => ⟨S512x2048, .bf16⟩
  | .hbm, ⟨11, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x512, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S512x2048, .bf16⟩
  | .local _ .vmem, ⟨10, _⟩ => ⟨S1x512x2048, .f32⟩
  | .local _ .vmem, ⟨11, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== XaRefIdeal.lean ====
abbrev S2x16384x2048 : Shape := ⟨3, ![2, 16384, 2048]⟩
abbrev S2048 : Shape := ⟨1, ![2048]⟩
abbrev S2048x512 : Shape := ⟨2, ![2048, 512]⟩
abbrev S128 : Shape := ⟨1, ![128]⟩
abbrev S2x256x512 : Shape := ⟨3, ![2, 256, 512]⟩
abbrev S512x2048 : Shape := ⟨2, ![512, 2048]⟩
abbrev S2x256x4x128 : Shape := ⟨4, ![2, 256, 4, 128]⟩
abbrev S2x4x256x128 : Shape := ⟨4, ![2, 4, 256, 128]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x512 : Shape := ⟨3, ![2, 16384, 512]⟩
abbrev S2x16384x4x128 : Shape := ⟨4, ![2, 16384, 4, 128]⟩
abbrev S2x4x16384x128 : Shape := ⟨4, ![2, 4, 16384, 128]⟩
abbrev S2x4x16384 : Shape := ⟨3, ![2, 4, 16384]⟩
abbrev S2x4x16384x1 : Shape := ⟨4, ![2, 4, 16384, 1]⟩
abbrev S1x1x1x128 : Shape := ⟨4, ![1, 1, 1, 128]⟩
abbrev S2x4x16384x256 : Shape := ⟨4, ![2, 4, 16384, 256]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x512, .f32⟩
  | .hbm, ⟨3, _⟩ => ⟨S128, .f32⟩
  | .hbm, ⟨4, _⟩ => ⟨S2x256x512, .bf16⟩
  | .hbm, ⟨5, _⟩ => ⟨S2x256x512, .bf16⟩
  | .hbm, ⟨6, _⟩ => ⟨S512x2048, .f32⟩
  | .hbm, ⟨7, _⟩ => ⟨S2x256x512, .f32⟩
  | .hbm, ⟨8, _⟩ => ⟨S2x256x4x128, .f32⟩
  | .hbm, ⟨9, _⟩ => ⟨S2x4x256x128, .f32⟩
  | .hbm, ⟨10, _⟩ => ⟨S2x256x512, .f32⟩
  | .hbm, ⟨11, _⟩ => ⟨S2x256x4x128, .f32⟩
  | .hbm, ⟨12, _⟩ => ⟨S2x4x256x128, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S1x1x2048, .f32⟩
  | .hbm, ⟨27, _⟩ => ⟨S2x16384x2048, .f32⟩
  | .hbm, ⟨28, _⟩ => ⟨S2x16384x2048, .f32⟩
  | .hbm, ⟨29, _⟩ => ⟨S2x16384x512, .f32⟩
  | .hbm, ⟨30, _⟩ => ⟨S2x16384x4x128, .f32⟩
  | .hbm, ⟨31, _⟩ => ⟨S2x4x16384x128, .f32⟩
  | .hbm, ⟨32, _⟩ => ⟨S2x4x16384x128, .f32⟩
  | .hbm, ⟨33, _⟩ => ⟨S_, .f32⟩
  | .hbm, ⟨34, _⟩ => ⟨S2x4x16384, .f32⟩
  | .hbm, ⟨35, _⟩ => ⟨S2x4x16384x1, .f32⟩
  | .hbm, ⟨36, _⟩ => ⟨S_, .f32⟩
  | .hbm, ⟨37, _⟩ => ⟨S2x4x16384x1, .f32⟩
  | .hbm, ⟨38, _⟩ => ⟨S2x4x16384x1, .f32⟩
  | .hbm, ⟨39, _⟩ => ⟨S_, .f32⟩
  | .hbm, ⟨40, _⟩ => ⟨S2x4x16384x1, .f32⟩
  | .hbm, ⟨41, _⟩ => ⟨S2x4x16384x1, .f32⟩
  | .hbm, ⟨42, _⟩ => ⟨S2x4x16384x1, .f32⟩
  | .hbm, ⟨43, _⟩ => ⟨S2x4x16384x128, .f32⟩
  | .hbm, ⟨44, _⟩ => ⟨S2x4x16384x128, .f32⟩
  | .hbm, ⟨45, _⟩ => ⟨S1x1x1x128, .f32⟩
  | .hbm, ⟨46, _⟩ => ⟨S2x4x16384x128, .f32⟩
  | .hbm, ⟨47, _⟩ => ⟨S2x4x16384x128, .f32⟩
  | .hbm, ⟨48, _⟩ => ⟨S2x4x16384x256, .f32⟩
  | .hbm, ⟨49, _⟩ => ⟨S_, .f32⟩
  | .hbm, ⟨50, _⟩ => ⟨S2x4x16384x256, .f32⟩
  | .hbm, ⟨51, _⟩ => ⟨S2x4x16384x256, .f32⟩
  | .hbm, ⟨52, _⟩ => ⟨S_, .f32⟩
  | .hbm, ⟨53, _⟩ => ⟨S2x4x16384, .f32⟩
  | .hbm, ⟨54, _⟩ => ⟨S_, .f32⟩
  | .hbm, ⟨55, _⟩ => ⟨S2x4x16384, .f32⟩
  | .hbm, ⟨56, _⟩ => ⟨S2x4x16384, .f32⟩
  | .hbm, ⟨57, _⟩ => ⟨S2x4x16384x1, .f32⟩
  | .hbm, ⟨58, _⟩ => ⟨S2x4x16384x256, .f32⟩
  | .hbm, ⟨59, _⟩ => ⟨S2x4x16384x256, .f32⟩
  | .hbm, ⟨60, _⟩ => ⟨S2x4x16384x256, .f32⟩
  | .hbm, ⟨61, _⟩ => ⟨S_, .f32⟩
  | .hbm, ⟨62, _⟩ => ⟨S2x4x16384, .f32⟩
  | .hbm, ⟨63, _⟩ => ⟨S2x4x16384x1, .f32⟩
  | .hbm, ⟨64, _⟩ => ⟨S2x4x16384x256, .f32⟩
  | .hbm, ⟨65, _⟩ => ⟨S2x4x16384x256, .f32⟩
  | .hbm, ⟨66, _⟩ => ⟨S2x4x16384x128, .f32⟩
  | .hbm, ⟨67, _⟩ => ⟨S2x16384x4x128, .f32⟩
  | .hbm, ⟨68, _⟩ => ⟨S2x16384x512, .f32⟩
  | .hbm, ⟨69, _⟩ => ⟨S2x16384x2048, .f32⟩
  | .hbm, ⟨70, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Mkv.lean ====
abbrev S512x2048 : Shape := ⟨2, ![512, 2048]⟩
abbrev S2048 : Shape := ⟨1, ![2048]⟩
abbrev S2048x1024 : Shape := ⟨2, ![2048, 1024]⟩
abbrev S128 : Shape := ⟨1, ![128]⟩
abbrev S1x2048 : Shape := ⟨2, ![1, 2048]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 9
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S1x2048, .f32⟩
  | .hbm, ⟨5, _⟩ => ⟨S2048x1024, .bf16⟩
  | .hbm, ⟨6, _⟩ => ⟨S1x128, .f32⟩
  | .hbm, ⟨7, _⟩ => ⟨S512x512, .bf16⟩
  | .hbm, ⟨8, _⟩ => ⟨S512x512, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S1x128, .f32⟩
  | .local _ .vmem, ⟨4, _⟩ => ⟨S512x512, .bf16⟩
  | .local _ .vmem, ⟨5, _⟩ => ⟨S512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MkvRefIdeal.lean ====
abbrev S512x2048 : Shape := ⟨2, ![512, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩
abbrev S512x512 : Shape := ⟨2, ![512, 512]⟩
abbrev S512x4x128 : Shape := ⟨3, ![512, 4, 128]⟩
abbrev S512x4 : Shape := ⟨2, ![512, 4]⟩
abbrev S512x4x1 : Shape := ⟨3, ![512, 4, 1]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S512x1024, .f32⟩
  | .hbm, ⟨21, _⟩ => ⟨S512x512, .f32⟩
  | .hbm, ⟨22, _⟩ => ⟨S512x512, .f32⟩
  | .hbm, ⟨23, _⟩ => ⟨S512x4x128, .f32⟩
  | .hbm, ⟨24, _⟩ => ⟨S512x4x128, .f32⟩
  | .hbm, ⟨25, _⟩ => ⟨S_, .f32⟩
  | .hbm, ⟨26, _⟩ => ⟨S512x4, .f32⟩
  | .hbm, ⟨27, _⟩ => ⟨S512x4x1, .f32⟩
  | .hbm, ⟨28, _⟩ => ⟨S_, .f32⟩
  | .hbm, ⟨29, _⟩ => ⟨S512x4x1, .f32⟩
  | .hbm, ⟨30, _⟩ => ⟨S512x4x1, .f32⟩
  | .hbm, ⟨31, _⟩ => ⟨S_, .f32⟩
  | .hbm, ⟨32, _⟩ => ⟨S512x4x1, .f32⟩
  | .hbm, ⟨33, _⟩ => ⟨S512x4x1, .f32⟩
  | .hbm, ⟨34, _⟩ => ⟨S512x4x1, .f32⟩
  | .hbm, ⟨35, _⟩ => ⟨S512x4x128, .f32⟩
  | .hbm, ⟨36, _⟩ => ⟨S512x4x128, .f32⟩
  | .hbm, ⟨37, _⟩ => ⟨S1x1x128, .f32⟩
  | .hbm, ⟨38, _⟩ => ⟨S512x4x128, .f32⟩
  | .hbm, ⟨39, _⟩ => ⟨S512x4x128, .f32⟩
  | .hbm, ⟨40, _⟩ => ⟨S512x512, .f32⟩
  | .hbm, ⟨41, _⟩ => ⟨S512x512, .bf16⟩
  | .hbm, ⟨42, _⟩ => ⟨S512x512, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.SbStep.lean ====
/- What one grid point of the attention kernel leaves in its output block: the accumulator after all trips of its loop. -/
module

public import proofs.«01_k».proof.Proof.Gen.SbIdeal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.SbIdeal.Value

open Cert.SbIdeal Cert.SbIdeal.Gen Idealize.ShloMosaic Idealize.ShloMosaic.TcCoe Idealize.SL.Sem
open Idealize.ShloMosaic.Pipeline (Dat)

variable {F : FTy → Type} [FloatOps F]

/-- The 256 rows of keys or values that trip `k` reads. -/
def rows (i : grid0.Coords) (x : Vec F S1x16384x128 .bf16) (k : Fin (k0_t1_loop i).trips) : Vec F S1x256x128 .bf16 :=
  View.ld x (Rect.unit (s := S1x16384x128) (k0_off1 i k) S1x256x128.size (k0_off1_inb i k))

/-- The accumulator after one more trip. -/
def accStep (i : grid0.Coords) (q : Vec F S1x256x128 .bf16) (ks vs : Vec F S1x16384x128 .bf16) (k : Fin (k0_t1_loop i).trips)
    (acc : Vec F S256x128 .f32) (run : Vec F S256x1 .f32) : Vec F S256x128 .f32 :=
  k0_pay5 (k0_pay10 (rows i vs k)) acc
    (k0_pay14 i (BitVec.ofNat 32 (i 2).val) (k0_pay3 q) (iota .tc S256x256 32 [0] iota_S256x256_d0_w32) (iota .tc S256x256 32 [1] iota_S256x256_d1_w32) k0_pay4 0#32 1#32 k (rows i ks k) run) (constant S256x128 .f32 0x00000000#32)

/-- The running sum of the masked softplus values after one more trip. -/
def runStep (i : grid0.Coords) (q : Vec F S1x256x128 .bf16) (ks : Vec F S1x16384x128 .bf16) (k : Fin (k0_t1_loop i).trips)
    (run : Vec F S256x1 .f32) : Vec F S256x1 .f32 :=
  k0_pay6 (k0_pay13 i (BitVec.ofNat 32 (i 2).val) (k0_pay3 q) (iota .tc S256x256 32 [0] iota_S256x256_d0_w32) (iota .tc S256x256 32 [1] iota_S256x256_d1_w32) 0#32 1#32 k (rows i ks k)) run

/-- The accumulator and the running sum after the first `n` trips. -/
def st (i : grid0.Coords) (q : Vec F S1x256x128 .bf16) (ks vs : Vec F S1x16384x128 .bf16) : ℕ → Vec F S256x128 .f32 × Vec F S256x1 .f32
  | 0 => (k0_pay1, k0_pay2)
  | n + 1 => if h : n < (k0_t1_loop i).trips then
      (accStep i q ks vs ⟨n, h⟩ (st i q ks vs n).1 (st i q ks vs n).2, runStep i q ks ⟨n, h⟩ (st i q ks vs n).2)
    else st i q ks vs n

/-- The loop's writes, read back, are that state. -/
theorem loop_state (𝒱 : Variants) (c : Dev nD) (bd : Option 𝒱.V) (i : grid0.Coords) (arg3 : Memref sig .tc .vmem S1x256x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S256x128 .f32) (harg7 : arg7.IsWhole) (arg8 : Memref sig .tc .vmem S256x1 .f32) (harg8 : arg8.IsWhole) (v8 : Vec F S1x256x128 .bf16)
    (X4 : BufTy.Contents (Elt F) arg4.view.ty) (X5 : BufTy.Contents (Elt F) arg5.view.ty)
    (G7 : BufTy.Contents (Elt F) arg7.view.ty) (G8 : BufTy.Contents (Elt F) arg8.view.ty)
    (h7 : arg7.view.read (Elt F) G7 = k0_pay1) (h8 : arg8.view.read (Elt F) G8 = k0_pay2) : ∀ (n : ℕ), n ≤ (k0_t1_loop i).trips →
    arg7.view.read (Elt F) (arg7.view.writes (Elt F) G7 (pb_k0_t1 (F := F) 𝒱 c bd i arg3 harg3 arg4 harg4 arg5 harg5 arg6 harg6 arg7 harg7 arg8 harg8 (BitVec.ofNat 32 (i 2).val) v8 (iota .tc S256x256 32 [0] iota_S256x256_d0_w32) (iota .tc S256x256 32 [1] iota_S256x256_d1_w32) X4 X5 G7 G8 n).1)
        = (st i v8 (arg4.view.read (Elt F) X4) (arg5.view.read (Elt F) X5) n).1
    ∧ arg8.view.read (Elt F) (arg8.view.writes (Elt F) G8 (pb_k0_t1 (F := F) 𝒱 c bd i arg3 harg3 arg4 harg4 arg5 harg5 arg6 harg6 arg7 harg7 arg8 harg8 (BitVec.ofNat 32 (i 2).val) v8 (iota .tc S256x256 32 [0] iota_S256x256_d0_w32) (iota .tc S256x256 32 [1] iota_S256x256_d1_w32) X4 X5 G7 G8 n).2)
        = (st i v8 (arg4.view.read (Elt F) X4) (arg5.view.read (Elt F) X5) n).2
  | 0, _ => ⟨h7, h8⟩
  | n + 1, hn => by
    obtain ⟨i7, i8⟩ := loop_state 𝒱 c bd i arg3 harg3 arg4 harg4 arg5 harg5 arg6 harg6 arg7 harg7 arg8 harg8 v8 X4 X5 G7 G8 h7 h8 n (by omega)
    have hn' : n < (k0_t1_loop i).trips := hn
    have e := pb_k0_t1_succ (F := F) 𝒱 c bd i arg3 harg3 arg4 harg4 arg5 harg5 arg6 harg6 arg7 harg7 arg8 harg8 (BitVec.ofNat 32 (i 2).val) v8 (iota .tc S256x256 32 [0] iota_S256x256_d0_w32) (iota .tc S256x256 32 [1] iota_S256x256_d1_w32) X4 X5 G7 G8 ⟨n, hn'⟩
    dsimp only at e
    rw [e]
    dsimp only
    rw [View.writes_append, View.writes_append, st, dif_pos hn']
    unfold trip_k0_t1
    dsimp only
    sl_unfold_words
    refine ⟨?_, ?_⟩
    · refine (View.read_writes_full _ _ _ _ _).trans ?_
      simp only [View.readAt_eq_ld]
      rw [i7, i8, View.ld_unit_lit, View.ld_unit_lit]
      · unfold accStep rows
        sl_unfold_words
        rfl
      · decide
      · decide
    · refine (View.read_writes_full _ _ _ _ _).trans ?_
      simp only [View.readAt_eq_ld]
      rw [i8, View.ld_unit_lit]
      · unfold runStep rows
        sl_unfold_words
        rfl
      · decide

/-- The second loop never runs. -/
theorem second_trips (i : grid0.Coords) : Scf.trips (k0_t2_loop i).lb (k0_t2_loop i).ub (k0_t2_loop i).st = 0 := by
  have h : ∀ n : Fin 64, (fun a : BitVec 32 => Scf.trips (Scalar.addi 0#32 (Scalar.muli (Scalar.divsi (Scalar.subi (Scalar.addi a 1#32) 0#32) 1#32) 1#32))
      (Scalar.addi 0#32 (Scalar.subi (Scalar.addi a 1#32) 0#32)) 1#32) (BitVec.ofNat 32 n.val) = 0 := by decide +kernel
  exact h (i 2)

/-- The first loop runs once per block of keys up to the block of queries. -/
theorem first_trips (i : grid0.Coords) : (k0_t1_loop i).trips = (i 2).val + 1 := by
  have h : ∀ n : Fin 64, (fun a : BitVec 32 => Scf.trips 0#32 (Scalar.addi 0#32 (Scalar.muli (Scalar.divsi (Scalar.subi (Scalar.addi a 1#32) 0#32) 1#32) 1#32))
      1#32) (BitVec.ofNat 32 n.val) = n.val + 1 := by decide +kernel
  exact h (i 2)

/-- The output block of a grid point is the rounded accumulator after all trips. -/
theorem out_eq (c : Dev nD) (i : grid0.Coords) (arg3 : Memref sig .tc .vmem S1x256x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S256x128 .f32) (harg7 : arg7.IsWhole) (arg8 : Memref sig .tc .vmem S256x1 .f32) (harg8 : arg8.IsWhole)
    (x0 : Vec F S1x256x128 .bf16) (x1 : Vec F S1x16384x128 .bf16) (x2 : Vec F S1x16384x128 .bf16) :
    out0_A_3 c i arg3 harg3 arg4 harg4 arg5 harg5 arg6 harg6 arg7 harg7 arg8 harg8 x0 x1 x2 = k0_pay9 (st i x0 x1 x2 (k0_t1_loop i).trips).1 := by
  unfold out0_A_3
  unfold kernelRun0_A
  dsimp only
  sl_unfold_words
  refine (View.read_writes_full _ _ _ _ _).trans (congrArg k0_pay9 ?_)
  rw [second_trips]
  refine (View.ld_unit_lit _ _ (by decide)).trans ?_
  have e3 : View.readAt (Elt F) arg3.view (Rect.unit ![0, 0, 0] S1x256x128.size inb_S1x256x128_S1x256x128_0_0_0).toLoadRect (harg3.unread x0) = x0 := by
    rw [View.readAt_eq_ld, harg3.read_unread]
    exact View.ld_unit_lit _ _ (by decide)
  have key := loop_state Variants.none c none i arg3 harg3 arg4 harg4 arg5 harg5 arg6 harg6 arg7 harg7 arg8 harg8 x0
    (harg4.unread x1) (harg5.unread x2) (arg7.view.writes (Elt F) arg7.view.junk [⟨Rect.unit (s := S256x128) ![0, 0] S256x128.size inb_S256x128_S256x128_0_0, k0_pay1⟩])
    (arg8.view.writes (Elt F) arg8.view.junk [⟨Rect.unit (s := S256x1) ![0, 0] S256x1.size inb_S256x1_S256x1_0_0, k0_pay2⟩])
    (View.read_writes_full _ _ _ _ _) (View.read_writes_full _ _ _ _ _) (k0_t1_loop i).trips le_rfl
  rw [harg4.read_unread, harg5.read_unread] at key
  rw [← View.writes_append] at key
  refine Eq.trans ?_ key.1
  rw [e3, pb_k0_t2, List.nil_append]

end Cert.SbIdeal.Value

end
-- ==== Proof.SbMath.lean ====
/- The stick-breaking attention's mathematics over the extended reals: one row of logits and one column of values. -/
module

public import Idealize.ShloMosaic.Lib.Pointwise
public import Mathlib.Data.EReal.Operations

@[expose] public section

set_option maxRecDepth 16384

noncomputable section

namespace Cert.SbMath

open Idealize.ShloMosaic

/-- The softplus of a logit. -/
def sp (z : EReal) : EReal := max z 0 + Ideal.log (1 + Ideal.exp (0 - FloatOps.absf (F := Ideal) (φ := .f32) z))

theorem exp_nonneg (x : EReal) : 0 ≤ Ideal.exp x := by
  induction x with
  | bot => exact le_rfl
  | top => exact le_top
  | coe r => exact EReal.coe_nonneg.2 (Real.exp_pos r).le

theorem log_nonneg {x : EReal} (h : 1 ≤ x) : 0 ≤ Ideal.log x := by
  induction x with
  | bot => exact absurd (le_bot_iff.1 h) (EReal.coe_ne_bot 1)
  | top => exact le_top
  | coe r =>
    have hr : (1 : ℝ) ≤ r := by exact_mod_cast h
    show 0 ≤ (if r ≤ 0 then (⊥ : EReal) else ((Real.log r : ℝ) : EReal))
    rw [if_neg (by linarith)]
    exact EReal.coe_nonneg.2 (Real.log_nonneg hr)

/-- A softplus value is not negative, whatever the logit. -/
theorem sp_nonneg (z : EReal) : 0 ≤ sp z :=
  add_nonneg (le_max_right _ _) (log_nonneg (by
    calc (1 : EReal) = 1 + 0 := (add_zero _).symm
      _ ≤ _ := add_le_add le_rfl (exp_nonneg _)))

/-- The softplus of column `j`, where the column lies strictly before the query's position `R`. -/
def msp (Z : Fin 16384 → EReal) (R : Fin 16384) (j : Fin 16384) : EReal := if j.val < R.val then sp (Z j) else 0

theorem msp_nonneg (Z : Fin 16384 → EReal) (R j : Fin 16384) : 0 ≤ msp Z R j := by
  unfold msp
  split
  · exact sp_nonneg _
  · exact le_rfl

/-- The weight of column `s` for the query at position `R`. -/
def wt (Z : Fin 16384 → EReal) (R s : Fin 16384) : EReal :=
  if s.val < R.val then Ideal.exp (Z s - ∑ j : Fin 16384, if s.val ≤ j.val then msp Z R j else 0) else 0

/-- The attention of the query at position `R`: the weighted sum of the values. -/
def att (Z U : Fin 16384 → EReal) (R : Fin 16384) : EReal := ∑ s, wt Z R s * U s

/-- Column `c` of block `t`. -/
def colOf (t : ℕ) (ht : t < 64) (c : Fin 256) : Fin 16384 := ⟨t * 256 + c.val, by omega⟩

/-- A sum over the columns from `n` on. -/
def from' (f : Fin 16384 → EReal) (n : ℕ) : EReal := ∑ j : Fin 16384, if n ≤ j.val then f j else 0

/-- The columns from block `t` on are those from block `t + 1` on and those of block `t`, for any number of columns. -/
theorem from_block_gen {N : ℕ} (f : Fin N → EReal) (t : ℕ) (ht : (t + 1) * 256 ≤ N) :
    (∑ j : Fin N, if t * 256 ≤ j.val then f j else 0)
      = (∑ j : Fin N, if (t + 1) * 256 ≤ j.val then f j else 0) + ∑ c : Fin 256, f ⟨t * 256 + c.val, by omega⟩ := by
  have h : ∀ j : Fin N, (if t * 256 ≤ j.val then f j else 0)
      = (if (t + 1) * 256 ≤ j.val then f j else 0) + (if t * 256 ≤ j.val ∧ j.val < (t + 1) * 256 then f j else 0) := by
    intro j
    by_cases h1 : (t + 1) * 256 ≤ j.val
    · rw [if_pos (by omega), if_pos h1, if_neg (by omega), add_zero]
    · by_cases h2 : t * 256 ≤ j.val
      · rw [if_pos h2, if_neg h1, if_pos ⟨h2, by omega⟩, zero_add]
      · rw [if_neg h2, if_neg h1, if_neg (by omega), add_zero]
  rw [Finset.sum_congr rfl fun j _ => h j, Finset.sum_add_distrib]
  congr 1
  rw [← Finset.sum_filter]
  symm
  refine Finset.sum_bij (fun c _ => (⟨t * 256 + c.val, by omega⟩ : Fin N)) ?_ ?_ ?_ ?_
  · intro c _; exact Finset.mem_filter.2 ⟨Finset.mem_univ _, by dsimp only; omega, by dsimp only; omega⟩
  · intro c _ c' _ e; have := Fin.ext_iff.1 e; dsimp only at this; exact Fin.ext (by omega)
  · intro j hj
    have := (Finset.mem_filter.1 hj).2
    exact ⟨⟨j.val - t * 256, by omega⟩, Finset.mem_univ _, Fin.ext (by dsimp only; omega)⟩
  · intro c _; rfl

/-- The columns from block `t` on are those from block `t + 1` on and those of block `t`. -/
theorem from_block (f : Fin 16384 → EReal) (t : ℕ) (ht : t < 64) :
    from' f (t * 256) = from' f ((t + 1) * 256) + ∑ c : Fin 256, f (colOf t ht c) :=
  from_block_gen f t (by omega)

/-- A sum from zero on is the whole sum. -/
theorem from_zero (f : Fin 16384 → EReal) : from' f 0 = ∑ j, f j :=
  Finset.sum_congr rfl fun j _ => if_pos (Nat.zero_le _)

/-- Past the query's block everything is masked. -/
theorem from_masked (f : Fin 16384 → EReal) (n : ℕ) (h : ∀ j : Fin 16384, n ≤ j.val → f j = 0) : from' f n = 0 :=
  Finset.sum_eq_zero fun j _ => by
    split
    · exact h j ‹_›
    · rfl

/-- Subtracting two sums that are not negative one after the other is subtracting their sum. -/
theorem sub_sub_nonneg (z a b : EReal) (ha : 0 ≤ a) (hb : 0 ≤ b) : z - a - b = z - (b + a) := by
  have na : a ≠ ⊥ := fun e => by rw [e] at ha; exact absurd ha (by decide)
  have nb : b ≠ ⊥ := fun e => by rw [e] at hb; exact absurd hb (by decide)
  rw [sub_eq_add_neg, sub_eq_add_neg, sub_eq_add_neg, EReal.neg_add (.inl nb) (.inr na), add_assoc, add_comm (-a)]
  rfl

/-- The sum of softplus values from column `c` of block `t` on: the later blocks', and the block's own from `c` on. -/
theorem from_col (g : Fin 16384 → EReal) (t : ℕ) (ht : t < 64) (c : Fin 256) :
    (∑ j : Fin 16384, if (colOf t ht c).val ≤ j.val then g j else 0)
      = from' g ((t + 1) * 256) + ∑ c' : Fin 256, if c.val ≤ c'.val then g (colOf t ht c') else 0 := by
  have e := from_block (fun j => if (colOf t ht c).val ≤ j.val then g j else 0) t ht
  have ev : ∀ c : Fin 256, (colOf t ht c).val = t * 256 + c.val := fun _ => rfl
  have hc := c.isLt
  have e1 : from' (fun j => if (colOf t ht c).val ≤ j.val then g j else 0) (t * 256)
      = ∑ j : Fin 16384, if (colOf t ht c).val ≤ j.val then g j else 0 := by
    refine Finset.sum_congr rfl fun j _ => ?_
    by_cases h : t * 256 ≤ j.val
    · rw [if_pos h]
    · rw [if_neg h, if_neg (by rw [ev]; omega)]
  have e2 : from' (fun j => if (colOf t ht c).val ≤ j.val then g j else 0) ((t + 1) * 256) = from' g ((t + 1) * 256) := by
    refine Finset.sum_congr rfl fun j _ => ?_
    by_cases h : (t + 1) * 256 ≤ j.val
    · rw [if_pos h, if_pos h]
      exact if_pos (show (colOf t ht c).val ≤ j.val by rw [ev]; omega)
    · rw [if_neg h, if_neg h]
  rw [← e1, e, e2]
  refine congrArg _ (Finset.sum_congr rfl fun c' _ => ?_)
  by_cases h : c.val ≤ c'.val
  · rw [if_pos h, if_pos (by rw [ev, ev]; omega)]
  · rw [if_neg h, if_neg (by rw [ev, ev]; omega)]

/-- The weight a trip computes for column `c` of its block `t`. -/
theorem wt_block (Z : Fin 16384 → EReal) (R : Fin 16384) (t : ℕ) (ht : t < 64) (c : Fin 256) :
    (if (colOf t ht c).val < R.val then Ideal.exp (Z (colOf t ht c)
      - (∑ c' : Fin 256, msp Z R (colOf t ht c') * (if c ≤ c' then 1 else 0)) - from' (msp Z R) ((t + 1) * 256)) else 0)
      = wt Z R (colOf t ht c) := by
  unfold wt
  rw [from_col (msp Z R) t ht c, sub_sub_nonneg]
  · have e : ∀ c' : Fin 256, msp Z R (colOf t ht c') * (if c ≤ c' then 1 else 0) = if c.val ≤ c'.val then msp Z R (colOf t ht c') else 0 := by
      intro c'
      by_cases h : c ≤ c'
      · rw [if_pos h, if_pos (Fin.le_def.1 h), mul_one]
      · rw [if_neg h, if_neg fun h' => h (Fin.le_def.2 h'), mul_zero]
    rw [Finset.sum_congr rfl fun c' _ => e c']
  · exact Finset.sum_nonneg fun c' _ => mul_nonneg (msp_nonneg _ _ _) (by split <;> simp)
  · exact Finset.sum_nonneg fun j _ => by
      split
      · exact msp_nonneg _ _ _
      · exact le_rfl

/-- The feature of column `d`'s head: its `e`-th. -/
def feat (d : Fin 512) (e : Fin 128) : Fin 512 := ⟨d.val / 128 * 128 + e.val, by omega⟩

/-- The logit of the query at position `r` and the key at position `s`, in the head of column `d`. -/
def logit (q k : FVec Ideal ⟨3, ![2, 16384, 512]⟩ .bf16) (b : Fin 2) (r : Fin 16384) (d : Fin 512) (s : Fin 16384) : EReal :=
  ∑ e : Fin 128, q (ix3 b r (feat d e)) * k (ix3 b s (feat d e))

/-- The attention result at batch `b`, position `r`, column `d`. -/
def attn (q k v : FVec Ideal ⟨3, ![2, 16384, 512]⟩ .bf16) (b : Fin 2) (r : Fin 16384) (d : Fin 512) : EReal :=
  att (logit q k b r d) (fun s => v (ix3 b s d)) r

end Cert.SbMath

end
-- ==== Proof.SbPoint.lean ====
/- The stick-breaking attention's mathematics over the extended reals, and the kernel's payloads read at an index. -/
module

public import proofs.«01_k».proof.Proof.SbStep
public import Idealize.ShloMosaic.Lib.WordCmp
public import proofs.«01_k».proof.Proof.SbMath

@[expose] public section

set_option maxRecDepth 16384

noncomputable section

namespace Cert.SbMath

open Idealize.ShloMosaic Idealize.ShloMosaic.TcCoe Idealize.SL.Sem
open Cert.SbIdeal Cert.SbIdeal.Gen

/-- The accumulator starts at zero. -/
theorem pay1_at (r : Fin 256) (k : Fin 128) : k0_pay1 (F := Ideal) (ix2 r k) = 0 := by
  pointwise [k0_pay1]

/-- The running sum starts at zero. -/
theorem pay2_at (r : Fin 256) : k0_pay2 (F := Ideal) (ix2 r 0) = 0 := by
  pointwise [k0_pay2]

/-- The suffix mask is one from the diagonal down. -/
theorem pay4_at (r c : Fin 256) : k0_pay4 (F := Ideal) (ix2 r c) = if c ≤ r then 1 else 0 := by
  pointwise [k0_pay4]
  have h : IntOp.cmpi .sge (BitVec.ofNat 32 r.val) (BitVec.ofNat 32 c.val) = if c ≤ r then 1#1 else 0#1 := by
    rw [WordCmp.cmpi_sge_ofNat (by omega) (by omega)]
    by_cases h : c ≤ r
    · rw [if_pos h, decide_eq_true (Fin.le_def.1 h)]; rfl
    · rw [if_neg h, decide_eq_false fun h' => h (Fin.le_def.2 h')]; rfl
  rw [h]
  split <;> simp [FloatOps.sitofp]

/-- The result block is the accumulator. -/
theorem pay9_at (x : Vec Ideal S256x128 .f32) (r : Fin 256) (k : Fin 128) : k0_pay9 (F := Ideal) x (ix3 0 r k) = x (ix2 r k) := by
  pointwise [k0_pay9]

/-- One trip's contribution to the accumulator. -/
theorem pay5_at (v : Vec Ideal S1x256x128 .bf16) (acc : Vec Ideal S256x128 .f32) (w : FVec Ideal S256x256 .bf16) (r : Fin 256) (k : Fin 128) :
    k0_pay5 (F := Ideal) (k0_pay10 v) acc w (constant S256x128 .f32 0x00000000#32) (ix2 r k)
      = acc (ix2 r k) + ∑ c : Fin 256, w (ix2 r c) * v (ix3 0 c k) := by
  pointwise [k0_pay5, k0_pay10]

/-- One trip's contribution to the running sum. -/
theorem pay6_at (s : FVec Ideal S256x256 .f32) (run : Vec Ideal S256x1 .f32) (r : Fin 256) :
    k0_pay6 (F := Ideal) s run (ix2 r 0) = run (ix2 r 0) + ∑ c : Fin 256, s (ix2 r c) := by
  pointwise [k0_pay6]

/-- The logits of one trip. -/
theorem pay11_at (q k : Vec Ideal S1x256x128 .bf16) (r c : Fin 256) :
    k0_pay11 (F := Ideal) (k0_pay3 q) k (ix2 r c) = ∑ d : Fin 128, q (ix3 0 r d) * k (ix3 0 c d) := by
  pointwise [k0_pay11, k0_pay3]

/-- The causal mask of one trip. -/
theorem pay12_at (i : grid0.Coords) (k : Fin (k0_t1_loop i).trips) (r c : Fin 256) :
    k0_pay12 i (BitVec.ofNat 32 (i 2).val) (iota .tc S256x256 32 [0] iota_S256x256_d0_w32) (iota .tc S256x256 32 [1] iota_S256x256_d1_w32) 0#32 1#32 k (ix2 r c)
      = if ((i 2).val - k.val) * 256 + c.val < (i 2).val * 256 + r.val then 1#1 else 0#1 := by
  pointwise [k0_pay12]
  have hk : k.val ≤ (i 2).val := by have h := k.isLt; have e := Cert.SbIdeal.Value.first_trips i; omega
  have hi : (i 2).val < 64 := (i 2).isLt
  have hs : BitVec.ofNat 32 (i 2).val - (0#32 + BitVec.ofNat 32 k.val * 1#32) = BitVec.ofNat 32 ((i 2).val - k.val) := by
    apply BitVec.eq_of_toNat_eq
    simp
    omega
  have e1 : IntOp.addi (BitVec.ofNat 32 c.val) (Scalar.muli (Scalar.subi (BitVec.ofNat 32 (i 2).val) (Scf.iv 0#32 1#32 k.val)) 256#32)
      = BitVec.ofNat 32 (((i 2).val - k.val) * 256 + c.val) := by
    show BitVec.ofNat 32 c.val + (BitVec.ofNat 32 (i 2).val - (0#32 + BitVec.ofNat 32 k.val * 1#32)) * 256#32 = _
    rw [hs, BitVec.add_comm, BitVec.ofNat_add, BitVec.ofNat_mul]
  have e2 : IntOp.addi (BitVec.ofNat 32 r.val) (Scalar.muli (BitVec.ofNat 32 (i 2).val) 256#32) = BitVec.ofNat 32 ((i 2).val * 256 + r.val) := by
    show BitVec.ofNat 32 r.val + BitVec.ofNat 32 (i 2).val * 256#32 = _
    rw [BitVec.add_comm, BitVec.ofNat_add, BitVec.ofNat_mul]
  rw [e1, e2, WordCmp.cmpi_slt_ofNat (by omega) (by omega)]
  by_cases h : ((i 2).val - k.val) * 256 + c.val < (i 2).val * 256 + r.val
  · rw [if_pos h, decide_eq_true h]; rfl
  · rw [if_neg h, decide_eq_false h]; rfl

/-- The rows of keys or values a trip reads. -/
theorem rows_at (i : grid0.Coords) (x : Vec Ideal S1x16384x128 .bf16) (k : Fin (k0_t1_loop i).trips) (c : Fin 256) (d : Fin 128) (ht : (i 2).val - k.val < 64) :
    Cert.SbIdeal.Value.rows i x k (ix3 0 c d) = x (ix3 0 (colOf ((i 2).val - k.val) ht c) d) := by
  have hk : k.val ≤ (i 2).val := by have h := k.isLt; have e := Cert.SbIdeal.Value.first_trips i; omega
  have hi : (i 2).val < 64 := (i 2).isLt
  have hs : k0_off1 i k = ![0, ((i 2).val - k.val) * 256, 0] := by
    have e : BitVec.ofNat 32 (i 2).val - (0#32 + BitVec.ofNat 32 k.val * 1#32) = BitVec.ofNat 32 ((i 2).val - k.val) := by
      apply BitVec.eq_of_toNat_eq
      simp
      omega
    have e' : (((BitVec.ofNat 32 (i 2).val - (0#32 + BitVec.ofNat 32 k.val * 1#32)) * 256#32 : BitVec 32)).toNat = ((i 2).val - k.val) * 256 := by
      rw [e]
      simp
      omega
    exact congrArg (fun n => ![0, n, 0]) e'
  unfold Cert.SbIdeal.Value.rows
  refine View.ld_unit_apply_of _ _ _ _ _ _ fun a => ?_
  have hs' := congrFun hs a
  refine Eq.trans ?_ (congrArg (· + _) hs'.symm)
  fin_cases a
  · rfl
  · rfl
  · exact (Nat.zero_add _).symm

/-- The masked softplus values of one trip. -/
theorem pay13_at (i : grid0.Coords) (a : BitVec 32) (v10 v11 : IVec S256x256 32) (k : Fin (k0_t1_loop i).trips) (q ks : Vec Ideal S1x256x128 .bf16) (r c : Fin 256) :
    k0_pay13 (F := Ideal) i a (k0_pay3 q) v10 v11 0#32 1#32 k ks (ix2 r c)
      = if k0_pay12 i a v10 v11 0#32 1#32 k (ix2 r c) = 1#1 then sp (k0_pay11 (F := Ideal) (k0_pay3 q) ks (ix2 r c)) else 0 := by
  pointwise [k0_pay13, sp]
  rfl

/-- The masked weights of one trip. -/
theorem pay14_at (i : grid0.Coords) (a : BitVec 32) (v10 v11 : IVec S256x256 32) (k : Fin (k0_t1_loop i).trips) (q ks : Vec Ideal S1x256x128 .bf16) (run : Vec Ideal S256x1 .f32) (r c : Fin 256) :
    k0_pay14 (F := Ideal) i a (k0_pay3 q) v10 v11 k0_pay4 0#32 1#32 k ks run (ix2 r c)
      = if k0_pay12 i a v10 v11 0#32 1#32 k (ix2 r c) = 1#1 then
          Ideal.exp (k0_pay11 (F := Ideal) (k0_pay3 q) ks (ix2 r c)
            - (∑ j : Fin 256, k0_pay13 (F := Ideal) i a (k0_pay3 q) v10 v11 0#32 1#32 k ks (ix2 r j) * k0_pay4 (F := Ideal) (ix2 j c)) - run (ix2 r 0)) else 0 := by
  pointwise [k0_pay14]
  rfl

end Cert.SbMath

end
-- ==== Proof.SbSum.lean ====
/- What the attention kernel's accumulator and running sum hold after each trip. -/
module

public import proofs.«01_k».proof.Proof.SbPoint

@[expose] public section

set_option maxRecDepth 16384

noncomputable section

namespace Cert.SbIdeal.Value

open Cert.SbIdeal Cert.SbIdeal.Gen Idealize.ShloMosaic Idealize.ShloMosaic.TcCoe Idealize.SL.Sem
open Cert.SbMath

/-- The logits of row `r` of a block of queries against all keys. -/
def zrow (q : Vec Ideal S1x256x128 .bf16) (ks : Vec Ideal S1x16384x128 .bf16) (r : Fin 256) (s : Fin 16384) : EReal :=
  ∑ e : Fin 128, q (ix3 0 r e) * ks (ix3 0 s e)

variable (i : grid0.Coords) (q : Vec Ideal S1x256x128 .bf16) (ks vs : Vec Ideal S1x16384x128 .bf16)

/-- The logits of one trip are those of its block of keys. -/
theorem trip_logit (k : Fin (k0_t1_loop i).trips) (r c : Fin 256) (ht : (i 2).val - k.val < 64) :
    k0_pay11 (F := Ideal) (k0_pay3 q) (rows i ks k) (ix2 r c) = zrow q ks r (colOf ((i 2).val - k.val) ht c) := by
  rw [pay11_at]
  exact Finset.sum_congr rfl fun e _ => congrArg _ (rows_at i ks k c e ht)

/-- The masked softplus values of one trip are those of its block of keys. -/
theorem trip_msp (k : Fin (k0_t1_loop i).trips) (r c : Fin 256) (R : Fin 16384) (hR : R.val = (i 2).val * 256 + r.val) (ht : (i 2).val - k.val < 64) :
    k0_pay13 (F := Ideal) i (BitVec.ofNat 32 (i 2).val) (k0_pay3 q) (iota .tc S256x256 32 [0] iota_S256x256_d0_w32) (iota .tc S256x256 32 [1] iota_S256x256_d1_w32) 0#32 1#32 k (rows i ks k) (ix2 r c)
      = msp (zrow q ks r) R (colOf ((i 2).val - k.val) ht c) := by
  rw [pay13_at, pay12_at, trip_logit i q ks k r c ht]
  unfold msp
  rw [hR]
  have e : (colOf ((i 2).val - k.val) ht c).val = ((i 2).val - k.val) * 256 + c.val := rfl
  rw [e]
  by_cases h : ((i 2).val - k.val) * 256 + c.val < (i 2).val * 256 + r.val
  · rw [if_pos h, if_pos rfl, if_pos h]
  · rw [if_neg h, if_neg (by decide), if_neg h]

/-- One more trip adds its block's softplus values to the running sum. -/
theorem run_step (k : Fin (k0_t1_loop i).trips) (r : Fin 256) (R : Fin 16384) (hR : R.val = (i 2).val * 256 + r.val) (ht : (i 2).val - k.val < 64)
    (run : Vec Ideal S256x1 .f32) (hrun : run (ix2 r 0) = from' (msp (zrow q ks r) R) (((i 2).val - k.val + 1) * 256)) :
    runStep i q ks k run (ix2 r 0) = from' (msp (zrow q ks r) R) (((i 2).val - k.val) * 256) := by
  unfold runStep
  rw [pay6_at, hrun, from_block _ _ ht]
  exact congrArg _ (Finset.sum_congr rfl fun c _ => trip_msp i q ks k r c R hR ht)

/-- One more trip adds its block's weighted values to the accumulator. -/
theorem acc_step (k : Fin (k0_t1_loop i).trips) (r : Fin 256) (d : Fin 128) (R : Fin 16384) (hR : R.val = (i 2).val * 256 + r.val) (ht : (i 2).val - k.val < 64)
    (run : Vec Ideal S256x1 .f32) (hrun : run (ix2 r 0) = from' (msp (zrow q ks r) R) (((i 2).val - k.val + 1) * 256))
    (acc : Vec Ideal S256x128 .f32) (hacc : acc (ix2 r d) = from' (fun s => wt (zrow q ks r) R s * vs (ix3 0 s d)) (((i 2).val - k.val + 1) * 256)) :
    accStep i q ks vs k acc run (ix2 r d) = from' (fun s => wt (zrow q ks r) R s * vs (ix3 0 s d)) (((i 2).val - k.val) * 256) := by
  unfold accStep
  rw [pay5_at, hacc, from_block _ _ ht]
  refine congrArg _ (Finset.sum_congr rfl fun c _ => congrArg₂ (· * ·) ?_ (rows_at i vs k c d ht))
  rw [pay14_at, pay12_at, trip_logit i q ks k r c ht, hrun, ← wt_block, hR]
  have e : (colOf ((i 2).val - k.val) ht c).val = ((i 2).val - k.val) * 256 + c.val := rfl
  rw [e]
  have es : (∑ j : Fin 256, k0_pay13 (F := Ideal) i (BitVec.ofNat 32 (i 2).val) (k0_pay3 q) (iota .tc S256x256 32 [0] iota_S256x256_d0_w32) (iota .tc S256x256 32 [1] iota_S256x256_d1_w32) 0#32 1#32 k (rows i ks k) (ix2 r j) * k0_pay4 (F := Ideal) (ix2 j c))
      = ∑ j : Fin 256, msp (zrow q ks r) R (colOf ((i 2).val - k.val) ht j) * (if c ≤ j then 1 else 0) :=
    Finset.sum_congr rfl fun j _ => by rw [trip_msp i q ks k r j R hR ht, pay4_at]
  rw [es]
  by_cases h : ((i 2).val - k.val) * 256 + c.val < (i 2).val * 256 + r.val
  · rw [if_pos h, if_pos rfl, if_pos h]
  · rw [if_neg h, if_neg (by decide), if_neg h]

/-- After `n` trips the running sum and the accumulator cover the last `n` blocks of keys up to the query's. -/
theorem st_at (r : Fin 256) (R : Fin 16384) (hR : R.val = (i 2).val * 256 + r.val) : ∀ (n : ℕ), n ≤ (i 2).val + 1 →
    (st i q ks vs n).2 (ix2 r 0) = from' (msp (zrow q ks r) R) (((i 2).val + 1 - n) * 256)
    ∧ ∀ d, (st i q ks vs n).1 (ix2 r d) = from' (fun s => wt (zrow q ks r) R s * vs (ix3 0 s d)) (((i 2).val + 1 - n) * 256)
  | 0, _ => by
    have hr := r.isLt
    refine ⟨?_, fun d => ?_⟩
    · rw [from_masked]
      · exact pay2_at r
      · intro j hj; exact if_neg (by omega)
    · rw [from_masked]
      · exact pay1_at r d
      · intro j hj
        have : wt (zrow q ks r) R j = 0 := if_neg (by omega)
        rw [this, zero_mul]
  | n + 1, hn => by
    obtain ⟨h1, h2⟩ := st_at r R hR n (by omega)
    have hi : (i 2).val < 64 := (i 2).isLt
    have hl : n < (k0_t1_loop i).trips := by rw [first_trips]; omega
    have ht : (i 2).val - n < 64 := by omega
    have e : (i 2).val + 1 - n = (i 2).val - n + 1 := by omega
    have e' : (i 2).val + 1 - (n + 1) = (i 2).val - n := by omega
    rw [e] at h1 h2
    rw [st, dif_pos hl, e']
    exact ⟨run_step i q ks ⟨n, hl⟩ r R hR ht _ h1, fun d => acc_step i q ks vs ⟨n, hl⟩ r d R hR ht _ h1 _ (h2 d)⟩

/-- After all trips the accumulator is the attention of the block's rows. -/
theorem st_final (r : Fin 256) (d : Fin 128) (R : Fin 16384) (hR : R.val = (i 2).val * 256 + r.val) :
    (st i q ks vs (k0_t1_loop i).trips).1 (ix2 r d) = att (zrow q ks r) (fun s => vs (ix3 0 s d)) R := by
  rw [first_trips, (st_at i q ks vs r R hR _ le_rfl).2 d, Nat.sub_self, Nat.zero_mul, from_zero]
  rfl

end Cert.SbIdeal.Value

end
-- ==== Proof.SbArray.lean ====
/- The attention kernel's result array is the attention of its arguments. -/
module

public import proofs.«01_k».proof.Proof.SbSum

@[expose] public section

set_option maxRecDepth 16384

noncomputable section

namespace Cert.SbIdeal.Value

open Cert.SbIdeal Cert.SbIdeal.Gen Idealize.ShloMosaic Idealize.ShloMosaic.TcCoe Idealize.SL.Sem
open Idealize.ShloMosaic.Pipeline (Dat)
open Cert.SbMath

variable (m : (ℓ : Loc nD τ sig) → Buf (Elt Ideal) ℓ)

/-- Where each window's block sits at grid point `t`. -/
theorem idx : ∀ t : Fin cfg0.N, win0_0.index t = ![t.val / 256, t.val % 64, t.val / 64 % 4] ∧ win0_1.index t = ![t.val / 256, 0, t.val / 64 % 4]
    ∧ win0_2.index t = ![t.val / 256, 0, t.val / 64 % 4] ∧ win0_3.index t = ![t.val / 256, t.val % 64, t.val / 64 % 4]
    ∧ (grid0.coords t 2).val = t.val % 64 ∧ t.val / 256 < 2 :=
  (by decide +kernel : ∀ t : Fin grid0.N, _)

/-- The kernel's arguments as arrays. -/
abbrev Q (c : Dev nD) : FVec Ideal S2x16384x512 .bf16 := m ((c : Thread nD τ).loc main_arg0)
abbrev K (c : Dev nD) : FVec Ideal S2x16384x512 .bf16 := m ((c : Thread nD τ).loc main_arg1)
abbrev Vv (c : Dev nD) : FVec Ideal S2x16384x512 .bf16 := m ((c : Thread nD τ).loc main_arg2)

/-- The blocks of queries, keys and values at a point. -/
theorem blk_q (c : Dev nD) (t : Fin cfg0.N) (r : Fin 256) (e : Fin 128) (b : Fin 2) (R : Fin 16384) (d : Fin 512)
    (hb : b.val = t.val / 256) (hR : R.val = t.val % 64 * 256 + r.val) (hd : d.val = t.val / 64 % 4 * 128 + e.val) :
    (iblk m c 0 t : Vec Ideal S1x256x128 .bf16) (ix3 0 r e) = Q m c (ix3 b R d) := by
  blk_ext [iblk, V, idx t]

theorem blk_k (c : Dev nD) (t : Fin cfg0.N) (s : Fin 16384) (e : Fin 128) (b : Fin 2) (d : Fin 512)
    (hb : b.val = t.val / 256) (hd : d.val = t.val / 64 % 4 * 128 + e.val) :
    (iblk m c 1 t : Vec Ideal S1x16384x128 .bf16) (ix3 0 s e) = K m c (ix3 b s d) := by
  blk_ext [iblk, V, idx t]

theorem blk_v (c : Dev nD) (t : Fin cfg0.N) (s : Fin 16384) (e : Fin 128) (b : Fin 2) (d : Fin 512)
    (hb : b.val = t.val / 256) (hd : d.val = t.val / 64 % 4 * 128 + e.val) :
    (iblk m c 2 t : Vec Ideal S1x16384x128 .bf16) (ix3 0 s e) = Vv m c (ix3 b s d) := by
  blk_ext [iblk, V, idx t]

/-- What a grid point leaves at row `r`, column `e` of its block. -/
theorem point (c : Dev nD) (t : Fin cfg0.N) (r : Fin 256) (e : Fin 128) (b : Fin 2) (R : Fin 16384) (d : Fin 512)
    (hb : b.val = t.val / 256) (hR : R.val = t.val % 64 * 256 + r.val) (hd : d.val = t.val / 64 % 4 * 128 + e.val) :
    k0_pay9 (F := Ideal) (st (grid0.coords t) (iblk m c 0 t) (iblk m c 1 t) (iblk m c 2 t) (k0_t1_loop (grid0.coords t)).trips).1 (ix3 0 r e)
      = attn (Q m c) (K m c) (Vv m c) b R d := by
  rw [pay9_at, st_final _ _ _ _ r e R (by rw [(idx t).2.2.2.2.1, hR])]
  unfold attn
  have he := e.isLt
  have hz : zrow (iblk m c 0 t) (iblk m c 1 t) r = logit (Q m c) (K m c) b R d := funext fun s =>
    Finset.sum_congr rfl fun e' _ => congrArg₂ (· * ·) (blk_q m c t r e' b R _ hb hR (by simp only [feat]; omega)) (blk_k m c t s e' b _ hb (by simp only [feat]; omega))
  have hu : (fun s => (iblk m c 2 t : Vec Ideal S1x16384x128 .bf16) (ix3 0 s e)) = fun s => Vv m c (ix3 b s d) := funext fun s => blk_v m c t s e b d hb hd
  rw [hz, hu]

/-- The result array is the attention of the arguments. -/
theorem final (c : Dev nD) : (dats m 0 c).arrAt 3 (cfgs 0).N = fun j => attn (Q m c) (K m c) (Vv m c) (j 0) (j 1) (j 2) := by
  refine (dats m 0 c).arrAt_eq_of_covers 3 _ (by decide +kernel) fun t hf y => ?_
  blk_simp
  rw [after0_3]
  unfold outsAt0
  rw [out_eq]
  have hN : t.val < 512 := lt_of_lt_of_eq t.isLt N_0
  have y0 : (y 0 : ℕ) < 1 := (y 0).isLt
  have y1 : (y 1 : ℕ) < 256 := (y 1).isLt
  have y2 : (y 2 : ℕ) < 128 := (y 2).isLt
  have key := point m c t ⟨y 1, y1⟩ ⟨y 2, y2⟩ ⟨t.val / 256, by omega⟩ ⟨t.val % 64 * 256 + (y 1 : ℕ), by omega⟩ ⟨t.val / 64 % 4 * 128 + (y 2 : ℕ), by omega⟩ rfl rfl rfl
  refine Eq.trans ?_ (key.trans ?_)
  · blk_ext
  · have e0 : (((cfg0.win 3).blk t).view.emb y) 0 = (⟨t.val / 256, by omega⟩ : Fin 2) := Fin.ext (by blk_simp [idx t])
    have e1 : (((cfg0.win 3).blk t).view.emb y) 1 = (⟨t.val % 64 * 256 + (y 1 : ℕ), by omega⟩ : Fin 16384) := Fin.ext (by blk_simp [idx t])
    have e2 : (((cfg0.win 3).blk t).view.emb y) 2 = (⟨t.val / 64 % 4 * 128 + (y 2 : ℕ), by omega⟩ : Fin 512) := Fin.ext (by blk_simp [idx t])
    exact (congr (congrArg₂ (attn (Q m c) (K m c) (Vv m c)) e0 e1) e2).symm

end Cert.SbIdeal.Value

end
-- ==== Proof.SbRead.lean ====
/- The attention reference's result, read at an index. -/
module

public import proofs.«01_k».proof.Proof.Gen.SbRefIdeal.Run
public import proofs.«01_k».proof.Proof.SbPoint
public import Idealize.ShloMosaic.Lib.WordCmp
public import Idealize.ShloMosaic.Lib.Pointwise

@[expose] public section

set_option maxRecDepth 16384

noncomputable section

namespace Cert.SbRefIdeal.Value

open Idealize.ShloMosaic Idealize.ShloMosaic.TcCoe Idealize.SL.Sem
open Cert.SbRefIdeal Cert.SbRefIdeal.Gen

/-- A choice by a signed comparison of two small numbers is the choice by the numbers. -/
theorem sel_lt (a b : Fin 16384) (x y : EReal) :
    Scalar.select (IntOp.cmpi .slt (BitVec.ofNat 32 a.val) (BitVec.ofNat 32 b.val)) x y = if a.val < b.val then x else y := by
  rw [WordCmp.cmpi_slt_ofNat (by omega) (by omega)]
  by_cases h : a.val < b.val
  · rw [if_pos h, decide_eq_true h]; rfl
  · rw [if_neg h, decide_eq_false h]; rfl

theorem sel_ge (a b : Fin 16384) (x y : EReal) :
    Scalar.select (IntOp.cmpi .sge (IntOp.addi (BitVec.ofNat 32 a.val) 0#32) (BitVec.ofNat 32 b.val)) x y = if b.val ≤ a.val then x else y := by
  have e : IntOp.addi (BitVec.ofNat 32 a.val) 0#32 = BitVec.ofNat 32 a.val := BitVec.add_zero _
  rw [e, WordCmp.cmpi_sge_ofNat (by omega) (by omega)]
  by_cases h : b.val ≤ a.val
  · rw [if_pos h, decide_eq_true h]; rfl
  · rw [if_neg h, decide_eq_false h]; rfl

/-- The zero that the reference writes at masked places. -/
theorem zero_word : (id (constant (F := Ideal) S_ .f32 0#32) ix0 : EReal) = 0 := by
  show constant (F := Ideal) S_ .f32 0#32 ix0 = 0
  pointwise []

/-- The reference's softplus, which sees no undefined logit over the extended reals. -/
theorem softplus_ref (z : EReal) :
    (if z ≠ z then z else max z 0 + Ideal.log1p (Ideal.exp (-(FloatOps.absf (F := Ideal) (φ := .f32) z)))) = SbMath.sp z := by
  rw [if_neg (fun h => h rfl)]
  unfold SbMath.sp Ideal.log1p
  rw [zero_sub]

/-- The reference's result at an index is the attention. -/
theorem res_at (m : (ℓ : Loc nD τ sig) → Buf (Elt Ideal) ℓ) (c : Dev nD) (b : Fin 2) (r : Fin 16384) (d : Fin 512) :
    (res_main_v27 (F := Ideal) m c : FVec Ideal S2x16384x512 .bf16) (ix3 b r d) = SbMath.attn (m ((c.tc : Thread nD τ).loc main_arg0)) (m ((c.tc : Thread nD τ).loc main_arg1))
      (m ((c.tc : Thread nD τ).loc main_arg2)) b r d := by
  unfold res_main_v27
  generalize m ((c.tc : Thread nD τ).loc main_arg0) = q
  generalize m ((c.tc : Thread nD τ).loc main_arg1) = k
  generalize m ((c.tc : Thread nD τ).loc main_arg2) = v
  pointwise []
  simp only [sel_lt, sel_ge, zero_word]
  show @Eq EReal _ _
  unfold SbMath.attn SbMath.att
  refine Finset.sum_congr rfl fun s _ => congrArg (· * v (ix3 b s d)) ?_
  unfold SbMath.wt
  refine if_congr Iff.rfl (congrArg Ideal.exp (congrArg₂ (· - ·) rfl (Finset.sum_congr rfl fun j _ => if_congr Iff.rfl ?_ rfl))) rfl
  unfold SbMath.msp
  exact if_congr Iff.rfl (softplus_ref _) rfl

/-- The reference ends with the attention in its result and its arguments unchanged. -/
theorem run_attn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = (fun j => SbMath.attn (m ((c.tc : Thread nD τ).loc main_arg0)) (m ((c.tc : Thread nD τ).loc main_arg1))
        (m ((c.tc : Thread nD τ).loc main_arg2)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext j
  idx_vars j
  exact res_at m c _ _ _

end Cert.SbRefIdeal.Value

end
-- ==== Proof.SbClaim.lean ====
/- The claims about the attention call, assembled. -/
module

public import proofs.«01_k».proof.Defs
public import proofs.«01_k».proof.Proof.SbArray
public import proofs.«01_k».proof.Proof.SbRead
public import proofs.«01_k».proof.Proof.Gen.Sb.Frame

@[expose] public section

noncomputable section

namespace Cert.Proof.Sb

open Idealize.ShloMosaic Idealize.ShloMosaic.TcCoe Idealize.SL.Sem

/-- The kernel leaves its arguments as they were and every counter at zero. -/
theorem frame : Cert.quiescent_Sb := fun m ρ _ => Cert.Sb.Gen.frame m ρ

/-- So does the kernel over the extended reals. -/
theorem frame_ideal : Cert.quiescent_SbIdeal := fun m ρ _ => Cert.SbIdeal.Gen.frame m ρ

/-- So does the reference, which declares no counter. -/
theorem frame_ref : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- From arguments that agree, the kernel and the reference end with the same extended reals in their results. -/
theorem algebraic : Cert.algebraic_SbIdeal_SbRefIdeal := by
  intro m ρ m' ρ' _ hag
  refine ⟨fun c => fun j => SbMath.attn (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (j 0) (j 1) (j 2), ?_, ?_⟩
  · exact (θ_run Cert.SbIdeal.defs _ _).mono (fun r h c => ⟨(h c).1.trans (Cert.SbIdeal.Value.final m c), (h c).2⟩) (Cert.SbIdeal.Value.run_blocks (F := Ideal) m ρ)
  · refine (θ_run Cert.SbRefIdeal.defs _ _).mono (fun r h c => ⟨(h c).1.trans ?_, (h c).2⟩) (Cert.SbRefIdeal.Value.run_attn m' ρ')
    rw [(hag c).1, (hag c).2.1, (hag c).2.2]
    rfl

end Cert.Proof.Sb

end
-- ==== Proof.FfnStep.lean ====
/- What one grid point of the feed-forward kernel leaves in the output block and in the carried scratch block. -/
module

public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The first point of a row block: the scratch becomes the normalised rows, the output the first partial product. -/
theorem outs_first (c : Dev nD) (t : Fin cfg0.N) (h0 : t.val % 8 = 0) (h1 : ¬t.val % 8 = 7) :
    outsAt0 m c t.val t.isLt
      = (k0_pay3 (F := Ideal) (k0_pay1 (iblk m c 0 t) (iblk m c 1 t)) (iblk m c 2 t) (iblk m c 3 t) (k0_pay2 (F := Ideal)) (iblk m c 4 t),
          k0_pay1 (F := Ideal) (iblk m c 0 t) (iblk m c 1 t)) := by
  rw [outsAt0_A m c t h0 h1]
  refine Prod.ext ?_ ?_
  · dsimp only; frame_out
  · dsimp only; frame_out

/-- A point in the middle of a row block adds one partial product. -/
theorem outs_mid (c : Dev nD) (t : Fin cfg0.N) (h0 : ¬t.val % 8 = 0) (h1 : ¬t.val % 8 = 7) :
    outsAt0 m c t.val t.isLt
      = (k0_pay3 (F := Ideal) (outsAt0 m c (t.val - 1) (Nat.lt_of_le_of_lt (Nat.sub_le _ _) t.isLt)).2 (iblk m c 2 t) (iblk m c 3 t)
            (outsAt0 m c (t.val - 1) (Nat.lt_of_le_of_lt (Nat.sub_le _ _) t.isLt)).1 (iblk m c 4 t),
          (outsAt0 m c (t.val - 1) (Nat.lt_of_le_of_lt (Nat.sub_le _ _) t.isLt)).2) := by
  rw [outsAt0_B m c t h0 h1]
  refine Prod.ext ?_ ?_
  · dsimp only; frame_out; simp only [read_unread_whole]
  · rfl

/-- The last point of a row block adds its partial product, halves the sum and adds the block of the input. -/
theorem outs_last (c : Dev nD) (t : Fin cfg0.N) (h0 : ¬t.val % 8 = 0) (h1 : t.val % 8 = 7) :
    outsAt0 m c t.val t.isLt
      = (k0_pay4 (F := Ideal) (iblk m c 0 t)
          (k0_pay3 (F := Ideal) (outsAt0 m c (t.val - 1) (Nat.lt_of_le_of_lt (Nat.sub_le _ _) t.isLt)).2 (iblk m c 2 t) (iblk m c 3 t)
            (outsAt0 m c (t.val - 1) (Nat.lt_of_le_of_lt (Nat.sub_le _ _) t.isLt)).1 (iblk m c 4 t)),
          (outsAt0 m c (t.val - 1) (Nat.lt_of_le_of_lt (Nat.sub_le _ _) t.isLt)).2) := by
  rw [outsAt0_C m c t h0 h1]
  refine Prod.ext ?_ ?_
  · dsimp only; frame_out; simp only [read_unread_whole]
  · rfl

end Cert.FfnIdeal.Value

end
-- ==== Proof.FfnPoint.lean ====
/- The feed-forward mathematics over the extended reals, and the kernel's payloads read at an index. -/
module

public import proofs.«01_k».proof.Proof.Gen.FfnIdeal.Frame
public import Idealize.ShloMosaic.Lib.Pipeline.ValueKit
public import Idealize.ShloMosaic.Lib.Pointwise

@[expose] public section

set_option maxRecDepth 16384

noncomputable section

namespace Cert.FfnMath

open Idealize.ShloMosaic Idealize.ShloMosaic.TcCoe Idealize.SL.Sem
open Cert.FfnIdeal Cert.FfnIdeal.Gen

/-- A row divided by its root mean square and scaled by the weights `g`. -/
def norm (x : Fin 2048 → EReal) (g : Fin 2048 → EReal) (k : Fin 2048) : EReal :=
  x k * Ideal.rsqrt (Ideal.div (∑ l, x l * x l) (Ideal.ofBits FTy.f32 1157627904#32) + Ideal.ofBits FTy.f32 897988541#32) * g k

/-- The gated activation: `a` times its logistic value, times `b`. -/
def act (a b : EReal) : EReal := a * Ideal.div 1 (1 + Ideal.exp (0 - a)) * b

/-- One hidden unit of a row: the activation of its two products with the columns `u` and `w`. -/
def unit (h : Fin 2048 → EReal) (u w : Fin 2048 → EReal) : EReal := act (∑ l, h l * u l) (∑ l, h l * w l)

/-- The feed-forward layer with its residual: row `r`, column `k` of the result. -/
def ffn (x : FVec Ideal S32768x2048 .f32) (g : FVec Ideal S2048 .f32) (wgu : FVec Ideal S2048x8192 .f32) (wd : FVec Ideal S4096x2048 .f32)
    (r : Fin 32768) (k : Fin 2048) : EReal :=
  x (ix2 r k) + Ideal.ofBits FTy.f32 1056964608#32 * ∑ f : Fin 4096,
    unit (norm (fun l => x (ix2 r l)) fun l => g (ix1 l)) (fun l => wgu (ix2 l ⟨f.val, by omega⟩)) (fun l => wgu (ix2 l ⟨4096 + f.val, by omega⟩)) * wd (ix2 f k)

/-- The kernel's first payload is the normalised row. -/
theorem pay1_at (x : Vec Ideal S512x2048 .f32) (g : Vec Ideal S1x2048 .f32) (r : Fin 512) (k : Fin 2048) :
    k0_pay1 (F := Ideal) x g (ix2 r k) = norm (fun l => x (ix2 r l)) (fun l => g (ix2 0 l)) k := by
  pointwise [k0_pay1, norm]

/-- The reset payload is zero. -/
theorem pay2_at (r : Fin 512) (k : Fin 2048) : k0_pay2 (F := Ideal) (ix2 r k) = 0 := by
  pointwise [k0_pay2]

/-- The accumulating payload adds the product of the activations with one block of the second weights. -/
theorem pay3_at (h : Vec Ideal S512x2048 .bf16) (wg wu : Vec Ideal S2048x512 .bf16) (acc : Vec Ideal S512x2048 .f32) (wd : Vec Ideal S512x2048 .bf16) (r : Fin 512) (k : Fin 2048) :
    k0_pay3 (F := Ideal) h wg wu acc wd (ix2 r k)
      = acc (ix2 r k) + ∑ j : Fin 512, unit (fun l => h (ix2 r l)) (fun l => wg (ix2 l j)) (fun l => wu (ix2 l j)) * wd (ix2 j k) := by
  pointwise [k0_pay3, unit, act]

/-- The last payload adds half of the sum to the input. -/
theorem pay4_at (x acc : Vec Ideal S512x2048 .f32) (r : Fin 512) (k : Fin 2048) :
    k0_pay4 (F := Ideal) x acc (ix2 r k) = x (ix2 r k) + Ideal.ofBits FTy.f32 1056964608#32 * acc (ix2 r k) := by
  pointwise [k0_pay4]

end Cert.FfnMath

end
-- ==== Proof.FfnArray.lean ====
/- What the feed-forward kernel's result array holds after the run. -/
module

public import proofs.«01_k».proof.Proof.FfnStep
public import proofs.«01_k».proof.Proof.FfnPoint
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnMath

variable (m : (ℓ : Loc nD τ sig) → Buf (Elt Ideal) ℓ)

/-- Where each window's block sits at grid point `t`. -/
theorem idx : ∀ t : Fin cfg0.N, win0_0.index t = ![t.val / 8, 0] ∧ win0_1.index t = ![0, 0] ∧ win0_2.index t = ![0, t.val % 8]
    ∧ win0_3.index t = ![0, t.val % 8 + 8] ∧ win0_4.index t = ![t.val % 8, 0] ∧ win0_5.index t = ![t.val / 8, 0] ∧ t.val / 8 < 64 :=
  (by decide +kernel : ∀ t : Fin grid0.N, _)

/-- The kernel's arguments as arrays. -/
abbrev X (c : Dev nD) : FVec Ideal S32768x2048 .f32 := m ((c : Thread nD τ).loc main_arg0)
abbrev Gw (c : Dev nD) : FVec Ideal S2048 .f32 := m ((c : Thread nD τ).loc main_arg1)
abbrev Wgu (c : Dev nD) : FVec Ideal S2048x8192 .f32 := m ((c : Thread nD τ).loc main_arg2)
abbrev Wd (c : Dev nD) : FVec Ideal S4096x2048 .f32 := m ((c : Thread nD τ).loc main_arg3)

/-- The input block at a point holds 512 rows of the input. -/
theorem blk_x (c : Dev nD) (t : Fin cfg0.N) (r : Fin 512) (l : Fin 2048) (R : Fin 32768) (hR : R.val = t.val / 8 * 512 + r.val) :
    (iblk m c 0 t : Vec Ideal S512x2048 .f32) (ix2 r l) = X m c (ix2 R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_a (c : Dev nD) (t : Fin cfg0.N) (l : Fin 2048) (j : Fin 512) (f : Fin 8192) (hf : f.val = t.val % 8 * 512 + j.val) :
    (iblk m c 2 t : Vec Ideal S2048x512 .bf16) (ix2 l j) = Wgu m c (ix2 l f) := by
  blk_ext! [iblk, idx t]

theorem blk_b (c : Dev nD) (t : Fin cfg0.N) (l : Fin 2048) (j : Fin 512) (f : Fin 8192) (hf : f.val = 4096 + t.val % 8 * 512 + j.val) :
    (iblk m c 3 t : Vec Ideal S2048x512 .bf16) (ix2 l j) = Wgu m c (ix2 l f) := by
  blk_ext! [iblk, idx t]

theorem blk_d (c : Dev nD) (t : Fin cfg0.N) (j : Fin 512) (k : Fin 2048) (f : Fin 4096) (hf : f.val = t.val % 8 * 512 + j.val) :
    (iblk m c 4 t : Vec Ideal S512x2048 .bf16) (ix2 j k) = Wd m c (ix2 f k) := by
  blk_ext! [iblk, idx t]

end Cert.FfnIdeal.Value

end
-- ==== Proof.FfnSum.lean ====
/- The feed-forward kernel sums its eight blocks of hidden units, so its result is the layer of the reference. -/
module

public import proofs.«01_k».proof.Proof.FfnArray

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnMath

variable (m : (ℓ : Loc nD τ sig) → Buf (Elt Ideal) ℓ)

/-- Hidden unit `f` of row `R`, times its weight towards column `k`. -/
def hid (c : Dev nD) (R : Fin 32768) (k : Fin 2048) (f : Fin 4096) : EReal :=
  unit (norm (fun l => X m c (ix2 R l)) fun l => Gw m c (ix1 l)) (fun l => Wgu m c (ix2 l ⟨f.val, by omega⟩))
    (fun l => Wgu m c (ix2 l ⟨4096 + f.val, by omega⟩)) * Wd m c (ix2 f k)

/-- The sum of the 512 hidden units of block `a`. -/
def part (c : Dev nD) (R : Fin 32768) (k : Fin 2048) (a : ℕ) : EReal :=
  ∑ j : Fin 512, hid m c R k ⟨(a * 512 + j.val) % 4096, Nat.mod_lt _ (by decide)⟩

/-- One accumulating step, with the scratch holding the normalised rows, adds the part of the point's block. -/
theorem step (c : Dev nD) (t : Fin cfg0.N) (h : Vec Ideal S512x2048 .bf16) (acc : Vec Ideal S512x2048 .f32) (r : Fin 512) (k : Fin 2048)
    (R : Fin 32768) (hh : ∀ l, h (ix2 r l) = norm (fun l => X m c (ix2 R l)) (fun l => Gw m c (ix1 l)) l) :
    k0_pay3 (F := Ideal) h (iblk m c 2 t) (iblk m c 3 t) acc (iblk m c 4 t) (ix2 r k) = acc (ix2 r k) + part m c R k (t.val % 8) := by
  rw [pay3_at]
  refine congrArg _ ?_
  unfold part hid
  refine Finset.sum_congr rfl fun j _ => ?_
  have hj := j.isLt
  have ht : t.val % 8 < 8 := Nat.mod_lt _ (by decide)
  have e : (t.val % 8 * 512 + j.val) % 4096 = t.val % 8 * 512 + j.val := Nat.mod_eq_of_lt (by omega)
  refine congrArg₂ (· * ·) ?_ (blk_d m c t j k _ e)
  refine congr (congr (congrArg unit (funext hh)) (funext fun l => ?_)) (funext fun l => ?_)
  · exact blk_a m c t l j _ e
  · exact blk_b m c t l j _ (by dsimp only; omega)

/-- What the output block and the scratch hold after the point `f` of row block `b`. -/
theorem sweep (c : Dev nD) (b : ℕ) (hb : b < 64) : ∀ (f : ℕ) (hf : f < 8) (h : 8 * b + f < cfg0.N) (r : Fin 512) (R : Fin 32768) (hR : R.val = b * 512 + r.val),
    (∀ l, (outsAt0 m c (8 * b + f) h).2 (ix2 r l) = norm (fun l => X m c (ix2 R l)) (fun l => Gw m c (ix1 l)) l)
    ∧ (f < 7 → ∀ k, (outsAt0 m c (8 * b + f) h).1 (ix2 r k) = ∑ a ∈ Finset.range (f + 1), part m c R k a)
    ∧ (f = 7 → ∀ k, (outsAt0 m c (8 * b + f) h).1 (ix2 r k)
        = X m c (ix2 R k) + Ideal.ofBits FTy.f32 1056964608#32 * ∑ a ∈ Finset.range 8, part m c R k a)
  | 0, hf, h, r, R, hR => by
    have e := outs_first m c ⟨8 * b + 0, h⟩ (by dsimp only; omega) (by dsimp only; omega)
    dsimp only at e
    rw [e]
    have hn : ∀ l, k0_pay1 (F := Ideal) (iblk m c 0 ⟨8 * b + 0, h⟩) (iblk m c 1 ⟨8 * b + 0, h⟩) (ix2 r l)
        = norm (fun l => X m c (ix2 R l)) (fun l => Gw m c (ix1 l)) l := fun l => by
      rw [pay1_at]
      refine congr (congr (congrArg norm (funext fun l => ?_)) (funext fun l => ?_)) rfl
      · exact blk_x m c _ r l R (by dsimp only; omega)
      · exact blk_g m c _ l
    refine ⟨hn, fun _ k => ?_, fun h7 => absurd h7 (by omega)⟩
    dsimp only
    rw [step m c _ _ _ r k R hn, pay2_at]
    have e0 : (8 * b + 0) % 8 = 0 := by omega
    simp only [e0, zero_add, Finset.range_one, Finset.sum_singleton]
  | f + 1, hf, h, r, R, hR => by
    obtain ⟨i2, i1, -⟩ := sweep c b hb f (by omega) (by omega) r R hR
    have ep : (8 * b + (f + 1)) - 1 = 8 * b + f := by omega
    have em : (8 * b + (f + 1)) % 8 = f + 1 := by omega
    rcases Nat.lt_or_ge (f + 1) 7 with h7 | h7
    · have e := outs_mid m c ⟨8 * b + (f + 1), h⟩ (by dsimp only; omega) (by dsimp only; omega)
      dsimp only at e
      simp only [ep] at e
      rw [e]
      refine ⟨i2, fun _ k => ?_, fun h7 => absurd h7 (by omega)⟩
      dsimp only
      rw [step m c _ _ _ r k R i2, i1 (by omega) k]
      simp only [em]
      rw [Finset.sum_range_succ _ (f + 1)]
    · have e := outs_last m c ⟨8 * b + (f + 1), h⟩ (by dsimp only; omega) (by dsimp only; omega)
      dsimp only at e
      simp only [ep] at e
      rw [e]
      refine ⟨i2, fun h' => absurd h' (by omega), fun _ k => ?_⟩
      have h6 : f = 6 := by omega
      dsimp only
      rw [pay4_at, step m c _ _ _ r k R i2, i1 (by omega) k, blk_x m c _ r k R (by dsimp only; omega)]
      simp only [em]
      subst h6
      rw [Finset.sum_range_succ _ 7]

/-- The eight parts together are the sum over all hidden units. -/
theorem sum_parts (c : Dev nD) (R : Fin 32768) (k : Fin 2048) : ∑ a ∈ Finset.range 8, part m c R k a = ∑ f : Fin 4096, hid m c R k f := by
  rw [Finset.sum_range]
  unfold part
  refine Fin.sum_mul_add_congr fun s j hl => ?_
  refine congrArg (hid m c R k) (Fin.ext ?_)
  exact Nat.mod_eq_of_lt hl

/-- The result array after the run is the feed-forward layer. -/
theorem final (c : Dev nD) : (dats m 0 c).arrAt 5 (cfgs 0).N
    = fun j => ffn (X m c) (Gw m c) (Wgu m c) (Wd m c) (j 0) (j 1) := by
  refine (dats m 0 c).arrAt_eq_of_covers 5 _ (by decide +kernel) fun t hf y => ?_
  blk_simp
  rw [after0_5]
  have h7 : t.val % 8 = 7 := (flush0_5 t).mp hf
  have hN : t.val < 512 := lt_of_lt_of_eq t.isLt N_0
  have et : t.val = 8 * (t.val / 8) + 7 := by omega
  have y0 : (y 0 : ℕ) < 512 := (y 0).isLt
  have y1 : (y 1 : ℕ) < 2048 := (y 1).isLt
  have key := (sweep m c (t.val / 8) (by omega) 7 (by omega) (by rw [← et]; exact t.isLt) ⟨y 0, y0⟩ ⟨t.val / 8 * 512 + (y 0 : ℕ), by omega⟩ rfl).2.2 rfl ⟨y 1, y1⟩
  rw [sum_parts] at key
  have eo : ∀ n (h : n < cfg0.N) (h' : t.val < cfg0.N), n = t.val → outsAt0 m c n h = outsAt0 m c t.val h' := fun n h h' e => by subst e; rfl
  rw [eo _ _ t.isLt et.symm] at key
  refine Eq.trans ?_ (key.trans ?_)
  · blk_ext
  · have e0 : (((cfg0.win 5).blk t).view.emb y) 0 = (⟨t.val / 8 * 512 + (y 0 : ℕ), by omega⟩ : Fin 32768) := Fin.ext (by blk_simp [idx t])
    have e1 : (((cfg0.win 5).blk t).view.emb y) 1 = (⟨y 1, y1⟩ : Fin 2048) := Fin.ext (by blk_simp [idx t])
    exact (congrArg₂ (ffn (X m c) (Gw m c) (Wgu m c) (Wd m c)) e0 e1).symm

end Cert.FfnIdeal.Value

end
-- ==== Proof.FfnRead.lean ====
/- The reference's feed-forward layer, read at an index. -/
module

public import proofs.«01_k».proof.Proof.FfnPoint
public import proofs.«01_k».proof.Proof.Gen.FfnRefIdeal.Run

@[expose] public section

set_option maxRecDepth 16384

noncomputable section

namespace Cert.FfnRefIdeal.Value

open Idealize.ShloMosaic Idealize.ShloMosaic.TcCoe Idealize.SL.Sem
open Cert.FfnRefIdeal Cert.FfnRefIdeal.Gen

/-- The reference ends with the feed-forward layer in its result and its arguments unchanged. -/
theorem run_ffn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun j => FfnMath.ffn (m ((c.tc : Thread nD τ).loc main_arg0)) (m ((c.tc : Thread nD τ).loc main_arg1))
        (m ((c.tc : Thread nD τ).loc main_arg2)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run m ρ)
  generalize m ((c.tc : Thread nD τ).loc main_arg0) = x
  generalize m ((c.tc : Thread nD τ).loc main_arg1) = g
  generalize m ((c.tc : Thread nD τ).loc main_arg2) = wgu
  generalize m ((c.tc : Thread nD τ).loc main_arg3) = wd
  clear h
  funext j
  idx_vars j
  pointwise [FfnMath.ffn, FfnMath.unit, FfnMath.act, FfnMath.norm]
  simp only [zero_sub]

end Cert.FfnRefIdeal.Value

end
-- ==== Proof.FfnClaim.lean ====
/- The claims about the feed-forward call, assembled. -/
module

public import proofs.«01_k».proof.Defs
public import proofs.«01_k».proof.Proof.FfnSum
public import proofs.«01_k».proof.Proof.FfnRead
public import proofs.«01_k».proof.Proof.Gen.Ffn.Frame

@[expose] public section

noncomputable section

namespace Cert.Proof.Ffn

open Idealize.ShloMosaic Idealize.ShloMosaic.TcCoe Idealize.SL.Sem

/-- The kernel leaves its arguments as they were and every counter at zero. -/
theorem frame : Cert.quiescent_Ffn := fun m ρ _ => Cert.Ffn.Gen.frame m ρ

/-- So does the kernel over the extended reals. -/
theorem frame_ideal : Cert.quiescent_FfnIdeal := fun m ρ _ => Cert.FfnIdeal.Gen.frame m ρ

/-- So does the reference, which declares no counter. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From arguments that agree, the kernel and the reference end with the same extended reals in their results. -/
theorem algebraic : Cert.algebraic_FfnIdeal_FfnRefIdeal := by
  intro m ρ m' ρ' _ hag
  refine ⟨fun c => fun j => FfnMath.ffn (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (j 0) (j 1), ?_, ?_⟩
  · exact (θ_run Cert.FfnIdeal.defs _ _).mono (fun r h c => ⟨(h c).1.trans (Cert.FfnIdeal.Value.final m c), (h c).2⟩) (Cert.FfnIdeal.Value.run_blocks (F := Ideal) m ρ)
  · refine (θ_run Cert.FfnRefIdeal.defs _ _).mono (fun r h c => ⟨(h c).1.trans ?_, (h c).2⟩) (Cert.FfnRefIdeal.Value.run_ffn m' ρ')
    rw [(hag c).1, (hag c).2.1, (hag c).2.2.1, (hag c).2.2.2]
    rfl

end Cert.Proof.Ffn

end
-- ==== Proof.ConvIdealRuns.lean ====
/- The short convolution's step: what one step of the kernel leaves in the output block and the scratch memory. -/
module

public import proofs.«01_k».proof.Proof.Gen.ConvIdeal.Skeleton
public import proofs.«01_k».proof.Proof.Gen.ConvIdeal.Frame
public import Idealize.ShloMosaic.Lib.Claim
public import Idealize.ShloMosaic.Lib.VecWindow
public import Idealize.ShloMosaic.Lib.Pipeline.ValueKit
public import Idealize.ShloMosaic.Lib.Pipeline.ReadBack

@[expose] public section

set_option maxRecDepth 16384

noncomputable section

namespace Cert.ConvIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal Cert.ConvIdeal.Gen

variable {F : FTy → Type} [FloatOps F]

local notation "𝕄" => MT nD τ sig Unit (Elt F) ℕ (UR sig nD τ) ℕ

/-- The body's three conditions: the first column block, the first row block, the last column block. -/
abbrev isFirst (i : grid0.Coords) : Prop := (Scalar.cmpi .ne (Scalar.extui (Scalar.cmpi .eq (BitVec.ofNat 32 (i 2).val) 0#32)) 0#32) = 1#1
abbrev isTop (i : grid0.Coords) : Prop := k0_cond2 i = 1#1
abbrev isLast (i : grid0.Coords) : Prop := (Scalar.cmpi .ne (Scalar.extui (Scalar.cmpi .eq (BitVec.ofNat 32 (i 2).val) 3#32)) 0#32) = 1#1

/-- The part of the carried rows that a column block reads and writes. -/
abbrev rows (i : grid0.Coords) : Rect S4x8x512 := Rect.unit (s := S4x8x512) (k0_off2 i) S1x8x512.size (k0_off2_inb i)

/-- The product of the two gates' projections, -/
abbrev cu (s : Vec F S512x2048 .bf16) (x3 x4 : Vec F S2048x512 .bf16) : FVec F S512x512 .f32 := k0_pay8 s x3 x4

/-- its last rows, carried to the next row block, -/
abbrev tail (s : Vec F S512x2048 .bf16) (x3 x4 : Vec F S2048x512 .bf16) : FVec F S1x8x512 .f32 := k0_pay1 (cu s x3 x4)

/-- and the output block after a column block's product is added, `prev` the rows carried from the row block before. -/
abbrev part (s : Vec F S512x2048 .bf16) (prev : Vec F S1x8x512 .f32) (x2 x3 x4 : Vec F S2048x512 .bf16) (x5 : Vec F S3x512 .f32) (o : Vec F S1x512x2048 .f32) (x6 : Vec F S512x2048 .bf16) : FVec F S1x512x2048 .f32 :=
  k0_pay2 (k0_pay7 s x2) (cu s x3 x4) (k0_pay10 prev) (k0_pay11 prev) (k0_pay12 s x3 x4 prev) k0_pay13 k0_pay14 2#32 x5 o x6

/-- `d` is `h` with the column block's rows set to `w`. -/
structure Put (i : grid0.Coords) (h : Vec F S4x8x512 .f32) (w : Vec F S1x8x512 .f32) (d : Vec F S4x8x512 .f32) : Prop where
  here : View.ld d (rows i) = w
  other : ∀ y : S4x8x512.Idx, (y 0).val ≠ (i 2).val → d y = h y

/-- A store at a column block's rows, then a load of the same rows. -/
theorem readCov_same (v : View sig .tc .vmem S4x8x512 .f32) (i : grid0.Coords) (h1 h2) (w : Vec F S1x8x512 .f32) (L : List (View.Piece (Elt F) S4x8x512 .f32)) :
    v.readCov (⟨Rect.unit (s := S4x8x512) (k0_off1 i) ![1, 8, 512] h1, w⟩ :: L) (Rect.unit (s := S4x8x512) (k0_off2 i) ![1, 8, 512] h2).toLoadRect = w := by
  funext y
  refine View.read_writes_cons_unit_of_mem v v.junk h1 w L _ y ((k0_off1_eq i).trans (k0_off2_eq i).symm) fun a => ?_
  show k0_off2 i a + 1 * (y a).val = _
  omega

/-- What the carried rows hold after the store of `w` at the column block's rows, -/
theorem put (v : View sig .tc .vmem S4x8x512 .f32) (i : grid0.Coords) (h2) (w : Vec F S1x8x512 .f32) (f : v.ty.Contents (Elt F)) (xh : Vec F S4x8x512 .f32)
    (hf : v.read (Elt F) f = xh) :
    Put i xh w (v.read (Elt F) (v.writes (Elt F) f [⟨Rect.unit (s := S4x8x512) (k0_off2 i) S1x8x512.size h2, w⟩])) where
  here := by
    funext y
    refine View.read_writes_cons_unit_of_mem v f h2 w [] _ y rfl fun a => ?_
    show k0_off2 i a + 1 * (y a).val = _
    omega
  other y hy := by
    refine (View.read_writes_cons_unit_of_not_mem v f h2 w [] y (k0_off2_eq i) 0 ?_).trans (congrFun hf y)
    show (y 0).val < (i 2).val ∨ (i 2).val + 1 ≤ (y 0).val
    omega

/-- and after the rows were set to zero first. -/
theorem put₂ (v : View sig .tc .vmem S4x8x512 .f32) (i : grid0.Coords) (h1 h2) (w z : Vec F S1x8x512 .f32) (f : v.ty.Contents (Elt F)) (xh : Vec F S4x8x512 .f32)
    (hf : v.read (Elt F) f = xh) :
    Put i xh w (v.read (Elt F) (v.writes (Elt F) f [⟨Rect.unit (s := S4x8x512) (k0_off2 i) S1x8x512.size h2, w⟩, ⟨Rect.unit (s := S4x8x512) (k0_off1 i) S1x8x512.size h1, z⟩])) where
  here := by
    funext y
    refine View.read_writes_cons_unit_of_mem v f h2 w _ _ y rfl fun a => ?_
    show k0_off2 i a + 1 * (y a).val = _
    omega
  other y hy := by
    refine (View.read_writes_cons_unit_of_not_mem v f h2 w _ y (k0_off2_eq i) 0 ?_).trans ?_
    · show (y 0).val < (i 2).val ∨ (i 2).val + 1 ≤ (y 0).val
      omega
    refine (View.read_writes_cons_unit_of_not_mem v f h1 z [] y (k0_off1_eq i) 0 ?_).trans (congrFun hf y)
    show (y 0).val < (i 2).val ∨ (i 2).val + 1 ≤ (y 0).val
    omega

set_option maxHeartbeats 1000000 in
/-- The first column block of the first row block. -/
theorem run_A (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : isFirst i) (hc1 : isTop i) (hc2 : ¬isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (part (k0_pay4 x0 x1) (k0_pay6 (F := F)) x2 x3 x4 x5 (k0_pay5 (F := F)) x6) ∗ owns (c : Thread nD τ) arg11 fullShare (k0_pay4 x0 x1) ∗ (∃ d, owns (c : Thread nD τ) arg12 fullShare d ∗ ⌜Put i xh (tail (k0_pay4 x0 x1) x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dout, %fo, -, HO⟩, ⟨%ds, %fs, -, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    exact View.read_writes_full (s := S512x2048) _ _ _ _ _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put₂ _ _ _ _ _ _ _ _ (harg12.read_unread _)

set_option maxHeartbeats 1000000 in
/-- The first column block of a later row block. -/
theorem run_B (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : isFirst i) (hc1 : ¬isTop i) (hc2 : ¬isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (part (k0_pay4 x0 x1) (View.ld xh (rows i)) x2 x3 x4 x5 (k0_pay5 (F := F)) x6) ∗ owns (c : Thread nD τ) arg11 fullShare (k0_pay4 x0 x1) ∗ (∃ d, owns (c : Thread nD τ) arg12 fullShare d ∗ ⌜Put i xh (tail (k0_pay4 x0 x1) x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dout, %fo, -, HO⟩, ⟨%ds, %fs, -, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    exact View.read_writes_full (s := S512x2048) _ _ _ _ _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put _ _ _ _ _ _ (harg12.read_unread _)

set_option maxHeartbeats 1000000 in
/-- A middle column block of the first row block. -/
theorem run_C (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : ¬isFirst i) (hc1 : isTop i) (hc2 : ¬isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xo : Vec F S1x512x2048 .f32) (xs : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (part xs (k0_pay6 (F := F)) x2 x3 x4 x5 xo x6) ∗ owns (c : Thread nD τ) arg11 fullShare xs ∗ (∃ d, owns (c : Thread nD τ) arg12 fullShare d ∗ ⌜Put i xh (tail xs x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  obtain rfl := harg10.eq_unread hfo; obtain rfl := harg11.eq_unread hfs
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    exact harg11.read_unread _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put₂ _ _ _ _ _ _ _ _ (harg12.read_unread _)

set_option maxHeartbeats 1000000 in
/-- A middle column block of a later row block. -/
theorem run_D (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : ¬isFirst i) (hc1 : ¬isTop i) (hc2 : ¬isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xo : Vec F S1x512x2048 .f32) (xs : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (part xs (View.ld xh (rows i)) x2 x3 x4 x5 xo x6) ∗ owns (c : Thread nD τ) arg11 fullShare xs ∗ (∃ d, owns (c : Thread nD τ) arg12 fullShare d ∗ ⌜Put i xh (tail xs x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  obtain rfl := harg10.eq_unread hfo; obtain rfl := harg11.eq_unread hfs
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    exact harg11.read_unread _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put _ _ _ _ _ _ (harg12.read_unread _)

set_option maxHeartbeats 1000000 in
/-- The last column block of the first row block. -/
theorem run_E (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : ¬isFirst i) (hc1 : isTop i) (hc2 : isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xo : Vec F S1x512x2048 .f32) (xs : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay3 x0 (part xs (k0_pay6 (F := F)) x2 x3 x4 x5 xo x6)) ∗ owns (c : Thread nD τ) arg11 fullShare xs ∗ (∃ d, owns (c : Thread nD τ) arg12 fullShare d ∗ ⌜Put i xh (tail xs x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  obtain rfl := harg10.eq_unread hfo; obtain rfl := harg11.eq_unread hfs
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    exact harg11.read_unread _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put₂ _ _ _ _ _ _ _ _ (harg12.read_unread _)

set_option maxHeartbeats 1000000 in
/-- The last column block of a later row block. -/
theorem run_G (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S512x2048 .bf16) (harg9 : arg9.IsWhole) (arg10 : Memref sig .tc .vmem S1x512x2048 .f32) (harg10 : arg10.IsWhole) (arg11 : Memref sig .tc .vmem S512x2048 .bf16) (harg11 : arg11.IsWhole) (arg12 : Memref sig .tc .vmem S4x8x512 .f32) (harg12 : arg12.IsWhole) (hc0 : ¬isFirst i) (hc1 : ¬isTop i) (hc2 : isLast i)
    (x0 : Vec F S1x512x2048 .f32) (x1 : Vec F S1x2048 .f32) (x2 : Vec F S2048x512 .bf16) (x3 : Vec F S2048x512 .bf16) (x4 : Vec F S2048x512 .bf16) (x5 : Vec F S3x512 .f32) (x6 : Vec F S512x2048 .bf16) (xo : Vec F S1x512x2048 .f32) (xs : Vec F S512x2048 .bf16) (xh : Vec F S4x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xh
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay3 x0 (part xs (View.ld xh (rows i)) x2 x3 x4 x5 xo x6)) ∗ owns (c : Thread nD τ) arg11 fullShare xs ∗ (∃ d, owns (c : Thread nD τ) arg12 fullShare d ∗ ⌜Put i xh (tail xs x3 x4) d⌝)) -∗ K ⟨⟩))
      ⊢ wp frame (wpE (defs₀ (F := F)) Variants.none c none) E (cc0_conv_mixer i arg3 harg3 arg4 harg4 arg5 harg5 arg6 harg6 arg7 harg7 arg8 harg8 arg9 harg9 arg10 harg10 arg11 harg11 arg12 harg12) K := by
  simp only [cc0_conv_mixer_eq_skeleton]; unfold cc0_conv_mixer_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, ⟨%fh, %hfh, HH⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfh
  obtain rfl := harg10.eq_unread hfo; obtain rfl := harg11.eq_unread hfs
  sl_exec (disch := first | sl_exact hc0 | sl_exact hc1 | sl_exact hc2)
  sl_step
  (try dsimp only)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HO]
  · iexists _; isplitr
    swap; · iexact HO
    ipureintro
    frame_open
    simp (disch := decide) only [View.read_writes_full, View.readAt_full, View.readCov_full, View.readCov_unit_lit', View.readCov_cons_unit_lit', View.readAt_writes_full, View.ld_unit_lit', View.readAt_eq_ld, Memref.IsWhole.read_unread, readCov_same]
    refine (View.read_writes_full (s := S1x512x2048) _ _ _ _ _).trans ?_
    (try rw [readCov_same])
    rfl
  isplitl [HS]
  · iexists _; isplitr
    swap; · iexact HS
    ipureintro
    exact harg11.read_unread _
  iexists _
  isplitl [HH]
  · iexists _; isplitr
    swap; · iexact HH
    ipureintro; rfl
  ipureintro
  frame_open
  simp (disch := decide) only [View.read_writes_full, View.readAt_full, View.readCov_full, View.readCov_unit_lit', View.readCov_cons_unit_lit', View.readAt_writes_full, View.ld_unit_lit', View.readAt_eq_ld, Memref.IsWhole.read_unread, readCov_same]
  exact put _ _ _ _ _ _ (harg12.read_unread _)

end Cert.ConvIdeal.Halo

end
-- ==== Proof.ConvIdealData.lean ====
/- The short convolution's run: what each step leaves in the output block and the scratch memory, the pipeline's proof data, and the frame. -/
module

public import proofs.«01_k».proof.Proof.ConvIdealRuns
public import proofs.«01_k».proof.Proof.Gen.ConvIdeal.Launch
public import proofs.«01_k».proof.Proof.Gen.ConvIdeal.Points
public import Idealize.ShloMosaic.Lib.Pipeline.FrameBody
public import Idealize.ShloMosaic.Lib.Tactic
public import Idealize.ShloMosaic.Lib.WordCmp

@[expose] public section

set_option maxRecDepth 16384

noncomputable section

namespace Cert.ConvIdeal.Halo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the step computes, point by point -/

/-- The grid's point of number `n`. -/
def pt (n : ℕ) : Fin cfg0.N := ⟨n % 256, lt_of_lt_of_eq (Nat.mod_lt _ (by decide)) (show 256 = cfg0.N from N_0.symm)⟩

theorem pt_val (t : Fin cfg0.N) : pt t.val = t :=
  Fin.ext (Nat.mod_eq_of_lt (lt_of_lt_of_eq t.isLt (show cfg0.N = 256 from N_0)))

/-- Window 0's block at the point of number `n`. -/
def blk0 (c : Dev nD) (n : ℕ) : Vec F S1x512x2048 .f32 := iblk m c 0 (pt n)
theorem blk0_val (c : Dev nD) (t : Fin cfg0.N) : blk0 m c t.val = iblk m c 0 t := by
  unfold blk0; rw [pt_val]

/-- Window 1's block at the point of number `n`. -/
def blk1 (c : Dev nD) (n : ℕ) : Vec F S1x2048 .f32 := iblk m c 1 (pt n)
theorem blk1_val (c : Dev nD) (t : Fin cfg0.N) : blk1 m c t.val = iblk m c 1 t := by
  unfold blk1; rw [pt_val]

/-- Window 2's block at the point of number `n`. -/
def blk2 (c : Dev nD) (n : ℕ) : Vec F S2048x512 .bf16 := iblk m c 2 (pt n)
theorem blk2_val (c : Dev nD) (t : Fin cfg0.N) : blk2 m c t.val = iblk m c 2 t := by
  unfold blk2; rw [pt_val]

/-- Window 3's block at the point of number `n`. -/
def blk3 (c : Dev nD) (n : ℕ) : Vec F S2048x512 .bf16 := iblk m c 3 (pt n)
theorem blk3_val (c : Dev nD) (t : Fin cfg0.N) : blk3 m c t.val = iblk m c 3 t := by
  unfold blk3; rw [pt_val]

/-- Window 4's block at the point of number `n`. -/
def blk4 (c : Dev nD) (n : ℕ) : Vec F S2048x512 .bf16 := iblk m c 4 (pt n)
theorem blk4_val (c : Dev nD) (t : Fin cfg0.N) : blk4 m c t.val = iblk m c 4 t := by
  unfold blk4; rw [pt_val]

/-- Window 5's block at the point of number `n`. -/
def blk5 (c : Dev nD) (n : ℕ) : Vec F S3x512 .f32 := iblk m c 5 (pt n)
theorem blk5_val (c : Dev nD) (t : Fin cfg0.N) : blk5 m c t.val = iblk m c 5 t := by
  unfold blk5; rw [pt_val]

/-- Window 6's block at the point of number `n`. -/
def blk6 (c : Dev nD) (n : ℕ) : Vec F S512x2048 .bf16 := iblk m c 6 (pt n)
theorem blk6_val (c : Dev nD) (t : Fin cfg0.N) : blk6 m c t.val = iblk m c 6 t := by
  unfold blk6; rw [pt_val]

/-- The normalized row block of the group of four steps that `n` lies in, -/
def nrm (c : Dev nD) (n : ℕ) : Vec F S512x2048 .bf16 := k0_pay4 (blk0 m c (n / 4 * 4)) (blk1 m c (n / 4 * 4))

/-- the rows that step `n` hands to the next row block, -/
def tl (c : Dev nD) (n : ℕ) : Vec F S1x8x512 .f32 := tail (nrm m c n) (blk3 m c n) (blk4 m c n)

/-- the rows it gets, -/
def prev (c : Dev nD) (n : ℕ) : Vec F S1x8x512 .f32 := if n / 4 % 32 = 0 then k0_pay6 (F := F) else tl m c (n - 4)

/-- the output block after its product is added to `o`, -/
def st (c : Dev nD) (n : ℕ) (o : Vec F S1x512x2048 .f32) : Vec F S1x512x2048 .f32 :=
  part (nrm m c n) (prev m c n) (blk2 m c n) (blk3 m c n) (blk4 m c n) (blk5 m c n) o (blk6 m c n)

/-- and the output block after step `n`. -/
def acc (c : Dev nD) : ℕ → Vec F S1x512x2048 .f32
  | 0 => st m c 0 (k0_pay5 (F := F))
  | n + 1 =>
    if (n + 1) % 4 = 0 then st m c (n + 1) (k0_pay5 (F := F))
    else if (n + 1) % 4 = 3 then k0_pay3 (blk0 m c (n + 1)) (st m c (n + 1) (acc c n))
    else st m c (n + 1) (acc c n)

/-- The output block after the first of four steps, -/
theorem acc_first (c : Dev nD) (n : ℕ) (h : n % 4 = 0) : acc m c n = st m c n (k0_pay5 (F := F)) := by
  cases n with
  | zero => rfl
  | succ n => exact if_pos h

/-- after a middle one -/
theorem acc_mid (c : Dev nD) (n : ℕ) (h : n % 4 ≠ 0) (h' : n % 4 ≠ 3) : acc m c n = st m c n (acc m c (n - 1)) := by
  cases n with
  | zero => exact absurd rfl h
  | succ n => exact (if_neg h).trans (if_neg h')

/-- and after the last. -/
theorem acc_last (c : Dev nD) (n : ℕ) (h : n % 4 = 3) : acc m c n = k0_pay3 (blk0 m c n) (st m c n (acc m c (n - 1))) := by
  cases n with
  | zero => exact absurd h (by decide)
  | succ n => exact (if_neg (by omega)).trans (if_pos h)

/-- The normalized row block stays through a group of four steps. -/
theorem nrm_eq (c : Dev nD) (n k : ℕ) (h : n / 4 = k / 4) : nrm m c n = nrm m c k := by
  unfold nrm; rw [h]

/-! ## Coordinates and conditions -/

theorem coord1 (t : Fin cfg0.N) : (grid0.coords t 1).val = t.val / 4 % 32 := Pipeline.Grid.coords_val t 1 (by decide) rfl
theorem coord2 (t : Fin cfg0.N) : (grid0.coords t 2).val = t.val % 4 :=
  (Pipeline.Grid.coords_val t 2 (by decide) rfl : (grid0.coords t 2).val = t.val / 1 % 4).trans (by rw [Nat.div_one])

/-- The first column block is at the points divisible by four, -/
theorem isFirst_iff (t : Fin cfg0.N) : isFirst (grid0.coords t) ↔ t.val % 4 = 0 := by
  have e := coord2 t
  simp only [isFirst, e]
  word_cmp

/-- the first row block at the points of row block zero, -/
theorem isTop_iff (t : Fin cfg0.N) : isTop (grid0.coords t) ↔ t.val / 4 % 32 = 0 := by
  have e := coord1 t
  simp only [isTop, k0_cond2, e]
  word_cmp

/-- and the last column block at the points that leave three. -/
theorem isLast_iff (t : Fin cfg0.N) : isLast (grid0.coords t) ↔ t.val % 4 = 3 := by
  have e := coord2 t
  simp only [isLast, e]
  word_cmp

/-! ## The carried rows -/

/-- The same column block's rows are read at every row block. -/
theorem ld_rows (d : Vec F S4x8x512 .f32) (i j : grid0.Coords) (h : (i 2).val = (j 2).val) : View.ld d (rows i) = View.ld d (rows j) := by
  have e : k0_off2 i = k0_off2 j := by rw [k0_off2_eq, k0_off2_eq, h]
  funext y
  exact congrArg d (funext fun a => Fin.ext (by
    show k0_off2 i a + 1 * (y a).val = k0_off2 j a + 1 * (y a).val
    rw [e]))

/-- Before point `n` the carried rows hold what each of the four points before handed over. -/
def Carried (c : Dev nD) (n : ℕ) (d : Vec F S4x8x512 .f32) : Prop :=
  ∀ p, p < n → n ≤ p + 4 → View.ld d (rows (grid0.coords (pt p))) = tl m c p

/-- One step of the carried rows. -/
theorem carried_step (c : Dev nD) (t : Fin cfg0.N) (h d : Vec F S4x8x512 .f32) (hh : Carried m c t.val h)
    (hp : Put (grid0.coords t) h (tl m c t.val) d) : Carried m c (t.val + 1) d := by
  have hN : t.val < 256 := lt_of_lt_of_eq t.isLt (show cfg0.N = 256 from N_0)
  intro p hp1 hp2
  by_cases e : p = t.val
  · subst e; rw [pt_val]; exact hp.here
  · rw [← hh p (by omega) (by omega)]
    funext y
    refine hp.other _ ?_
    have e1 : (grid0.coords (pt p) 2).val = p % 4 := (coord2 (pt p)).trans (by show p % 256 % 4 = _; omega)
    have e2 := coord2 t
    have e3 : k0_off2 (grid0.coords (pt p)) 0 = p % 4 := (congrFun (k0_off2_eq _) 0).trans e1
    show k0_off2 (grid0.coords (pt p)) 0 + 1 * (y 0).val ≠ _
    have e4 : (y 0).val < 1 := (y 0).isLt
    omega

/-- What a later row block gets is what the step four points before handed over. -/
theorem carried_prev (c : Dev nD) (t : Fin cfg0.N) (h : Vec F S4x8x512 .f32) (hh : Carried m c t.val h) (ht : ¬t.val / 4 % 32 = 0) :
    View.ld h (rows (grid0.coords t)) = prev m c t.val := by
  have hN : t.val < 256 := lt_of_lt_of_eq t.isLt (show cfg0.N = 256 from N_0)
  rw [prev, if_neg ht, ← hh (t.val - 4) (by omega) (by omega)]
  exact ld_rows h _ _ ((coord2 t).trans (((coord2 (pt (t.val - 4))).trans (by show (t.val - 4) % 256 % 4 = _; omega)).symm))

/-! ## The pipeline's proof data -/
abbrev ms0 (t : Fin cfg0.N) : Memref sig .tc .vmem S1x512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .bf16 := win0_2.stage (cfg0.slots t 2)
abbrev ms3 (t : Fin cfg0.N) : Memref sig .tc .vmem S2048x512 .bf16 := win0_3.stage (cfg0.slots t 3)
abbrev ms4 (t : Fin cfg0.N) : Memref sig .tc .vmem S2048x512 .bf16 := win0_4.stage (cfg0.slots t 4)
abbrev ms5 (t : Fin cfg0.N) : Memref sig .tc .vmem S3x512 .f32 := win0_5.stage (cfg0.slots t 5)
abbrev ms6 (t : Fin cfg0.N) : Memref sig .tc .vmem S512x2048 .bf16 := win0_6.stage (cfg0.slots t 6)
abbrev ms7 (t : Fin cfg0.N) : Memref sig .tc .vmem S1x512x2048 .f32 := win0_7.stage (cfg0.slots t 7)
/-- The scratch memory: the normalized row block, -/
abbrev sc0 : Memref sig .tc .vmem S512x2048 .bf16 := Memref.whole cc0_scratch0
/-- and the carried rows. -/
abbrev sc1 : Memref sig .tc .vmem S4x8x512 .f32 := Memref.whole cc0_scratch1

/-- What the launch hands over, as memory owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `n`: inside a group of four steps the first scratch holds the group's normalized row block; the second
    holds the carried rows. -/
def Phi (c : Dev nD) (n : ℕ) : sProp 𝕄 :=
  iprop((∃ d, owns (c : Thread nD τ) sc0 fullShare d ∗ ⌜n % 4 ≠ 0 → d = nrm m c n⌝)
    ∗ (∃ d, owns (c : Thread nD τ) sc1 fullShare d ∗ ⌜Carried m c n d⌝) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc m c t.val
  Φ t := Phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = acc m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After the first of four steps the output block's buffer holds what the step before left. -/
theorem before_7 (c : Dev nD) (t : Fin cfg0.N) (h0 : ¬t.val % 4 = 0) (d) : (dats m 0 c).before 7 t d = acc m c (t.val - 1) := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = Phi m c (t.val + 1) from rfl, show (dats m 0 c).Φ t.castSucc = Phi m c t.val from rfl]
  have hN : t.val < 256 := lt_of_lt_of_eq t.isLt (show cfg0.N = 256 from N_0)
  unfold Phi
  by_cases h0 : t.val % 4 = 0
  · have h2 : ¬t.val % 4 = 3 := by omega
    by_cases h1 : t.val / 4 % 32 = 0
    · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) _ _ _ _ _ _ _ _ _ _ _ _ _ _ _ _ _ _ _ _ ((isFirst_iff t).mpr h0) ((isTop_iff t).mpr h1) (fun h => h2 ((isLast_iff t).mp h)) (iblk m c 0 t) (iblk m c 1 t) (iblk m c 2 t) (iblk m c 3 t) (iblk m c 4 t) (iblk m c 5 t) (iblk m c 6 t) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      isplitl [HH]; · iexact HH
      iintro ⟨H0, H1, H2, H3, H4, H5, H6, H7, HS, ⟨%d, HH, %hp⟩⟩
      have en : k0_pay4 (iblk m c 0 t) (iblk m c 1 t) = nrm m c t.val := by
        rw [← blk0_val, ← blk1_val, nrm, show t.val / 4 * 4 = t.val by omega]
      rw [en] at hp
      rw [en]
      rw [← blk3_val, ← blk4_val] at hp
      have ep : (k0_pay6 (F := F)) = prev m c t.val := (if_pos h1).symm
      isplitl [HS HH Hg]
      · isplitl [HS]
        · iexists _; isplitl; · iexact HS
          ipureintro; intro h; exact nrm_eq m c _ _ (by omega)
        isplitl [HH]
        · iexists _; isplitl; · iexact HH
          ipureintro; exact carried_step m c t xh d hh hp
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [acc_first m c _ h0, st, ← ep, blk2_val, blk3_val, blk4_val, blk5_val, blk6_val]
      iexact H7
    · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ _ _ ((isFirst_iff t).mpr h0) (fun h => h1 ((isTop_iff t).mp h)) (fun h => h2 ((isLast_iff t).mp h)) (iblk m c 0 t) (iblk m c 1 t) (iblk m c 2 t) (iblk m c 3 t) (iblk m c 4 t) (iblk m c 5 t) (iblk m c 6 t) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      isplitl [HH]; · iexact HH
      iintro ⟨H0, H1, H2, H3, H4, H5, H6, H7, HS, ⟨%d, HH, %hp⟩⟩
      have en : k0_pay4 (iblk m c 0 t) (iblk m c 1 t) = nrm m c t.val := by
        rw [← blk0_val, ← blk1_val, nrm, show t.val / 4 * 4 = t.val by omega]
      rw [en] at hp
      rw [en]
      rw [← blk3_val, ← blk4_val] at hp
      have ep : View.ld xh (rows (grid0.coords t)) = prev m c t.val := carried_prev m c t xh hh h1
      isplitl [HS HH Hg]
      · isplitl [HS]
        · iexists _; isplitl; · iexact HS
          ipureintro; intro h; exact nrm_eq m c _ _ (by omega)
        isplitl [HH]
        · iexists _; isplitl; · iexact HH
          ipureintro; exact carried_step m c t xh d hh hp
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [acc_first m c _ h0, st, ← ep, blk2_val, blk3_val, blk4_val, blk5_val, blk6_val]
      iexact H7
  · simp only [before_7 m c t h0]
    by_cases h2 : t.val % 4 = 3
    · by_cases h1 : t.val / 4 % 32 = 0
      · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl := hs h0
        iapply (run_E c (grid0.coords t) _ _ _ _ _ _ _ _ _ _ _ _ _ _ _ _ _ _ _ _ (fun h => h0 ((isFirst_iff t).mp h)) ((isTop_iff t).mpr h1) ((isLast_iff t).mpr h2) (iblk m c 0 t) (iblk m c 1 t) (iblk m c 2 t) (iblk m c 3 t) (iblk m c 4 t) (iblk m c 5 t) (iblk m c 6 t) (acc m c (t.val - 1)) (nrm m c t.val) xh Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        isplitl [HH]; · iexact HH
        iintro ⟨H0, H1, H2, H3, H4, H5, H6, H7, HS, ⟨%d, HH, %hp⟩⟩
        rw [← blk3_val, ← blk4_val] at hp
        have ep : (k0_pay6 (F := F)) = prev m c t.val := (if_pos h1).symm
        isplitl [HS HH Hg]
        · isplitl [HS]
          · iexists _; isplitl; · iexact HS
            ipureintro; intro h; exact nrm_eq m c _ _ (by omega)
          isplitl [HH]
          · iexists _; isplitl; · iexact HH
            ipureintro; exact carried_step m c t xh d hh hp
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        rw [acc_last m c _ h2, st, ← ep, blk0_val, blk2_val, blk3_val, blk4_val, blk5_val, blk6_val]
        iexact H7
      · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl := hs h0
        iapply (run_G c (grid0.coords t) _ _ _ _ _ _ _ _ _ _ _ _ _ _ _ _ _ _ _ _ (fun h => h0 ((isFirst_iff t).mp h)) (fun h => h1 ((isTop_iff t).mp h)) ((isLast_iff t).mpr h2) (iblk m c 0 t) (iblk m c 1 t) (iblk m c 2 t) (iblk m c 3 t) (iblk m c 4 t) (iblk m c 5 t) (iblk m c 6 t) (acc m c (t.val - 1)) (nrm m c t.val) xh Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        isplitl [HH]; · iexact HH
        iintro ⟨H0, H1, H2, H3, H4, H5, H6, H7, HS, ⟨%d, HH, %hp⟩⟩
        rw [← blk3_val, ← blk4_val] at hp
        have ep : View.ld xh (rows (grid0.coords t)) = prev m c t.val := carried_prev m c t xh hh h1
        isplitl [HS HH Hg]
        · isplitl [HS]
          · iexists _; isplitl; · iexact HS
            ipureintro; intro h; exact nrm_eq m c _ _ (by omega)
          isplitl [HH]
          · iexists _; isplitl; · iexact HH
            ipureintro; exact carried_step m c t xh d hh hp
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        rw [acc_last m c _ h2, st, ← ep, blk0_val, blk2_val, blk3_val, blk4_val, blk5_val, blk6_val]
        iexact H7
    · by_cases h1 : t.val / 4 % 32 = 0
      · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl := hs h0
        iapply (run_C c (grid0.coords t) _ _ _ _ _ _ _ _ _ _ _ _ _ _ _ _ _ _ _ _ (fun h => h0 ((isFirst_iff t).mp h)) ((isTop_iff t).mpr h1) (fun h => h2 ((isLast_iff t).mp h)) (iblk m c 0 t) (iblk m c 1 t) (iblk m c 2 t) (iblk m c 3 t) (iblk m c 4 t) (iblk m c 5 t) (iblk m c 6 t) (acc m c (t.val - 1)) (nrm m c t.val) xh Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        isplitl [HH]; · iexact HH
        iintro ⟨H0, H1, H2, H3, H4, H5, H6, H7, HS, ⟨%d, HH, %hp⟩⟩
        rw [← blk3_val, ← blk4_val] at hp
        have ep : (k0_pay6 (F := F)) = prev m c t.val := (if_pos h1).symm
        isplitl [HS HH Hg]
        · isplitl [HS]
          · iexists _; isplitl; · iexact HS
            ipureintro; intro h; exact nrm_eq m c _ _ (by omega)
          isplitl [HH]
          · iexists _; isplitl; · iexact HH
            ipureintro; exact carried_step m c t xh d hh hp
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        rw [acc_mid m c _ h0 h2, st, ← ep, blk2_val, blk3_val, blk4_val, blk5_val, blk6_val]
        iexact H7
      · iintro ⟨⟨⟨%s, HS, %hs⟩, ⟨%xh, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl := hs h0
        iapply (run_D c (grid0.coords t) _ _ _ _ _ _ _ _ _ _ _ _ _ _ _ _ _ _ _ _ (fun h => h0 ((isFirst_iff t).mp h)) (fun h => h1 ((isTop_iff t).mp h)) (fun h => h2 ((isLast_iff t).mp h)) (iblk m c 0 t) (iblk m c 1 t) (iblk m c 2 t) (iblk m c 3 t) (iblk m c 4 t) (iblk m c 5 t) (iblk m c 6 t) (acc m c (t.val - 1)) (nrm m c t.val) xh Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        isplitl [HH]; · iexact HH
        iintro ⟨H0, H1, H2, H3, H4, H5, H6, H7, HS, ⟨%d, HH, %hp⟩⟩
        rw [← blk3_val, ← blk4_val] at hp
        have ep : View.ld xh (rows (grid0.coords t)) = prev m c t.val := carried_prev m c t xh hh h1
        isplitl [HS HH Hg]
        · isplitl [HS]
          · iexists _; isplitl; · iexact HS
            ipureintro; intro h; exact nrm_eq m c _ _ (by omega)
          isplitl [HH]
          · iexists _; isplitl; · iexact HH
            ipureintro; exact carried_step m c t xh d hh hp
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        rw [acc_mid m c _ h0 h2, st, ← ep, blk2_val, blk3_val, blk4_val, blk5_val, blk6_val]
        iexact H7

theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%d, HS⟩, ⟨%e, HH⟩⟩, Hg⟩
  isplitl [HS]
  · iexists _; isplitl; · iexact HS
    ipureintro; intro h; exact absurd rfl h
  isplitl [HH]
  · iexists _; isplitl; · iexact HH
    ipureintro; intro p hp; exact absurd hp (Nat.not_lt_zero p)
  iexact Hg

/-- The invariant after the last point gives it back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%d, HS, -⟩, ⟨%e, HH, -⟩, Hg⟩
  isplitl [HS HH]
  · isplitl [HS]
    · iexists _; iexact HS
    iexists _; iexact HH
  iexact Hg

set_option backward.isDefEq.respectTransparency.types false in
/-- The run, every semaphore at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, each array at what the proof data give. -/
theorem run_main : θ_run defs (onTc (τ := τ) (main (F := F))) (s₀ m ρ) (Pipeline.FramePost cfgs (dats m) 0 (V m)) :=
  (θ_run defs _ _).mono (fun _ h => h.1) (run_quiescent m ρ)

/-- The frame claim: the program terminates, the arguments end as they began and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.ConvIdeal.Halo

end
-- ==== Proof.ConvPoint.lean ====
/- The short convolution: the layer's formula, and the kernel's payloads read at an index. -/
module

public import proofs.«01_k».proof.Proof.ConvIdealRuns
public import proofs.«01_k».proof.Proof.FfnPoint
public import Idealize.ShloMosaic.Lib.Pointwise

@[expose] public section

set_option maxRecDepth 16384

noncomputable section

namespace Cert.ConvMath

open Idealize.ShloMosaic Idealize.ShloMosaic.TcCoe Idealize.SL.Sem
open Cert.ConvIdeal Cert.ConvIdeal.Gen
open Cert.FfnMath

section Formula

variable (x : FVec Ideal S2x16384x2048 .f32) (g : FVec Ideal S2048 .f32) (w : FVec Ideal S2048x6144 .f32) (cw : FVec Ideal S3x2048 .f32)
  (wo : FVec Ideal S2048x2048 .f32) (b : Fin 2) (R : Fin 16384)

/-- The normalised row `R` of batch `b`. -/
def hrow : Fin 2048 → EReal := FfnMath.norm (fun l => x (ix3 b R l)) fun l => g (ix1 l)

/-- Column `k` of the row's three projections, side by side. -/
def proj (k : Fin 6144) : EReal := ∑ l, hrow x g b R l * w (ix2 l k)

/-- What the convolution runs over: the product of the second and the third projection. -/
def gate (j : Fin 2048) : EReal := proj x g w b R ⟨2048 + j.val, by omega⟩ * proj x g w b R ⟨4096 + j.val, by omega⟩

/-- That product `s` rows earlier, zero before the first row. -/
def back (s : ℕ) (j : Fin 2048) : EReal := if s ≤ R.val then gate x g w b ⟨R.val - s, by omega⟩ j else 0

/-- The first projection times the three weighted rows. -/
def mix (j : Fin 2048) : EReal :=
  proj x g w b R ⟨j.val, by omega⟩ * (cw (ix2 0 j) * back x g w b R 2 j + cw (ix2 1 j) * back x g w b R 1 j + cw (ix2 2 j) * gate x g w b R j)

/-- The convolution mixer with its residual: row `R` of batch `b`, column `d` of the result. -/
def mixer (d : Fin 2048) : EReal := x (ix3 b R d) + ∑ j, mix x g w cw b R j * wo (ix2 j d)

end Formula

/-- The first payload keeps the last eight rows. -/
theorem pay1_at (u : Vec Ideal S512x512 .f32) (e : Fin 8) (j : Fin 512) :
    k0_pay1 (F := Ideal) u (ix3 0 e j) = u (ix2 ⟨504 + e.val, by omega⟩ j) := by
  pointwise [k0_pay1]

/-- The last payload adds the input. -/
theorem pay3_at (x o : Vec Ideal S1x512x2048 .f32) (r : Fin 512) (d : Fin 2048) :
    k0_pay3 (F := Ideal) x o (ix3 0 r d) = x (ix3 0 r d) + o (ix3 0 r d) := by
  pointwise [k0_pay3]

/-- The normalised row. -/
theorem pay4_at (x : Vec Ideal S1x512x2048 .f32) (g : Vec Ideal S1x2048 .f32) (r : Fin 512) (k : Fin 2048) :
    k0_pay4 (F := Ideal) x g (ix2 r k) = FfnMath.norm (fun l => x (ix3 0 r l)) (fun l => g (ix2 0 l)) k := by
  pointwise [k0_pay4, FfnMath.norm]

/-- The reset of the output block. -/
theorem pay5_at (r : Fin 512) (d : Fin 2048) : k0_pay5 (F := Ideal) (ix3 0 r d) = 0 := by
  pointwise [k0_pay5]

/-- The reset of the carried rows. -/
theorem pay6_at (e : Fin 8) (j : Fin 512) : k0_pay6 (F := Ideal) (ix3 0 e j) = 0 := by
  pointwise [k0_pay6]

/-- One projection. -/
theorem pay7_at (s : Vec Ideal S512x2048 .bf16) (w : Vec Ideal S2048x512 .bf16) (r j : Fin 512) :
    k0_pay7 (F := Ideal) s w (ix2 r j) = ∑ l : Fin 2048, s (ix2 r l) * w (ix2 l j) := by
  pointwise [k0_pay7]

/-- The product of two projections. -/
theorem pay8_at (s : Vec Ideal S512x2048 .bf16) (u w : Vec Ideal S2048x512 .bf16) (r j : Fin 512) :
    k0_pay8 (F := Ideal) s u w (ix2 r j) = (∑ l : Fin 2048, s (ix2 r l) * u (ix2 l j)) * ∑ l : Fin 2048, s (ix2 r l) * w (ix2 l j) := by
  pointwise [k0_pay8]

/-- The last of the carried rows. -/
theorem pay10_at (p : Vec Ideal S1x8x512 .f32) (j : Fin 512) : k0_pay10 (F := Ideal) p (ix2 0 j) = p (ix3 0 7 j) := by
  pointwise [k0_pay10, k0_pay9]

/-- The one before it. -/
theorem pay11_at (p : Vec Ideal S1x8x512 .f32) (j : Fin 512) : k0_pay11 (F := Ideal) p (ix2 0 j) = p (ix3 0 6 j) := by
  pointwise [k0_pay11, k0_pay9]

/-- A counter below 512 equals a small word exactly when the numbers are equal. -/
theorem mask (r : Fin 512) (n : ℕ) (hn : n < 512) :
    (IntOp.cmpi .eq (BitVec.ofNat 32 r.val) (BitVec.ofNat 32 n) = 1#1) ↔ r.val = n := by
  have e : ∀ c : Bool, BitVec.ofBool c = 1#1 ↔ c = true := by decide
  unfold IntOp.cmpi
  rw [e, beq_iff_eq, ← BitVec.toNat_inj, BitVec.toNat_ofNat, BitVec.toNat_ofNat, Nat.mod_eq_of_lt (by omega), Nat.mod_eq_of_lt (by omega)]

/-- A choice by such a comparison. -/
theorem pick (r : Fin 512) (n : ℕ) (hn : n < 512) (a b : EReal) :
    Scalar.select (IntOp.cmpi .eq (BitVec.ofNat 32 r.val) (BitVec.ofNat 32 n)) a b = if r.val = n then a else b :=
  if_congr (mask r n hn) rfl rfl

/-- The product one row earlier: the rows turned by one, the first taken from the carried rows. -/
theorem pay12_at (s : Vec Ideal S512x2048 .bf16) (u w : Vec Ideal S2048x512 .bf16) (p : Vec Ideal S1x8x512 .f32) (r j : Fin 512) :
    k0_pay12 (F := Ideal) s u w p (ix2 r j)
      = if r.val = 0 then p (ix3 0 7 j) else k0_pay8 (F := Ideal) s u w (ix2 ⟨r.val - 1, by omega⟩ j) := by
  generalize hq : k0_pay8 (F := Ideal) s u w = q
  pointwise [k0_pay12, k0_pay10, k0_pay9, hq]
  have hr := r.isLt
  refine (pick r 0 (by decide) _ _).trans ?_
  by_cases h : r.val = 0
  · exact (if_pos h).trans (if_pos h).symm
  · refine (if_neg h).trans (Eq.trans ?_ (if_neg h).symm)
    exact congrArg (fun i : Fin 512 => q (ix2 i j)) (Fin.ext (by show (r.val + 512 - 1) % 512 = r.val - 1; omega))

/-- The accumulating payload: the first projection times the three weighted rows, through one block of the second weights. -/
theorem pay2_at (a q : Vec Ideal S512x512 .f32) (p1 p2 : Vec Ideal S1x512 .f32) (r1 : Vec Ideal S512x512 .f32) (cw : Vec Ideal S3x512 .f32)
    (o : Vec Ideal S1x512x2048 .f32) (wo : Vec Ideal S512x2048 .bf16) (r : Fin 512) (d : Fin 2048) :
    k0_pay2 (F := Ideal) a q p1 p2 r1 k0_pay13 k0_pay14 2#32 cw o wo (ix3 0 r d)
      = o (ix3 0 r d) + ∑ j : Fin 512, (a (ix2 r j) * (cw (ix2 0 j) * (if r.val = 0 then p2 (ix2 0 j) else if r.val = 1 then p1 (ix2 0 j)
          else q (ix2 ⟨r.val - 2, by omega⟩ j)) + cw (ix2 1 j) * r1 (ix2 r j) + cw (ix2 2 j) * q (ix2 r j))) * wo (ix2 j d) := by
  pointwise [k0_pay2, k0_pay13, k0_pay14]
  have hr := r.isLt
  refine congrArg _ (Finset.sum_congr rfl fun j _ => ?_)
  refine congrArg (fun z : EReal => a (ix2 r j) * (cw (ix2 0 j) * z + cw (ix2 1 j) * r1 (ix2 r j) + cw (ix2 2 j) * q (ix2 r j)) * wo (ix2 j d)) ?_
  refine (pick r 0 (by decide) _ _).trans ?_
  by_cases h : r.val = 0
  · exact (if_pos h).trans (if_pos h).symm
  · refine (if_neg h).trans (Eq.trans ?_ (if_neg h).symm)
    refine (pick r 1 (by decide) _ _).trans ?_
    by_cases h1 : r.val = 1
    · exact (if_pos h1).trans (if_pos h1).symm
    · refine (if_neg h1).trans (Eq.trans ?_ (if_neg h1).symm)
      exact congrArg (fun i : Fin 512 => q (ix2 i j)) (Fin.ext (by show (r.val + 512 - 2) % 512 = r.val - 2; omega))

end Cert.ConvMath

end
-- ==== Proof.ConvArray.lean ====
/- The short convolution: each block of a step as a part of an argument array. -/
module

public import proofs.«01_k».proof.Proof.ConvIdealData
public import proofs.«01_k».proof.Proof.ConvPoint
public import Idealize.ShloMosaic.Lib.Pipeline.ValueKit

@[expose] public section

set_option maxRecDepth 16384

noncomputable section

namespace Cert.ConvIdeal.Value

open Cert.ConvIdeal Cert.ConvIdeal.Gen Cert.ConvIdeal.Halo Idealize.ShloMosaic Idealize.ShloMosaic.TcCoe Idealize.SL.Sem
open Idealize.ShloMosaic.Pipeline (Dat)
open Cert.ConvMath (hrow proj gate back mix mixer)

variable (m : (ℓ : Loc nD τ sig) → Buf (Elt Ideal) ℓ)

/-- Where each window's block sits at grid point `t`. -/
theorem idx : ∀ t : Fin cfg0.N, win0_0.index t = ![t.val / 128, t.val / 4 % 32, 0] ∧ win0_1.index t = ![0, 0] ∧ win0_2.index t = ![0, t.val % 4]
    ∧ win0_3.index t = ![0, t.val % 4 + 4] ∧ win0_4.index t = ![0, t.val % 4 + 8] ∧ win0_5.index t = ![0, t.val % 4] ∧ win0_6.index t = ![t.val % 4, 0]
    ∧ win0_7.index t = ![t.val / 128, t.val / 4 % 32, 0] ∧ t.val / 128 < 2 :=
  (by decide +kernel : ∀ t : Fin grid0.N, _)

/-- The kernel's arguments as arrays. -/
abbrev X (c : Dev nD) : FVec Ideal S2x16384x2048 .f32 := m ((c : Thread nD τ).loc main_arg0)
abbrev Gw (c : Dev nD) : FVec Ideal S2048 .f32 := m ((c : Thread nD τ).loc main_arg1)
abbrev Wi (c : Dev nD) : FVec Ideal S2048x6144 .f32 := m ((c : Thread nD τ).loc main_arg2)
abbrev Cw (c : Dev nD) : FVec Ideal S3x2048 .f32 := m ((c : Thread nD τ).loc main_arg3)
abbrev Wo (c : Dev nD) : FVec Ideal S2048x2048 .f32 := m ((c : Thread nD τ).loc main_arg4)

/-- The input block at a point holds 512 rows of the input. -/
theorem in_x (c : Dev nD) (t : Fin cfg0.N) (r : Fin 512) (l : Fin 2048) (B : Fin 2) (R : Fin 16384) (hB : B.val = t.val / 128) (hR : R.val = t.val / 4 % 32 * 512 + r.val) :
    (iblk m c 0 t : Vec Ideal S1x512x2048 .f32) (ix3 0 r l) = X m c (ix3 B R l) := by
  blk_ext [iblk, V, idx t]

theorem in_g (c : Dev nD) (t : Fin cfg0.N) (l : Fin 2048) :
    (iblk m c 1 t : Vec Ideal S1x2048 .f32) (ix2 0 l) = Gw m c (ix1 l) := by
  blk_ext! [iblk, idx t]

theorem in_a (c : Dev nD) (t : Fin cfg0.N) (l : Fin 2048) (j : Fin 512) (f : Fin 6144) (hf : f.val = t.val % 4 * 512 + j.val) :
    (iblk m c 2 t : Vec Ideal S2048x512 .bf16) (ix2 l j) = Wi m c (ix2 l f) := by
  blk_ext! [iblk, idx t]

theorem in_b (c : Dev nD) (t : Fin cfg0.N) (l : Fin 2048) (j : Fin 512) (f : Fin 6144) (hf : f.val = 2048 + t.val % 4 * 512 + j.val) :
    (iblk m c 3 t : Vec Ideal S2048x512 .bf16) (ix2 l j) = Wi m c (ix2 l f) := by
  blk_ext! [iblk, idx t]

theorem in_c (c : Dev nD) (t : Fin cfg0.N) (l : Fin 2048) (j : Fin 512) (f : Fin 6144) (hf : f.val = 4096 + t.val % 4 * 512 + j.val) :
    (iblk m c 4 t : Vec Ideal S2048x512 .bf16) (ix2 l j) = Wi m c (ix2 l f) := by
  blk_ext! [iblk, idx t]

theorem in_w (c : Dev nD) (t : Fin cfg0.N) (s : Fin 3) (j : Fin 512) (f : Fin 2048) (hf : f.val = t.val % 4 * 512 + j.val) :
    (iblk m c 5 t : Vec Ideal S3x512 .f32) (ix2 s j) = Cw m c (ix2 s f) := by
  blk_ext [iblk, V, idx t]

theorem in_o (c : Dev nD) (t : Fin cfg0.N) (j : Fin 512) (d : Fin 2048) (f : Fin 2048) (hf : f.val = t.val % 4 * 512 + j.val) :
    (iblk m c 6 t : Vec Ideal S512x2048 .bf16) (ix2 j d) = Wo m c (ix2 f d) := by
  blk_ext! [iblk, idx t]

/-- The point of a number below 256 has that number. -/
theorem pt_lt (n : ℕ) (hn : n < 256) : (pt n).val = n := Nat.mod_eq_of_lt hn

end Cert.ConvIdeal.Value

end
-- ==== Proof.ConvSum.lean ====
/- The short convolution: what a step adds, and the result array after the run. -/
module

public import proofs.«01_k».proof.Proof.ConvArray

@[expose] public section

set_option maxRecDepth 16384

noncomputable section

namespace Cert.ConvIdeal.Value

open Cert.ConvIdeal Cert.ConvIdeal.Gen Cert.ConvIdeal.Halo Idealize.ShloMosaic Idealize.ShloMosaic.TcCoe Idealize.SL.Sem
open Idealize.ShloMosaic.Pipeline (Dat)
open Cert.ConvMath (hrow proj gate back mix mixer)

variable (m : (ℓ : Loc nD τ sig) → Buf (Elt Ideal) ℓ)

/-- The normalised rows of a step are the layer's. -/
theorem nrm_at (c : Dev nD) (n : ℕ) (hn : n < 256) (r : Fin 512) (l : Fin 2048) (B : Fin 2) (R : Fin 16384) (hB : B.val = n / 128)
    (hR : R.val = n / 4 % 32 * 512 + r.val) : nrm m c n (ix2 r l) = hrow (X m c) (Gw m c) B R l := by
  have hp := pt_lt (n / 4 * 4) (by omega)
  unfold nrm hrow
  rw [ConvMath.pay4_at]
  refine congr (congr (congrArg FfnMath.norm (funext fun l => ?_)) (funext fun l => ?_)) rfl
  · exact in_x m c _ r l B R (by omega) (by omega)
  · exact in_g m c _ l

/-- One product with a column of the input weights. -/
theorem dot_at (c : Dev nD) (n : ℕ) (hn : n < 256) (r : Fin 512) (B : Fin 2) (R : Fin 16384) (hB : B.val = n / 128)
    (hR : R.val = n / 4 % 32 * 512 + r.val) (u : Fin 2048 → EReal) (k : Fin 6144) (hu : ∀ l, u l = Wi m c (ix2 l k)) :
    (∑ l : Fin 2048, (show EReal from nrm m c n (ix2 r l)) * u l) = proj (X m c) (Gw m c) (Wi m c) B R k := by
  unfold proj
  exact Finset.sum_congr rfl fun l _ => congrArg₂ (fun a b : EReal => a * b) (nrm_at m c n hn r l B R hB hR) (hu l)

/-- The step's product of two projections. -/
theorem cu_at (c : Dev nD) (n : ℕ) (hn : n < 256) (r j : Fin 512) (B : Fin 2) (R : Fin 16384) (J : Fin 2048) (hB : B.val = n / 128)
    (hR : R.val = n / 4 % 32 * 512 + r.val) (hJ : J.val = n % 4 * 512 + j.val) :
    k0_pay8 (F := Ideal) (nrm m c n) (blk3 m c n) (blk4 m c n) (ix2 r j) = gate (X m c) (Gw m c) (Wi m c) B R J := by
  have hp := pt_lt n hn
  rw [ConvMath.pay8_at]
  unfold gate
  refine congrArg₂ (fun a b : EReal => a * b) ?_ ?_
  · exact dot_at m c n hn r B R hB hR _ _ fun l => in_b m c _ l j _ (by dsimp only; omega)
  · exact dot_at m c n hn r B R hB hR _ _ fun l => in_c m c _ l j _ (by dsimp only; omega)

/-- The rows handed on are the last eight of the block. -/
theorem tl_at (c : Dev nD) (n : ℕ) (hn : n < 256) (e : Fin 8) (j : Fin 512) (B : Fin 2) (R : Fin 16384) (J : Fin 2048) (hB : B.val = n / 128)
    (hR : R.val = n / 4 % 32 * 512 + 504 + e.val) (hJ : J.val = n % 4 * 512 + j.val) :
    tl m c n (ix3 0 e j) = gate (X m c) (Gw m c) (Wi m c) B R J := by
  unfold tl tail cu
  rw [ConvMath.pay1_at]
  exact cu_at m c n hn _ j B R J hB (by dsimp only; omega) hJ

/-- The rows a step gets are the ones before its block, and zero before the first. -/
theorem prev_at (c : Dev nD) (n : ℕ) (hn : n < 256) (e : Fin 8) (j : Fin 512) (B : Fin 2) (R : Fin 16384) (J : Fin 2048) (s : ℕ) (hB : B.val = n / 128)
    (hR : R.val + 8 = n / 4 % 32 * 512 + e.val + s) (hJ : J.val = n % 4 * 512 + j.val) :
    prev m c n (ix3 0 e j) = back (X m c) (Gw m c) (Wi m c) B R s J := by
  have he := e.isLt
  unfold prev back
  by_cases h : n / 4 % 32 = 0
  · rw [if_pos h, if_neg (by omega)]
    exact ConvMath.pay6_at e j
  · rw [if_neg h, if_pos (by omega)]
    exact tl_at m c (n - 4) (by omega) e j B _ J (by omega) (by dsimp only; omega) (by omega)

/-- Column `J` of the mixed row, times its weight towards column `d`. -/
def term (c : Dev nD) (B : Fin 2) (R : Fin 16384) (d J : Fin 2048) : EReal :=
  mix (X m c) (Gw m c) (Wi m c) (Cw m c) B R J * Wo m c (ix2 J d)

/-- The sum of the 512 columns of block `a`. -/
def share (c : Dev nD) (B : Fin 2) (R : Fin 16384) (d : Fin 2048) (a : ℕ) : EReal :=
  ∑ j : Fin 512, term m c B R d ⟨(a * 512 + j.val) % 2048, Nat.mod_lt _ (by decide)⟩

/-- A step adds its block's share. -/
theorem st_at (c : Dev nD) (n : ℕ) (hn : n < 256) (o : Vec Ideal S1x512x2048 .f32) (r : Fin 512) (d : Fin 2048) (B : Fin 2) (R : Fin 16384) (hB : B.val = n / 128)
    (hR : R.val = n / 4 % 32 * 512 + r.val) : st m c n o (ix3 0 r d) = (show EReal from o (ix3 0 r d)) + share m c B R d (n % 4) := by
  have hp := pt_lt n hn
  have hr := r.isLt
  unfold st part cu
  rw [ConvMath.pay2_at]
  unfold share
  refine congrArg _ (Finset.sum_congr rfl fun j _ => ?_)
  have hj := j.isLt
  have eJ : (n % 4 * 512 + j.val) % 2048 = n % 4 * 512 + j.val := Nat.mod_eq_of_lt (by omega)
  generalize hJ' : (⟨(n % 4 * 512 + j.val) % 2048, Nat.mod_lt _ (by decide)⟩ : Fin 2048) = J
  have hJ : J.val = n % 4 * 512 + j.val := by rw [← hJ']; exact eJ
  clear hJ' eJ
  have hcw : ∀ s : Fin 3, blk5 m c n (ix2 s j) = Cw m c (ix2 s J) := fun s => in_w m c _ s j J (by rw [hp]; exact hJ)
  have hwo : blk6 m c n (ix2 j d) = Wo m c (ix2 J d) := in_o m c _ j d J (by rw [hp]; exact hJ)
  have h7 : k0_pay7 (F := Ideal) (nrm m c n) (blk2 m c n) (ix2 r j) = proj (X m c) (Gw m c) (Wi m c) B R ⟨J.val, by omega⟩ := by
    rw [ConvMath.pay7_at]
    exact dot_at m c n hn r B R hB hR _ _ fun l => in_a m c _ l j _ (by dsimp only; omega)
  have h0 : k0_pay8 (F := Ideal) (nrm m c n) (blk3 m c n) (blk4 m c n) (ix2 r j) = gate (X m c) (Gw m c) (Wi m c) B R J := cu_at m c n hn r j B R J hB hR hJ
  have hb : ∀ (q : Fin 512) (s : ℕ), s ≤ r.val → q.val = r.val - s →
      k0_pay8 (F := Ideal) (nrm m c n) (blk3 m c n) (blk4 m c n) (ix2 q j) = back (X m c) (Gw m c) (Wi m c) B R s J := fun q s hs hq => by
    unfold back
    rw [if_pos (by omega)]
    exact cu_at m c n hn q j B _ J hB (by dsimp only; omega) hJ
  have h1 : k0_pay12 (F := Ideal) (nrm m c n) (blk3 m c n) (blk4 m c n) (prev m c n) (ix2 r j) = back (X m c) (Gw m c) (Wi m c) B R 1 J := by
    rw [ConvMath.pay12_at]
    by_cases h : r.val = 0
    · exact (if_pos h).trans (prev_at m c n hn 7 j B R J 1 hB (by show R.val + 8 = n / 4 % 32 * 512 + 7 + 1; omega) hJ)
    · exact (if_neg h).trans (hb _ 1 (by omega) rfl)
  have h2 : (if r.val = 0 then k0_pay11 (F := Ideal) (prev m c n) (ix2 0 j) else if r.val = 1 then k0_pay10 (F := Ideal) (prev m c n) (ix2 0 j)
      else k0_pay8 (F := Ideal) (nrm m c n) (blk3 m c n) (blk4 m c n) (ix2 ⟨r.val - 2, by omega⟩ j)) = back (X m c) (Gw m c) (Wi m c) B R 2 J := by
    by_cases h : r.val = 0
    · exact (if_pos h).trans ((ConvMath.pay11_at _ _).trans (prev_at m c n hn 6 j B R J 2 hB (by show R.val + 8 = n / 4 % 32 * 512 + 6 + 2; omega) hJ))
    · refine (if_neg h).trans ?_
      by_cases h' : r.val = 1
      · exact (if_pos h').trans ((ConvMath.pay10_at _ _).trans (prev_at m c n hn 7 j B R J 2 hB (by show R.val + 8 = n / 4 % 32 * 512 + 7 + 2; omega) hJ))
      · exact (if_neg h').trans (hb _ 2 (by omega) rfl)
  unfold term mix
  refine congrArg₂ (fun a b : EReal => a * b) (congrArg₂ (fun a b : EReal => a * b) h7 (congrArg₂ (fun a b : EReal => a + b)
    (congrArg₂ (fun a b : EReal => a + b) (congrArg₂ (fun a b : EReal => a * b) (hcw 0) h2) (congrArg₂ (fun a b : EReal => a * b) (hcw 1) h1))
    (congrArg₂ (fun a b : EReal => a * b) (hcw 2) h0))) hwo

/-- What the output block holds before the last of four steps: the shares so far. -/
theorem sweep (c : Dev nD) (q : ℕ) (hq : q < 64) (r : Fin 512) (d : Fin 2048) (B : Fin 2) (R : Fin 16384) (hB : B.val = q / 32)
    (hR : R.val = q % 32 * 512 + r.val) : ∀ a, a < 3 → acc m c (4 * q + a) (ix3 0 r d) = ∑ i ∈ Finset.range (a + 1), share m c B R d i
  | 0, _ => by
    rw [acc_first m c _ (by omega), st_at m c _ (by omega) _ r d B R (by omega) (by omega), ConvMath.pay5_at]
    have e0 : (4 * q + 0) % 4 = 0 := by omega
    simp only [e0, zero_add, Finset.range_one, Finset.sum_singleton]
  | a + 1, ha => by
    have e1 : 4 * q + (a + 1) - 1 = 4 * q + a := by omega
    have e2 : (4 * q + (a + 1)) % 4 = a + 1 := by omega
    rw [acc_mid m c _ (by omega) (by omega), st_at m c _ (by omega) _ r d B R (by omega) (by omega), e1, e2, sweep c q hq r d B R hB hR a (by omega),
      Finset.sum_range_succ _ (a + 1)]

/-- The four shares together are the sum over all columns. -/
theorem sum_shares (c : Dev nD) (B : Fin 2) (R : Fin 16384) (d : Fin 2048) : ∑ a ∈ Finset.range 4, share m c B R d a = ∑ J : Fin 2048, term m c B R d J := by
  rw [Finset.sum_range]
  unfold share
  refine Fin.sum_mul_add_congr fun s j hl => ?_
  refine congrArg (term m c B R d) (Fin.ext ?_)
  exact Nat.mod_eq_of_lt hl

/-- What the output block holds after the last of four steps: the layer's rows. -/
theorem last (c : Dev nD) (n : ℕ) (hn : n < 256) (h3 : n % 4 = 3) (r : Fin 512) (d : Fin 2048) (B : Fin 2) (R : Fin 16384) (hB : B.val = n / 128)
    (hR : R.val = n / 4 % 32 * 512 + r.val) : acc m c n (ix3 0 r d) = mixer (X m c) (Gw m c) (Wi m c) (Cw m c) (Wo m c) B R d := by
  have hp := pt_lt n hn
  have e : n - 1 = 4 * (n / 4) + 2 := by omega
  have hx : blk0 m c n (ix3 0 r d) = X m c (ix3 B R d) := in_x m c _ r d B R (by rw [hp]; exact hB) (by rw [hp]; exact hR)
  rw [acc_last m c n h3, ConvMath.pay3_at, hx, st_at m c n hn _ r d B R hB hR, e, sweep m c (n / 4) (by omega) r d B R (by omega) (by omega) 2 (by decide), h3,
    ← Finset.sum_range_succ _ 3, sum_shares]
  rfl

/-- The result array after the run is the convolution mixer. -/
theorem final (c : Dev nD) : (dats m 0 c).arrAt 7 (cfgs 0).N = fun j => mixer (X m c) (Gw m c) (Wi m c) (Cw m c) (Wo m c) (j 0) (j 1) (j 2) := by
  refine (dats m 0 c).arrAt_eq_of_covers 7 _ (by decide +kernel) fun t hf y => ?_
  blk_simp
  rw [after_7]
  have h3 : t.val % 4 = 3 := (flush0_7 t).mp hf
  have hN : t.val < 256 := lt_of_lt_of_eq t.isLt N_0
  have y0 : (y 0 : ℕ) < 1 := (y 0).isLt
  have y1 : (y 1 : ℕ) < 512 := (y 1).isLt
  have y2 : (y 2 : ℕ) < 2048 := (y 2).isLt
  have key := last m c t.val hN h3 ⟨y 1, y1⟩ ⟨y 2, y2⟩ ⟨t.val / 128, by omega⟩ ⟨t.val / 4 % 32 * 512 + (y 1 : ℕ), by omega⟩ rfl rfl
  refine Eq.trans ?_ (key.trans ?_)
  · refine congrArg (acc m c t.val) (funext fun a => ?_)
    match a with
    | ⟨0, _⟩ => exact Fin.ext (by show (y 0 : ℕ) = 0; omega)
    | ⟨1, _⟩ => rfl
    | ⟨2, _⟩ => rfl
  · have e0 : (((cfg0.win 7).blk t).view.emb y) 0 = (⟨t.val / 128, by omega⟩ : Fin 2) := Fin.ext (by blk_simp [idx t])
    have e1 : (((cfg0.win 7).blk t).view.emb y) 1 = (⟨t.val / 4 % 32 * 512 + (y 1 : ℕ), by omega⟩ : Fin 16384) := Fin.ext (by blk_simp [idx t])
    have e2 : (((cfg0.win 7).blk t).view.emb y) 2 = (⟨y 2, y2⟩ : Fin 2048) := Fin.ext (by blk_simp [idx t])
    exact (congr (congrArg₂ (mixer (X m c) (Gw m c) (Wi m c) (Cw m c) (Wo m c)) e0 e1) e2).symm

/-- The kernel ends with the convolution mixer in its result and its arguments unchanged. -/
theorem run_mixer (ρ : Dev nD → PrngReg) : θ_run defs (onTc (τ := τ) (main (F := Ideal))) ⟨m, fun _ => 0, ρ⟩ fun r => ∀ c : Dev nD,
      r.2.mem ((c.tc : Thread nD τ).loc main_v3) = (fun j => mixer (X m c) (Gw m c) (Wi m c) (Cw m c) (Wo m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 7).trans (final m c), h.2.1 c⟩) (θ_run_and (run_main m ρ) (frame_main m ρ))

end Cert.ConvIdeal.Value

end
-- ==== Proof.ConvRead.lean ====
/- The short convolution: the reference's result, read at an index stage by stage. -/
module

public import proofs.«01_k».proof.Proof.ConvPoint
public import proofs.«01_k».proof.Proof.Gen.ConvRefIdeal.Run
public import Idealize.ShloMosaic.Lib.KernelVsHost

@[expose] public section

set_option maxRecDepth 16384

noncomputable section

namespace Cert.ConvRefIdeal.Value

open Idealize.ShloMosaic Idealize.ShloMosaic.TcCoe Idealize.SL.Sem
open Cert.ConvRefIdeal Cert.ConvRefIdeal.Gen
open Cert.ConvMath (hrow proj gate back mix mixer)

section Stages

/-- The three projections of the normalised rows, side by side. -/
def stageZ (x : FVec Ideal S2x16384x2048 .f32) (g : FVec Ideal S2048 .f32) (w : FVec Ideal S2048x6144 .f32) : FVec Ideal S2x16384x6144 .f32 :=
  Host.dotGeneral dot_S2x16384x2048_S2048x6144_S2x16384x6144_2_0_01_1_n_n none (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) w

/-- The product of the second and the third. -/
def stageT (z : FVec Ideal S2x16384x6144 .f32) : FVec Ideal S2x16384x2048 .f32 :=
  mulf (extractStridedSlice S2x16384x2048 ![0, 0, 2048] z slices_S2x16384x6144_S2x16384x2048_0_0_2048) (extractStridedSlice S2x16384x2048 ![0, 0, 4096] z slices_S2x16384x6144_S2x16384x2048_0_0_4096)

/-- The product with two rows of zeros before it. -/
def stageP (u : FVec Ideal S2x16384x2048 .f32) : FVec Ideal S2x16386x2048 .f32 :=
  pad S2x16386x2048 ![0, 2, 0] ![0, 0, 0] ![0, 0, 0] u (sitofp .f32 (constantI S_ 32 0#32)) pads_S2x16384x2048_S2x16386x2048_000_200_000 h_S_

/-- The first projection times the three weighted rows. -/
def stageC (z : FVec Ideal S2x16384x6144 .f32) (p : FVec Ideal S2x16386x2048 .f32) (cw : FVec Ideal S3x2048 .f32) : FVec Ideal S2x16384x2048 .f32 :=
  mulf (extractStridedSlice S2x16384x2048 ![0, 0, 0] z slices_S2x16384x6144_S2x16384x2048_0_0_0) (addf (addf (mulf (broadcastInDim S2x16384x2048 ![0, 1, 2] bcast_S1x1x2048_S2x16384x2048_0_1_2 (broadcastInDim S1x1x2048 ![2] bcast_S2048_S1x1x2048_2 (shapeCast _ (extractStridedSlice S1x2048 ![0, 0] cw slices_S3x2048_S1x2048_0_0) shapeCasts_S1x2048_S2048))) (extractStridedSlice S2x16384x2048 ![0, 0, 0] p slices_S2x16386x2048_S2x16384x2048_0_0_0)) (mulf (broadcastInDim S2x16384x2048 ![0, 1, 2] bcast_S1x1x2048_S2x16384x2048_0_1_2 (broadcastInDim S1x1x2048 ![2] bcast_S2048_S1x1x2048_2 (shapeCast _ (extractStridedSlice S1x2048 ![1, 0] cw slices_S3x2048_S1x2048_1_0) shapeCasts_S1x2048_S2048))) (extractStridedSlice S2x16384x2048 ![0, 1, 0] p slices_S2x16386x2048_S2x16384x2048_0_1_0))) (mulf (broadcastInDim S2x16384x2048 ![0, 1, 2] bcast_S1x1x2048_S2x16384x2048_0_1_2 (broadcastInDim S1x1x2048 ![2] bcast_S2048_S1x1x2048_2 (shapeCast _ (extractStridedSlice S1x2048 ![2, 0] cw slices_S3x2048_S1x2048_2_0) shapeCasts_S1x2048_S2048))) (extractStridedSlice S2x16384x2048 ![0, 2, 0] p slices_S2x16386x2048_S2x16384x2048_0_2_0)))

/-- The output projection with the residual. -/
def stageO (x y : FVec Ideal S2x16384x2048 .f32) (wo : FVec Ideal S2048x2048 .f32) : FVec Ideal S2x16384x2048 .f32 :=
  addf x (Host.dotGeneral dot_S2x16384x2048_S2048x2048_S2x16384x2048_2_0_01_1_n_n none y wo)

end Stages

/-- The projections, read at an index. -/
theorem z_at (x : FVec Ideal S2x16384x2048 .f32) (g : FVec Ideal S2048 .f32) (w : FVec Ideal S2048x6144 .f32) (b : Fin 2) (R : Fin 16384) (k : Fin 6144) :
    stageZ x g w (ix3 b R k) = proj x g w b R k := by
  pointwise [stageZ, proj, hrow, FfnMath.norm]

/-- The product, read at an index. -/
theorem t_at (z : FVec Ideal S2x16384x6144 .f32) (b : Fin 2) (R : Fin 16384) (j : Fin 2048) :
    stageT z (ix3 b R j) = z (ix3 b R ⟨2048 + j.val, by omega⟩) * z (ix3 b R ⟨4096 + j.val, by omega⟩) := by
  pointwise [stageT]

/-- The padded product, read at an index. -/
theorem p_at (u : FVec Ideal S2x16384x2048 .f32) (b : Fin 2) (R : Fin 16386) (j : Fin 2048) :
    stageP u (ix3 b R j) = if h : 2 ≤ R.val then u (ix3 b ⟨R.val - 2, by omega⟩ j) else 0 := by
  unfold stageP
  by_cases h : 2 ≤ R.val
  · rw [dif_pos h]
    exact pad_apply_of_inside _ _ _ u _ _ _ _ (ix3 b (⟨R.val - 2, by omega⟩ : Fin 16384) j) (by
      intro a
      fin_cases a
      · show b.val = 0 + b.val * (0 + 1); omega
      · show R.val = 2 + (R.val - 2) * (0 + 1); omega
      · show j.val = 0 + j.val * (0 + 1); omega)
  · rw [dif_neg h]
    refine (pad_apply_of_not_inside _ _ _ u _ _ _ _ (1 : Fin 3) (by
      intro hin
      have e : 2 ≤ R.val := hin.1
      exact h e)).trans ?_
    pointwise []
    show (((0#32 : BitVec 32).toInt : ℝ) : EReal) = 0
    simp

/-- The convolved rows, read at an index. -/
theorem c_at (z : FVec Ideal S2x16384x6144 .f32) (p : FVec Ideal S2x16386x2048 .f32) (cw : FVec Ideal S3x2048 .f32) (b : Fin 2) (R : Fin 16384) (j : Fin 2048) :
    stageC z p cw (ix3 b R j) = z (ix3 b R ⟨j.val, by omega⟩) * (cw (ix2 0 j) * p (ix3 b ⟨R.val, by omega⟩ j) + cw (ix2 1 j) * p (ix3 b ⟨1 + R.val, by omega⟩ j)
      + cw (ix2 2 j) * p (ix3 b ⟨2 + R.val, by omega⟩ j)) := by
  pointwise [stageC]

/-- The result, read at an index. -/
theorem o_at (x y : FVec Ideal S2x16384x2048 .f32) (wo : FVec Ideal S2048x2048 .f32) (b : Fin 2) (R : Fin 16384) (d : Fin 2048) :
    stageO x y wo (ix3 b R d) = x (ix3 b R d) + ∑ j : Fin 2048, y (ix3 b R j) * wo (ix2 j d) := by
  pointwise [stageO]

/-- The stages together are the convolution mixer. -/
theorem all_at (x : FVec Ideal S2x16384x2048 .f32) (g : FVec Ideal S2048 .f32) (w : FVec Ideal S2048x6144 .f32) (cw : FVec Ideal S3x2048 .f32)
    (wo : FVec Ideal S2048x2048 .f32) (b : Fin 2) (R : Fin 16384) (d : Fin 2048) :
    stageO x (stageC (stageZ x g w) (stageP (stageT (stageZ x g w))) cw) wo (ix3 b R d) = mixer x g w cw wo b R d := by
  rw [o_at]
  unfold mixer
  refine congrArg _ (Finset.sum_congr rfl fun j _ => congrArg (· * _) ?_)
  have hg : ∀ Q : Fin 16384, stageT (stageZ x g w) (ix3 b Q j) = gate x g w b Q j := fun Q => by
    rw [t_at, z_at, z_at]; rfl
  have hb : ∀ (s : ℕ) (Q : Fin 16386), s ≤ 2 → Q.val = 2 - s + R.val → stageP (stageT (stageZ x g w)) (ix3 b Q j) = back x g w b R s j := fun s Q hs hQ => by
    rw [p_at]
    unfold back
    by_cases h : s ≤ R.val
    · rw [dif_pos (show 2 ≤ Q.val by omega), if_pos h, hg]
      exact congrArg (fun q => gate x g w b q j) (Fin.ext (by dsimp only; omega))
    · rw [dif_neg (show ¬ 2 ≤ Q.val by omega), if_neg h]
  rw [c_at, z_at, hb 2 _ (by omega) (by dsimp only; omega), hb 1 _ (by omega) (by dsimp only), hb 0 _ (by omega) (by dsimp only)]
  rfl

/-- The reference ends with the convolution mixer in its result and its arguments unchanged. -/
theorem run_mixer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = (fun j => mixer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  have e : res_main_v41 m c = stageO (m ((c.tc : Thread nD τ).loc main_arg0)) (stageC (stageZ (m ((c.tc : Thread nD τ).loc main_arg0)) (m ((c.tc : Thread nD τ).loc main_arg1))
      (m ((c.tc : Thread nD τ).loc main_arg2))) (stageP (stageT (stageZ (m ((c.tc : Thread nD τ).loc main_arg0)) (m ((c.tc : Thread nD τ).loc main_arg1))
      (m ((c.tc : Thread nD τ).loc main_arg2))))) (m ((c.tc : Thread nD τ).loc main_arg3))) (m ((c.tc : Thread nD τ).loc main_arg4)) := by
    unfold res_main_v41 stageO stageC stageP stageT stageZ
    rfl
  rw [e]
  funext j
  idx_vars j
  exact all_at _ _ _ _ _ _ _ _

end Cert.ConvRefIdeal.Value

end
-- ==== Proof.ConvClaim.lean ====
/- The claims about the short-convolution call, assembled. -/
module

public import proofs.«01_k».proof.Defs
public import proofs.«01_k».proof.Proof.ConvData
public import proofs.«01_k».proof.Proof.ConvSum
public import proofs.«01_k».proof.Proof.ConvRead

@[expose] public section

noncomputable section

namespace Cert.Proof.Conv

open Idealize.ShloMosaic Idealize.ShloMosaic.TcCoe Idealize.SL.Sem

/-- The kernel leaves its arguments as they were and every counter at zero. -/
theorem frame : Cert.quiescent_Conv := fun m ρ _ => Cert.Conv.Halo.frame_main m ρ

/-- So does the kernel over the extended reals. -/
theorem frame_ideal : Cert.quiescent_ConvIdeal := fun m ρ _ => Cert.ConvIdeal.Halo.frame_main m ρ

/-- So does the reference, which declares no counter. -/
theorem frame_ref : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- From arguments that agree, the kernel and the reference end with the same extended reals in their results. -/
theorem algebraic : Cert.algebraic_ConvIdeal_ConvRefIdeal := by
  intro m ρ m' ρ' _ hag
  refine ⟨fun c => fun j => Cert.ConvMath.mixer (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (j 0) (j 1) (j 2), ?_, ?_⟩
  · exact Cert.ConvIdeal.Value.run_mixer m ρ
  · refine (θ_run Cert.ConvRefIdeal.defs _ _).mono (fun r h c => ⟨(h c).1.trans ?_, (h c).2⟩) (Cert.ConvRefIdeal.Value.run_mixer m' ρ')
    rw [(hag c).1, (hag c).2.1, (hag c).2.2.1, (hag c).2.2.2.1, (hag c).2.2.2.2]
    rfl

end Cert.Proof.Conv

end
-- ==== Proof.OutArray.lean ====
/- The output projection's result array is the input plus the products of its two parts with the weights' rows. -/
module

public import proofs.«01_k».proof.Proof.FfnPoint
public import proofs.«01_k».proof.Proof.Gen.OutIdeal.Value
public import Idealize.ShloMosaic.Lib.Pipeline.ValueKit
public import Idealize.ShloMosaic.Lib.Pointwise

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The output projection: row `r` of the two parts, one after the other, against column `k` of the weights, added to the input. -/
def out (x : FVec Ideal S32768x2048 .f32) (a : FVec Ideal S32768x512 .bf16) (b : FVec Ideal S32768x1536 .bf16) (w : FVec Ideal S2048x2048 .f32) (r : Fin 32768) (k : Fin 2048) : EReal :=
  x (ix2 r k) + ((∑ l : Fin 512, a (ix2 r l) * w (ix2 ⟨l.val, by omega⟩ k)) + ∑ l : Fin 1536, b (ix2 r l) * w (ix2 ⟨512 + l.val, by omega⟩ k))

/-- The kernel's payload read at an index. -/
theorem pay1_at (x : Vec Ideal S512x2048 .f32) (a : Vec Ideal S512x512 .bf16) (wa : Vec Ideal S512x2048 .bf16) (b : Vec Ideal S512x1536 .bf16) (wb : Vec Ideal S1536x2048 .bf16) (r : Fin 512) (k : Fin 2048) :
    k0_pay1 (F := Ideal) x a wa b wb (ix2 r k) = x (ix2 r k) + (∑ l : Fin 512, a (ix2 r l) * wa (ix2 l k)) + ∑ l : Fin 1536, b (ix2 r l) * wb (ix2 l k) := by
  pointwise [k0_pay1]

/-- Where each window's block sits at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ t.val < 64 :=
  (by decide +kernel : ∀ t : Fin grid0.N, _)

/-- The kernel's arguments as arrays. -/
abbrev X (c : Dev nD) : FVec Ideal S32768x2048 .f32 := m ((c : Thread nD τ).loc main_arg0)
abbrev Pa (c : Dev nD) : FVec Ideal S32768x512 .bf16 := m ((c : Thread nD τ).loc main_arg1)
abbrev Pb (c : Dev nD) : FVec Ideal S32768x1536 .bf16 := m ((c : Thread nD τ).loc main_arg2)
abbrev W (c : Dev nD) : FVec Ideal S2048x2048 .f32 := m ((c : Thread nD τ).loc main_arg3)

/-- The row blocks at a point hold 512 rows each; the weights' blocks are the upper 512 and the lower 1536 rows. -/
theorem blk_x (c : Dev nD) (t : Fin cfg0.N) (r : Fin 512) (l : Fin 2048) (R : Fin 32768) (hR : R.val = t.val * 512 + r.val) :
    (iblk m c 0 t : Vec Ideal S512x2048 .f32) (ix2 r l) = X m c (ix2 R l) := by
  blk_ext [iblk, V, idx t]

theorem blk_pa (c : Dev nD) (t : Fin cfg0.N) (r : Fin 512) (l : Fin 512) (R : Fin 32768) (hR : R.val = t.val * 512 + r.val) :
    (iblk m c 1 t : Vec Ideal S512x512 .bf16) (ix2 r l) = Pa m c (ix2 R l) := by
  blk_ext [iblk, V, idx t]

theorem blk_pb (c : Dev nD) (t : Fin cfg0.N) (r : Fin 512) (l : Fin 1536) (R : Fin 32768) (hR : R.val = t.val * 512 + r.val) :
    (iblk m c 2 t : Vec Ideal S512x1536 .bf16) (ix2 r l) = Pb m c (ix2 R l) := by
  blk_ext [iblk, V, idx t]

theorem blk_wa (c : Dev nD) (t : Fin cfg0.N) (l : Fin 512) (k : Fin 2048) :
    (iblk m c 3 t : Vec Ideal S512x2048 .bf16) (ix2 l k) = W m c (ix2 ⟨l.val, by omega⟩ k) := by
  blk_ext! [iblk, idx t]

theorem blk_wb (c : Dev nD) (t : Fin cfg0.N) (l : Fin 1536) (k : Fin 2048) :
    (iblk m c 4 t : Vec Ideal S1536x2048 .bf16) (ix2 l k) = W m c (ix2 ⟨512 + l.val, by omega⟩ k) := by
  blk_ext! [iblk, idx t]

/-- What a grid point writes at row `r`, column `k` of its block. -/
theorem point (c : Dev nD) (t : Fin cfg0.N) (r : Fin 512) (k : Fin 2048) (R : Fin 32768) (hR : R.val = t.val * 512 + r.val) :
    k0_pay1 (F := Ideal) (iblk m c 0 t) (iblk m c 1 t) (iblk m c 3 t) (iblk m c 2 t) (iblk m c 4 t) (ix2 r k) = out (X m c) (Pa m c) (Pb m c) (W m c) R k := by
  rw [pay1_at]
  unfold out
  rw [add_assoc]
  refine congrArg₂ (· + ·) (blk_x m c t r k R hR) (congrArg₂ (· + ·) (Finset.sum_congr rfl fun l _ => ?_) (Finset.sum_congr rfl fun l _ => ?_))
  · exact congrArg₂ (· * ·) (blk_pa m c t r l R hR) (blk_wa m c t l k)
  · exact congrArg₂ (· * ·) (blk_pb m c t r l R hR) (blk_wb m c t l k)

/-- The result array is the output projection of the arguments. -/
theorem final (c : Dev nD) : (dats m 0 c).arrAt 5 (cfgs 0).N = fun j => out (X m c) (Pa m c) (Pb m c) (W m c) (j 0) (j 1) := by
  refine (dats m 0 c).arrAt_eq_of_covers 5 _ (by decide +kernel) fun t hf y => ?_
  blk_simp
  rw [after0_5]
  frame_out
  have hN : t.val < 64 := (idx t).2.2.2.2.2.2
  have y0 : (y 0 : ℕ) < 512 := (y 0).isLt
  have y1 : (y 1 : ℕ) < 2048 := (y 1).isLt
  have key := point m c t ⟨y 0, y0⟩ ⟨y 1, y1⟩ ⟨t.val * 512 + (y 0 : ℕ), by omega⟩ rfl
  refine Eq.trans ?_ (key.trans ?_)
  · blk_ext
  · have e0 : (((cfg0.win 5).blk t).view.emb y) 0 = (⟨t.val * 512 + (y 0 : ℕ), by omega⟩ : Fin 32768) := Fin.ext (by blk_simp [idx t])
    have e1 : (((cfg0.win 5).blk t).view.emb y) 1 = (⟨y 1, y1⟩ : Fin 2048) := Fin.ext (by blk_simp [idx t])
    exact (congrArg₂ (out (X m c) (Pa m c) (Pb m c) (W m c)) e0 e1).symm

end Cert.OutIdeal.Value

end
-- ==== Proof.OutRead.lean ====
/- The reference's output projection, read at an index. -/
module

public import proofs.«01_k».proof.Proof.OutArray
public import proofs.«01_k».proof.Proof.Gen.OutRefIdeal.Run

@[expose] public section

set_option maxRecDepth 16384

noncomputable section

namespace Cert.OutRefIdeal.Value

open Idealize.ShloMosaic Idealize.ShloMosaic.TcCoe Idealize.SL.Sem
open Cert.OutRefIdeal Cert.OutRefIdeal.Gen

/-- The reference ends with the output projection in its result and its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun j => OutIdeal.Value.out (m ((c.tc : Thread nD τ).loc main_arg0)) (m ((c.tc : Thread nD τ).loc main_arg1))
        (m ((c.tc : Thread nD τ).loc main_arg2)) (m ((c.tc : Thread nD τ).loc main_arg3)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run m ρ)
  generalize m ((c.tc : Thread nD τ).loc main_arg0) = x
  generalize m ((c.tc : Thread nD τ).loc main_arg1) = a
  generalize m ((c.tc : Thread nD τ).loc main_arg2) = b
  generalize m ((c.tc : Thread nD τ).loc main_arg3) = w
  clear h
  funext j
  idx_vars j
  pointwise [OutIdeal.Value.out]

end Cert.OutRefIdeal.Value

end
-- ==== Proof.OutClaim.lean ====
/- The claims about the output projection call, assembled. -/
module

public import proofs.«01_k».proof.Defs
public import proofs.«01_k».proof.Proof.OutArray
public import proofs.«01_k».proof.Proof.OutRead
public import proofs.«01_k».proof.Proof.Gen.Out.Frame

@[expose] public section

noncomputable section

namespace Cert.Proof.Out

open Idealize.ShloMosaic Idealize.ShloMosaic.TcCoe Idealize.SL.Sem

/-- The kernel leaves its arguments as they were and every counter at zero. -/
theorem frame : Cert.quiescent_Out := fun m ρ _ => Cert.Out.Gen.frame m ρ

/-- So does the kernel over the extended reals. -/
theorem frame_ideal : Cert.quiescent_OutIdeal := fun m ρ _ => Cert.OutIdeal.Gen.frame m ρ

/-- So does the reference, which declares no counter. -/
theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- From arguments that agree, the kernel and the reference end with the same extended reals in their results. -/
theorem algebraic : Cert.algebraic_OutIdeal_OutRefIdeal := by
  intro m ρ m' ρ' _ hag
  refine ⟨fun c => fun j => Cert.OutIdeal.Value.out (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (j 0) (j 1), ?_, ?_⟩
  · exact (θ_run Cert.OutIdeal.defs _ _).mono (fun r h c => ⟨(h c).1.trans (Cert.OutIdeal.Value.final m c), (h c).2⟩) (Cert.OutIdeal.Value.run_blocks (F := Ideal) m ρ)
  · refine (θ_run Cert.OutRefIdeal.defs _ _).mono (fun r h c => ⟨(h c).1.trans ?_, (h c).2⟩) (Cert.OutRefIdeal.Value.run_out m' ρ')
    rw [(hag c).1, (hag c).2.1, (hag c).2.2.1, (hag c).2.2.2]
    rfl

end Cert.Proof.Out

end
-- ==== Proof.HeadNorm.lean ====
/- A row of four heads, every head divided by its own root mean square. -/
module

public import proofs.«01_k».proof.Proof.FfnPoint

@[expose] public section

set_option maxRecDepth 16384

noncomputable section

namespace Cert.HeadNorm

open Idealize.ShloMosaic Idealize.SL.Sem

/-- The head of feature `d`, its feature `e`. -/
def feat (d : Fin 512) (e : Fin 128) : Fin 512 := ⟨d.val / 128 * 128 + e.val, by omega⟩

/-- A row `z` of four heads of 128 features: every feature divided by the root mean square of its head and scaled by the weights `g`. -/
def hn (z : Fin 512 → EReal) (g : Fin 128 → EReal) (d : Fin 512) : EReal :=
  z d * Ideal.rsqrt (Ideal.div (∑ e : Fin 128, z (feat d e) * z (feat d e)) (Ideal.ofBits FTy.f32 1124073472#32) + Ideal.ofBits FTy.f32 897988541#32) * g ⟨d.val % 128, Nat.mod_lt _ (by omega)⟩

/-- The feature at place `e` of head `h` is read from that head alone. -/
theorem hn_head (z : Fin 512 → EReal) (g : Fin 128 → EReal) (h : Fin 4) (e : Fin 128) (d : Fin 512) (hd : d.val = h.val * 128 + e.val) :
    hn z g d = z ⟨h.val * 128 + e.val, by omega⟩
      * Ideal.rsqrt (Ideal.div (∑ e' : Fin 128, z ⟨h.val * 128 + e'.val, by omega⟩ * z ⟨h.val * 128 + e'.val, by omega⟩) (Ideal.ofBits FTy.f32 1124073472#32) + Ideal.ofBits FTy.f32 897988541#32)
      * g e := by
  obtain ⟨d, h1⟩ := d
  obtain rfl : d = h.val * 128 + e.val := hd
  unfold hn
  have h2 : ∀ e', feat ⟨h.val * 128 + e.val, h1⟩ e' = ⟨h.val * 128 + e'.val, by omega⟩ := fun e' => Fin.ext (by simp only [feat]; omega)
  have h3 : (⟨(h.val * 128 + e.val) % 128, Nat.mod_lt _ (by omega)⟩ : Fin 128) = e := Fin.ext (by show (h.val * 128 + e.val) % 128 = e.val; omega)
  simp only [h2, h3]

end Cert.HeadNorm

end
-- ==== Proof.PsbPoint.lean ====
/- The attention's input projection: the kernel's payloads read at an index. -/
module

public import proofs.«01_k».proof.Proof.HeadNorm
public import proofs.«01_k».proof.Proof.Gen.PsbIdeal.Frame
public import Idealize.ShloMosaic.Lib.Pipeline.ValueKit
public import Idealize.ShloMosaic.Lib.Pointwise

@[expose] public section

set_option maxRecDepth 16384

noncomputable section

namespace Cert.PsbIdeal.Value

open Cert.PsbIdeal Cert.PsbIdeal.Gen Idealize.ShloMosaic Idealize.ShloMosaic.TcCoe Idealize.SL.Sem
open Cert.HeadNorm

/-- A row of the product of the normalised input with the weights. -/
def z (x : Vec Ideal S512x2048 .f32) (g : Vec Ideal S1x2048 .f32) (w : Vec Ideal S2048x1536 .bf16) (r : Fin 512) (k : Fin 1536) : EReal :=
  ∑ l, FfnMath.norm (fun l => x (ix2 r l)) (fun l => g (ix2 0 l)) l * w (ix2 l k)

/-- The kernel's product read at an index. -/
theorem pay2_at (x : Vec Ideal S512x2048 .f32) (g : Vec Ideal S1x2048 .f32) (w : Vec Ideal S2048x1536 .bf16) (r : Fin 512) (k : Fin 1536) :
    k0_pay2 (F := Ideal) x g w (ix2 r k) = z x g w r k := by
  pointwise [k0_pay2, z, FfnMath.norm]

/-- The four heads of the queries: normalised and scaled. -/
theorem q0 (x : Vec Ideal S512x2048 .f32) (g : Vec Ideal S1x2048 .f32) (w : Vec Ideal S2048x1536 .bf16) (p : Vec Ideal S1x128 .f32) (r : Fin 512) (e : Fin 128) :
    k0_pay4 (F := Ideal) x g w p (ix2 r e) = hn (fun d => z x g w r ⟨0 + d.val, by omega⟩) (fun e => p (ix2 0 e)) ⟨0 + e.val, by omega⟩ * Ideal.ofBits FTy.f32 1035273459#32 := by
  rw [hn_head _ _ 0 e _ (by simp <;> rfl)]
  simp only [← pay2_at]
  pointwise [k0_pay4]

theorem q1 (x : Vec Ideal S512x2048 .f32) (g : Vec Ideal S1x2048 .f32) (w : Vec Ideal S2048x1536 .bf16) (p : Vec Ideal S1x128 .f32) (r : Fin 512) (e : Fin 128) :
    k0_pay7 (F := Ideal) (k0_pay2 x g w) p (ix2 r e) = hn (fun d => z x g w r ⟨0 + d.val, by omega⟩) (fun e => p (ix2 0 e)) ⟨128 + e.val, by omega⟩ * Ideal.ofBits FTy.f32 1035273459#32 := by
  rw [hn_head _ _ 1 e _ (by simp <;> rfl)]
  simp only [← pay2_at]
  pointwise [k0_pay7]

theorem q2 (x : Vec Ideal S512x2048 .f32) (g : Vec Ideal S1x2048 .f32) (w : Vec Ideal S2048x1536 .bf16) (p : Vec Ideal S1x128 .f32) (r : Fin 512) (e : Fin 128) :
    k0_pay12 (F := Ideal) (k0_pay2 x g w) p (ix2 r e) = hn (fun d => z x g w r ⟨0 + d.val, by omega⟩) (fun e => p (ix2 0 e)) ⟨256 + e.val, by omega⟩ * Ideal.ofBits FTy.f32 1035273459#32 := by
  rw [hn_head _ _ 2 e _ (by simp <;> rfl)]
  simp only [← pay2_at]
  pointwise [k0_pay12]

theorem q3 (x : Vec Ideal S512x2048 .f32) (g : Vec Ideal S1x2048 .f32) (w : Vec Ideal S2048x1536 .bf16) (p : Vec Ideal S1x128 .f32) (r : Fin 512) (e : Fin 128) :
    k0_pay16 (F := Ideal) (k0_pay2 x g w) p (ix2 r e) = hn (fun d => z x g w r ⟨0 + d.val, by omega⟩) (fun e => p (ix2 0 e)) ⟨384 + e.val, by omega⟩ * Ideal.ofBits FTy.f32 1035273459#32 := by
  rw [hn_head _ _ 3 e _ (by simp <;> rfl)]
  simp only [← pay2_at]
  pointwise [k0_pay16]

/-- The four heads of the keys: normalised. -/
theorem k0 (x : Vec Ideal S512x2048 .f32) (g : Vec Ideal S1x2048 .f32) (w : Vec Ideal S2048x1536 .bf16) (p : Vec Ideal S1x128 .f32) (r : Fin 512) (e : Fin 128) :
    k0_pay5 (F := Ideal) (k0_pay3 x g w) p (ix2 r e) = hn (fun d => z x g w r ⟨512 + d.val, by omega⟩) (fun e => p (ix2 0 e)) ⟨0 + e.val, by omega⟩ := by
  rw [hn_head _ _ 0 e _ (by simp <;> rfl)]
  simp only [← pay2_at]
  pointwise [k0_pay5, k0_pay3]

theorem k1 (x : Vec Ideal S512x2048 .f32) (g : Vec Ideal S1x2048 .f32) (w : Vec Ideal S2048x1536 .bf16) (p : Vec Ideal S1x128 .f32) (r : Fin 512) (e : Fin 128) :
    k0_pay10 (F := Ideal) (k0_pay6 (k0_pay2 x g w)) (k0_pay8 p) (k0_pay9 (k0_pay2 x g w)) (ix2 r e) = hn (fun d => z x g w r ⟨512 + d.val, by omega⟩) (fun e => p (ix2 0 e)) ⟨128 + e.val, by omega⟩ := by
  rw [hn_head _ _ 1 e _ (by simp <;> rfl)]
  simp only [← pay2_at]
  pointwise [k0_pay10, k0_pay6, k0_pay8, k0_pay9]
  simp only [show ∀ n : ℕ, 512 + (128 + n) = 640 + n from fun n => by omega]

theorem k2 (x : Vec Ideal S512x2048 .f32) (g : Vec Ideal S1x2048 .f32) (w : Vec Ideal S2048x1536 .bf16) (p : Vec Ideal S1x128 .f32) (r : Fin 512) (e : Fin 128) :
    k0_pay15 (F := Ideal) (k0_pay11 (k0_pay2 x g w)) (k0_pay13 p) (k0_pay14 (k0_pay2 x g w)) (ix2 r e) = hn (fun d => z x g w r ⟨512 + d.val, by omega⟩) (fun e => p (ix2 0 e)) ⟨256 + e.val, by omega⟩ := by
  rw [hn_head _ _ 2 e _ (by simp <;> rfl)]
  simp only [← pay2_at]
  pointwise [k0_pay15, k0_pay11, k0_pay13, k0_pay14]
  simp only [show ∀ n : ℕ, 512 + (256 + n) = 768 + n from fun n => by omega]

theorem k3 (x : Vec Ideal S512x2048 .f32) (g : Vec Ideal S1x2048 .f32) (w : Vec Ideal S2048x1536 .bf16) (p : Vec Ideal S1x128 .f32) (r : Fin 512) (e : Fin 128) :
    k0_pay17 (F := Ideal) (k0_pay2 x g w) p (ix2 r e) = hn (fun d => z x g w r ⟨512 + d.val, by omega⟩) (fun e => p (ix2 0 e)) ⟨384 + e.val, by omega⟩ := by
  rw [hn_head _ _ 3 e _ (by simp <;> rfl)]
  simp only [← pay2_at]
  pointwise [k0_pay17]
  simp only [show ∀ n : ℕ, 512 + (384 + n) = 896 + n from fun n => by omega]

/-- The values: the last 512 columns of the product. -/
theorem v_at (x : Vec Ideal S512x2048 .f32) (g : Vec Ideal S1x2048 .f32) (w : Vec Ideal S2048x1536 .bf16) (r : Fin 512) (d : Fin 512) :
    k0_pay1 (F := Ideal) (k0_pay2 x g w) (ix2 r d) = z x g w r ⟨1024 + d.val, by omega⟩ := by
  rw [← pay2_at]
  pointwise [k0_pay1]

end Cert.PsbIdeal.Value

end
-- ==== Proof.PsbArray.lean ====
/- The attention's input projection: the three result arrays. -/
module

public import proofs.«01_k».proof.Proof.PsbPoint
public import proofs.«01_k».proof.Proof.Gen.PsbIdeal.Value

@[expose] public section

set_option maxRecDepth 16384

noncomputable section

namespace Cert.PsbIdeal.Value

open Cert.PsbIdeal Cert.PsbIdeal.Gen Idealize.ShloMosaic Idealize.ShloMosaic.TcCoe Idealize.SL.Sem
open Cert.HeadNorm

/-- Where the four stores sit in the block. -/
theorem emb_0 (r : Fin 512) (e : Fin 128) : (r0_4.emb (ix2 r e) : S512x512.Idx) = ix2 r ⟨0 + e.val, by omega⟩ := by
  funext a
  match a with
  | ⟨0, _⟩ => exact Fin.ext (by blk_simp)
  | ⟨1, _⟩ => exact Fin.ext (by blk_simp)

theorem emb_128 (r : Fin 512) (e : Fin 128) : (r0_5.emb (ix2 r e) : S512x512.Idx) = ix2 r ⟨128 + e.val, by omega⟩ := by
  funext a
  match a with
  | ⟨0, _⟩ => exact Fin.ext (by blk_simp)
  | ⟨1, _⟩ => exact Fin.ext (by blk_simp)

theorem emb_256 (r : Fin 512) (e : Fin 128) : (r0_6.emb (ix2 r e) : S512x512.Idx) = ix2 r ⟨256 + e.val, by omega⟩ := by
  funext a
  match a with
  | ⟨0, _⟩ => exact Fin.ext (by blk_simp)
  | ⟨1, _⟩ => exact Fin.ext (by blk_simp)

theorem emb_384 (r : Fin 512) (e : Fin 128) : (r0_7.emb (ix2 r e) : S512x512.Idx) = ix2 r ⟨384 + e.val, by omega⟩ := by
  funext a
  match a with
  | ⟨0, _⟩ => exact Fin.ext (by blk_simp)
  | ⟨1, _⟩ => exact Fin.ext (by blk_simp)

/-- The queries of a block. -/
def qblk (x : Vec Ideal S512x2048 .f32) (g : Vec Ideal S1x2048 .f32) (w : Vec Ideal S2048x1536 .bf16) (p : Vec Ideal S1x128 .f32) (r d : Fin 512) : EReal :=
  hn (fun d => z x g w r ⟨0 + d.val, by omega⟩) (fun e => p (ix2 0 e)) d * Ideal.ofBits FTy.f32 1035273459#32

/-- The keys of a block. -/
def kblk (x : Vec Ideal S512x2048 .f32) (g : Vec Ideal S1x2048 .f32) (w : Vec Ideal S2048x1536 .bf16) (q : Vec Ideal S1x128 .f32) (r d : Fin 512) : EReal :=
  hn (fun d => z x g w r ⟨512 + d.val, by omega⟩) (fun e => q (ix2 0 e)) d

/-- What the body leaves for the queries, read at an index: its four stores are the four heads. -/
theorem out5_at (x : Vec Ideal S512x2048 .f32) (g : Vec Ideal S1x2048 .f32) (w : Vec Ideal S2048x1536 .bf16) (p q : Vec Ideal S1x128 .f32) (r d : Fin 512) :
    out0_5 (F := Ideal) x g w p q (ix2 r d) = qblk x g w p r d := by
  unfold out0_5 k0_pay18
  rw [show View.ld x r0_0 = x from View.ld_unit_lit _ _ (by decide), show View.ld g r0_1 = g from View.ld_unit_lit _ _ (by decide), show View.ld w r0_2 = w from View.ld_unit_lit _ _ (by decide), show View.ld p r0_3 = p from View.ld_unit_lit _ _ (by decide)]
  refine View.canon_apply_of_pieces (Val := Elt Ideal) (show FVec Ideal S512x512 .bf16 from fun y => qblk x g w p (y 0) (y 1)) _ ?_ (ix2 r d) (cover0_5 _ _ _ _ _)
  intro pc hpc
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (q3 x g w p  r e).trans ?_
    show _ = qblk x g w p (r0_7.emb (ix2 r e) 0) (r0_7.emb (ix2 r e) 1)
    rw [emb_384 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (q2 x g w p  r e).trans ?_
    show _ = qblk x g w p (r0_6.emb (ix2 r e) 0) (r0_6.emb (ix2 r e) 1)
    rw [emb_256 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (q1 x g w p  r e).trans ?_
    show _ = qblk x g w p (r0_5.emb (ix2 r e) 0) (r0_5.emb (ix2 r e) 1)
    rw [emb_128 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (q0 x g w p  r e).trans ?_
    show _ = qblk x g w p (r0_4.emb (ix2 r e) 0) (r0_4.emb (ix2 r e) 1)
    rw [emb_0 r e]
    rfl
  nomatch hpc

/-- What the body leaves for the keys. -/
theorem out6_at (x : Vec Ideal S512x2048 .f32) (g : Vec Ideal S1x2048 .f32) (w : Vec Ideal S2048x1536 .bf16) (p q : Vec Ideal S1x128 .f32) (r d : Fin 512) :
    out0_6 (F := Ideal) x g w p q (ix2 r d) = kblk x g w q r d := by
  unfold out0_6 k0_pay18
  rw [show View.ld x r0_0 = x from View.ld_unit_lit _ _ (by decide), show View.ld g r0_1 = g from View.ld_unit_lit _ _ (by decide), show View.ld w r0_2 = w from View.ld_unit_lit _ _ (by decide), show View.ld q r0_3 = q from View.ld_unit_lit _ _ (by decide)]
  refine View.canon_apply_of_pieces (Val := Elt Ideal) (show FVec Ideal S512x512 .bf16 from fun y => kblk x g w q (y 0) (y 1)) _ ?_ (ix2 r d) (cover0_6 _ _ _ _ _)
  intro pc hpc
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k3 x g w q  r e).trans ?_
    show _ = kblk x g w q (r0_7.emb (ix2 r e) 0) (r0_7.emb (ix2 r e) 1)
    rw [emb_384 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k2 x g w q  r e).trans ?_
    show _ = kblk x g w q (r0_6.emb (ix2 r e) 0) (r0_6.emb (ix2 r e) 1)
    rw [emb_256 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k1 x g w q  r e).trans ?_
    show _ = kblk x g w q (r0_5.emb (ix2 r e) 0) (r0_5.emb (ix2 r e) 1)
    rw [emb_128 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k0 x g w q  r e).trans ?_
    show _ = kblk x g w q (r0_4.emb (ix2 r e) 0) (r0_4.emb (ix2 r e) 1)
    rw [emb_0 r e]
    rfl
  nomatch hpc

/-- What the body leaves for the values. -/
theorem out7_at (x : Vec Ideal S512x2048 .f32) (g : Vec Ideal S1x2048 .f32) (w : Vec Ideal S2048x1536 .bf16) (p q : Vec Ideal S1x128 .f32) (r d : Fin 512) :
    out0_7 (F := Ideal) x g w p q (ix2 r d) = z x g w r ⟨1024 + d.val, by omega⟩ := by
  refine Eq.trans ?_ (v_at x g w r d)
  unfold out0_7 k0_pay18
  rw [show View.ld x r0_0 = x from View.ld_unit_lit _ _ (by decide), show View.ld g r0_1 = g from View.ld_unit_lit _ _ (by decide), show View.ld w r0_2 = w from View.ld_unit_lit _ _ (by decide)]
  rw [View.canon_cons_unit_lit _ _ _ (by decide)]

variable (m : (ℓ : Loc nD τ sig) → Buf (Elt Ideal) ℓ)

/-- Row `r`, column `k` of the normalised input's product with the weights. -/
def prod (x : FVec Ideal S32768x2048 .f32) (g : FVec Ideal S2048 .f32) (w : FVec Ideal S2048x1536 .f32) (r : Fin 32768) (k : Fin 1536) : EReal :=
  ∑ l, FfnMath.norm (fun l => x (ix2 r l)) (fun l => g (ix1 l)) l * w (ix2 l k)

/-- The queries: the first 512 columns, every head normalised and scaled. -/
def queries (x : FVec Ideal S32768x2048 .f32) (g : FVec Ideal S2048 .f32) (w : FVec Ideal S2048x1536 .f32) (p : FVec Ideal S128 .f32) (r : Fin 32768) (d : Fin 512) : EReal :=
  hn (fun d => prod x g w r ⟨0 + d.val, by omega⟩) (fun e => p (ix1 e)) d * Ideal.ofBits FTy.f32 1035273459#32

/-- The keys: the next 512 columns, every head normalised. -/
def keys (x : FVec Ideal S32768x2048 .f32) (g : FVec Ideal S2048 .f32) (w : FVec Ideal S2048x1536 .f32) (q : FVec Ideal S128 .f32) (r : Fin 32768) (d : Fin 512) : EReal :=
  hn (fun d => prod x g w r ⟨512 + d.val, by omega⟩) (fun e => q (ix1 e)) d

/-- The values: the last 512 columns. -/
def values (x : FVec Ideal S32768x2048 .f32) (g : FVec Ideal S2048 .f32) (w : FVec Ideal S2048x1536 .f32) (r : Fin 32768) (d : Fin 512) : EReal :=
  prod x g w r ⟨1024 + d.val, by omega⟩

/-- Where each window's block sits at grid point `t`. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ t.val < 64 :=
  (by decide +kernel : ∀ t : Fin grid0.N, _)

/-- The kernel's arguments as arrays. -/
abbrev X (c : Dev nD) : FVec Ideal S32768x2048 .f32 := m ((c : Thread nD τ).loc main_arg0)
abbrev Gw (c : Dev nD) : FVec Ideal S2048 .f32 := m ((c : Thread nD τ).loc main_arg1)
abbrev W (c : Dev nD) : FVec Ideal S2048x1536 .f32 := m ((c : Thread nD τ).loc main_arg2)
abbrev Qg (c : Dev nD) : FVec Ideal S128 .f32 := m ((c : Thread nD τ).loc main_arg3)
abbrev Kg (c : Dev nD) : FVec Ideal S128 .f32 := m ((c : Thread nD τ).loc main_arg4)

/-- The input block at a point holds 512 rows of the input; the other blocks are the whole arrays. -/
theorem blk_x (c : Dev nD) (t : Fin cfg0.N) (r : Fin 512) (l : Fin 2048) (R : Fin 32768) (hR : R.val = t.val * 512 + r.val) :
    (iblk m c 0 t : Vec Ideal S512x2048 .f32) (ix2 r l) = X m c (ix2 R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_w (c : Dev nD) (t : Fin cfg0.N) (l : Fin 2048) (k : Fin 1536) :
    (iblk m c 2 t : Vec Ideal S2048x1536 .bf16) (ix2 l k) = W m c (ix2 l k) := by
  blk_ext! [iblk, idx t]

theorem blk_p (c : Dev nD) (t : Fin cfg0.N) (e : Fin 128) :
    (iblk m c 3 t : Vec Ideal S1x128 .f32) (ix2 0 e) = Qg m c (ix1 e) := by
  blk_ext! [iblk, idx t]

theorem blk_q (c : Dev nD) (t : Fin cfg0.N) (e : Fin 128) :
    (iblk m c 4 t : Vec Ideal S1x128 .f32) (ix2 0 e) = Kg m c (ix1 e) := by
  blk_ext! [iblk, idx t]

/-- The product's row at a point. -/
theorem z_eq (c : Dev nD) (t : Fin cfg0.N) (r : Fin 512) (R : Fin 32768) (hR : R.val = t.val * 512 + r.val) :
    z (iblk m c 0 t) (iblk m c 1 t) (iblk m c 2 t) r = prod (X m c) (Gw m c) (W m c) R := by
  funext k
  unfold z prod
  have hx : (fun l => (iblk m c 0 t : Vec Ideal S512x2048 .f32) (ix2 r l)) = fun l => X m c (ix2 R l) := funext fun l => blk_x m c t r l R hR
  have hg : (fun l => (iblk m c 1 t : Vec Ideal S1x2048 .f32) (ix2 0 l)) = fun l => Gw m c (ix1 l) := funext fun l => blk_g m c t l
  rw [hx, hg]
  exact Finset.sum_congr rfl fun l _ => congrArg (_ * ·) (blk_w m c t l k)

/-- What a grid point leaves for the queries, the keys and the values. -/
theorem point1 (c : Dev nD) (t : Fin cfg0.N) (r d : Fin 512) (R : Fin 32768) (hR : R.val = t.val * 512 + r.val) :
    out0_5 (F := Ideal) (iblk m c 0 t) (iblk m c 1 t) (iblk m c 2 t) (iblk m c 3 t) (iblk m c 4 t) (ix2 r d) = queries (X m c) (Gw m c) (W m c) (Qg m c) R d := by
  have hp : (fun e => (iblk m c 3 t : Vec Ideal S1x128 .f32) (ix2 0 e)) = fun e => Qg m c (ix1 e) := funext fun e => blk_p m c t e
  rw [out5_at]
  unfold qblk
  rw [z_eq m c t r R hR, hp]
  rfl

theorem point2 (c : Dev nD) (t : Fin cfg0.N) (r d : Fin 512) (R : Fin 32768) (hR : R.val = t.val * 512 + r.val) :
    out0_6 (F := Ideal) (iblk m c 0 t) (iblk m c 1 t) (iblk m c 2 t) (iblk m c 3 t) (iblk m c 4 t) (ix2 r d) = keys (X m c) (Gw m c) (W m c) (Kg m c) R d := by
  have hp : (fun e => (iblk m c 4 t : Vec Ideal S1x128 .f32) (ix2 0 e)) = fun e => Kg m c (ix1 e) := funext fun e => blk_q m c t e
  rw [out6_at]
  unfold kblk
  rw [z_eq m c t r R hR, hp]
  rfl

theorem point3 (c : Dev nD) (t : Fin cfg0.N) (r d : Fin 512) (R : Fin 32768) (hR : R.val = t.val * 512 + r.val) :
    out0_7 (F := Ideal) (iblk m c 0 t) (iblk m c 1 t) (iblk m c 2 t) (iblk m c 3 t) (iblk m c 4 t) (ix2 r d) = values (X m c) (Gw m c) (W m c) R d := by
  rw [out7_at, z_eq m c t r R hR]
  rfl

/-- The first result array holds the queries. -/
theorem final1 (c : Dev nD) : (dats m 0 c).arrAt 5 (cfgs 0).N = fun j => queries (X m c) (Gw m c) (W m c) (Qg m c) (j 0) (j 1) := by
  refine (dats m 0 c).arrAt_eq_of_covers 5 _ (by decide +kernel) fun t hf y => ?_
  blk_simp
  rw [after0_5]
  have hN : t.val < 64 := (idx t).2.2.2.2.2.2.2.2
  have y0 : (y 0 : ℕ) < 512 := (y 0).isLt
  have y1 : (y 1 : ℕ) < 512 := (y 1).isLt
  have key := point1 m c t ⟨y 0, y0⟩ ⟨y 1, y1⟩ ⟨t.val * 512 + (y 0 : ℕ), by omega⟩ rfl
  refine Eq.trans ?_ (key.trans ?_)
  · blk_ext
  · have e0 : (((cfg0.win 5).blk t).view.emb y) 0 = (⟨t.val * 512 + (y 0 : ℕ), by omega⟩ : Fin 32768) := Fin.ext (by blk_simp [idx t])
    have e1 : (((cfg0.win 5).blk t).view.emb y) 1 = (⟨y 1, y1⟩ : Fin 512) := Fin.ext (by blk_simp [idx t])
    exact (congrArg₂ (queries (X m c) (Gw m c) (W m c) (Qg m c)) e0 e1).symm

/-- The second result array holds the keys. -/
theorem final2 (c : Dev nD) : (dats m 0 c).arrAt 6 (cfgs 0).N = fun j => keys (X m c) (Gw m c) (W m c) (Kg m c) (j 0) (j 1) := by
  refine (dats m 0 c).arrAt_eq_of_covers 6 _ (by decide +kernel) fun t hf y => ?_
  blk_simp
  rw [after0_6]
  have hN : t.val < 64 := (idx t).2.2.2.2.2.2.2.2
  have y0 : (y 0 : ℕ) < 512 := (y 0).isLt
  have y1 : (y 1 : ℕ) < 512 := (y 1).isLt
  have key := point2 m c t ⟨y 0, y0⟩ ⟨y 1, y1⟩ ⟨t.val * 512 + (y 0 : ℕ), by omega⟩ rfl
  refine Eq.trans ?_ (key.trans ?_)
  · blk_ext
  · have e0 : (((cfg0.win 6).blk t).view.emb y) 0 = (⟨t.val * 512 + (y 0 : ℕ), by omega⟩ : Fin 32768) := Fin.ext (by blk_simp [idx t])
    have e1 : (((cfg0.win 6).blk t).view.emb y) 1 = (⟨y 1, y1⟩ : Fin 512) := Fin.ext (by blk_simp [idx t])
    exact (congrArg₂ (keys (X m c) (Gw m c) (W m c) (Kg m c)) e0 e1).symm

/-- The third result array holds the values. -/
theorem final3 (c : Dev nD) : (dats m 0 c).arrAt 7 (cfgs 0).N = fun j => values (X m c) (Gw m c) (W m c) (j 0) (j 1) := by
  refine (dats m 0 c).arrAt_eq_of_covers 7 _ (by decide +kernel) fun t hf y => ?_
  blk_simp
  rw [after0_7]
  have hN : t.val < 64 := (idx t).2.2.2.2.2.2.2.2
  have y0 : (y 0 : ℕ) < 512 := (y 0).isLt
  have y1 : (y 1 : ℕ) < 512 := (y 1).isLt
  have key := point3 m c t ⟨y 0, y0⟩ ⟨y 1, y1⟩ ⟨t.val * 512 + (y 0 : ℕ), by omega⟩ rfl
  refine Eq.trans ?_ (key.trans ?_)
  · blk_ext
  · have e0 : (((cfg0.win 7).blk t).view.emb y) 0 = (⟨t.val * 512 + (y 0 : ℕ), by omega⟩ : Fin 32768) := Fin.ext (by blk_simp [idx t])
    have e1 : (((cfg0.win 7).blk t).view.emb y) 1 = (⟨y 1, y1⟩ : Fin 512) := Fin.ext (by blk_simp [idx t])
    exact (congrArg₂ (values (X m c) (Gw m c) (W m c)) e0 e1).symm

end Cert.PsbIdeal.Value

end
-- ==== Proof.PsbRead.lean ====
/- The reference's input projection of the attention, read at an index. -/
module

public import proofs.«01_k».proof.Proof.PsbArray
public import proofs.«01_k».proof.Proof.Gen.PsbRefIdeal.Run

@[expose] public section

set_option maxRecDepth 16384

noncomputable section

namespace Cert.PsbRefIdeal.Value

open Idealize.ShloMosaic Idealize.ShloMosaic.TcCoe Idealize.SL.Sem
open Cert.PsbRefIdeal Cert.PsbRefIdeal.Gen

/-- The reference ends with the queries, the keys and the values in its results and its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (fun j => PsbIdeal.Value.queries (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v50) = (fun j => PsbIdeal.Value.keys (m ((c.tc : Thread nD τ).loc main_arg0)) (m ((c.tc : Thread nD τ).loc main_arg1)) (m ((c.tc : Thread nD τ).loc main_arg2)) (m ((c.tc : Thread nD τ).loc main_arg4)) (j 0) (j 1))
      ∧ r.2.mem ((c.tc : Thread nD τ).loc main_v51) = (fun j => PsbIdeal.Value.values (m ((c.tc : Thread nD τ).loc main_arg0)) (m ((c.tc : Thread nD τ).loc main_arg1)) (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩) (run m ρ)
  all_goals
    clear h
    generalize m ((c.tc : Thread nD τ).loc main_arg0) = x
    generalize m ((c.tc : Thread nD τ).loc main_arg1) = g
    generalize m ((c.tc : Thread nD τ).loc main_arg2) = w
  · generalize m ((c.tc : Thread nD τ).loc main_arg3) = p
    funext j
    idx_vars j
    pointwise [PsbIdeal.Value.queries, HeadNorm.hn, HeadNorm.feat, PsbIdeal.Value.prod, FfnMath.norm]
  · generalize m ((c.tc : Thread nD τ).loc main_arg4) = q
    funext j
    idx_vars j
    pointwise [PsbIdeal.Value.keys, HeadNorm.hn, HeadNorm.feat, PsbIdeal.Value.prod, FfnMath.norm]
  · funext j
    idx_vars j
    pointwise [PsbIdeal.Value.values, PsbIdeal.Value.prod, FfnMath.norm]

end Cert.PsbRefIdeal.Value

end
-- ==== Proof.PsbClaim.lean ====
/- The claims about the attention projection call, assembled. -/
module

public import proofs.«01_k».proof.Defs
public import proofs.«01_k».proof.Proof.PsbArray
public import proofs.«01_k».proof.Proof.PsbRead
public import proofs.«01_k».proof.Proof.Gen.Psb.Frame

@[expose] public section

noncomputable section

namespace Cert.Proof.Psb

open Idealize.ShloMosaic Idealize.ShloMosaic.TcCoe Idealize.SL.Sem

/-- The kernel leaves its arguments as they were and every counter at zero. -/
theorem frame : Cert.quiescent_Psb := fun m ρ _ => Cert.Psb.Gen.frame m ρ

/-- So does the kernel over the extended reals. -/
theorem frame_ideal : Cert.quiescent_PsbIdeal := fun m ρ _ => Cert.PsbIdeal.Gen.frame m ρ

/-- So does the reference, which declares no counter. -/
theorem frame_ref : Cert.quiescent_PsbRefIdeal := fun m ρ _ =>
  (θ_run Cert.PsbRefIdeal.defs _ _).mono (fun r h => ⟨fun c => (h c).2.2.2, sem_eq_zero_of_no_sems (by decide) r.2⟩)
    (Cert.PsbRefIdeal.Value.run (F := Ideal) m ρ)

/-- From arguments that agree, the kernel and the reference end with the same extended reals in their results. -/
theorem algebraic : Cert.algebraic_PsbIdeal_PsbRefIdeal := by
  intro m ρ m' ρ' _ hag
  refine ⟨fun c => fun j => Cert.PsbIdeal.Value.queries (m ((c.tc : Thread Cert.PsbIdeal.nD Cert.PsbIdeal.τ).loc Cert.PsbIdeal.main_arg0)) (m ((c.tc : Thread Cert.PsbIdeal.nD Cert.PsbIdeal.τ).loc Cert.PsbIdeal.main_arg1)) (m ((c.tc : Thread Cert.PsbIdeal.nD Cert.PsbIdeal.τ).loc Cert.PsbIdeal.main_arg2)) (m ((c.tc : Thread Cert.PsbIdeal.nD Cert.PsbIdeal.τ).loc Cert.PsbIdeal.main_arg3)) (j 0) (j 1),
    fun c => fun j => Cert.PsbIdeal.Value.keys (m ((c.tc : Thread Cert.PsbIdeal.nD Cert.PsbIdeal.τ).loc Cert.PsbIdeal.main_arg0)) (m ((c.tc : Thread Cert.PsbIdeal.nD Cert.PsbIdeal.τ).loc Cert.PsbIdeal.main_arg1)) (m ((c.tc : Thread Cert.PsbIdeal.nD Cert.PsbIdeal.τ).loc Cert.PsbIdeal.main_arg2)) (m ((c.tc : Thread Cert.PsbIdeal.nD Cert.PsbIdeal.τ).loc Cert.PsbIdeal.main_arg4)) (j 0) (j 1),
    fun c => fun j => Cert.PsbIdeal.Value.values (m ((c.tc : Thread Cert.PsbIdeal.nD Cert.PsbIdeal.τ).loc Cert.PsbIdeal.main_arg0)) (m ((c.tc : Thread Cert.PsbIdeal.nD Cert.PsbIdeal.τ).loc Cert.PsbIdeal.main_arg1)) (m ((c.tc : Thread Cert.PsbIdeal.nD Cert.PsbIdeal.τ).loc Cert.PsbIdeal.main_arg2)) (j 0) (j 1), ?_, ?_⟩
  · exact (θ_run Cert.PsbIdeal.defs _ _).mono (fun r h c => ⟨(h c).1.trans (Cert.PsbIdeal.Value.final1 m c), (h c).2.1.trans (Cert.PsbIdeal.Value.final2 m c), (h c).2.2.1.trans (Cert.PsbIdeal.Value.final3 m c), (h c).2.2.2⟩) (Cert.PsbIdeal.Value.run_blocks (F := Ideal) m ρ)
  · refine (θ_run Cert.PsbRefIdeal.defs _ _).mono (fun r h c => ⟨(h c).1.trans ?_, (h c).2.1.trans ?_, (h c).2.2.1.trans ?_, (h c).2.2.2⟩) (Cert.PsbRefIdeal.Value.run_proj m' ρ')
    · rw [(hag c).1, (hag c).2.1, (hag c).2.2.1, (hag c).2.2.2.1]
      rfl
    · rw [(hag c).1, (hag c).2.1, (hag c).2.2.1, (hag c).2.2.2.2]
      rfl
    · rw [(hag c).1, (hag c).2.1, (hag c).2.2.1]
      rfl

end Cert.Proof.Psb

end
-- ==== Proof.PvArray.lean ====
/- The value projection's result array is the projection of its arguments. -/
module

public import proofs.«01_k».proof.Proof.FfnPoint
public import proofs.«01_k».proof.Proof.Gen.PvIdeal.Value
public import Idealize.ShloMosaic.Lib.Pipeline.ValueKit
public import Idealize.ShloMosaic.Lib.Pointwise

@[expose] public section

set_option maxRecDepth 16384

noncomputable section

namespace Cert.PvIdeal.Value

open Cert.PvIdeal Cert.PvIdeal.Gen Idealize.ShloMosaic Idealize.ShloMosaic.TcCoe Idealize.SL.Sem
open Idealize.ShloMosaic.Pipeline (Dat)

variable (m : (ℓ : Loc nD τ sig) → Buf (Elt Ideal) ℓ)

/-- The value projection: row `r` of the normalised input against column `k` of the weights. -/
def proj (x : FVec Ideal S32768x2048 .f32) (g : FVec Ideal S2048 .f32) (w : FVec Ideal S2048x1536 .f32) (r : Fin 32768) (k : Fin 1536) : EReal :=
  ∑ l, FfnMath.norm (fun l => x (ix2 r l)) (fun l => g (ix1 l)) l * w (ix2 l k)

/-- The kernel's payload read at an index. -/
theorem pay1_at (x : Vec Ideal S512x2048 .f32) (g : Vec Ideal S1x2048 .f32) (w : Vec Ideal S2048x1536 .bf16) (r : Fin 512) (k : Fin 1536) :
    k0_pay1 (F := Ideal) x g w (ix2 r k) = ∑ l, FfnMath.norm (fun l => x (ix2 r l)) (fun l => g (ix2 0 l)) l * w (ix2 l k) := by
  pointwise [k0_pay1, FfnMath.norm]

/-- Where each window's block sits at grid point `t`. -/
theorem idx : ∀ t : Fin cfg0.N, win0_0.index t = ![t.val, 0] ∧ win0_1.index t = ![0, 0] ∧ win0_2.index t = ![0, 0] ∧ win0_3.index t = ![t.val, 0] ∧ t.val < 64 :=
  (by decide +kernel : ∀ t : Fin grid0.N, _)

/-- The kernel's arguments as arrays. -/
abbrev X (c : Dev nD) : FVec Ideal S32768x2048 .f32 := m ((c : Thread nD τ).loc main_arg0)
abbrev Gw (c : Dev nD) : FVec Ideal S2048 .f32 := m ((c : Thread nD τ).loc main_arg1)
abbrev W (c : Dev nD) : FVec Ideal S2048x1536 .f32 := m ((c : Thread nD τ).loc main_arg2)

/-- The input block at a point holds 512 rows of the input; the other two blocks are the whole arrays. -/
theorem blk_x (c : Dev nD) (t : Fin cfg0.N) (r : Fin 512) (l : Fin 2048) (R : Fin 32768) (hR : R.val = t.val * 512 + r.val) :
    (iblk m c 0 t : Vec Ideal S512x2048 .f32) (ix2 r l) = X m c (ix2 R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_w (c : Dev nD) (t : Fin cfg0.N) (l : Fin 2048) (k : Fin 1536) :
    (iblk m c 2 t : Vec Ideal S2048x1536 .bf16) (ix2 l k) = W m c (ix2 l k) := by
  blk_ext! [iblk, idx t]

/-- What a grid point writes at row `r`, column `k` of its block. -/
theorem point (c : Dev nD) (t : Fin cfg0.N) (r : Fin 512) (k : Fin 1536) (R : Fin 32768) (hR : R.val = t.val * 512 + r.val) :
    k0_pay1 (F := Ideal) (iblk m c 0 t) (iblk m c 1 t) (iblk m c 2 t) (ix2 r k) = proj (X m c) (Gw m c) (W m c) R k := by
  rw [pay1_at]
  unfold proj
  have hx : (fun l => (iblk m c 0 t : Vec Ideal S512x2048 .f32) (ix2 r l)) = fun l => X m c (ix2 R l) := funext fun l => blk_x m c t r l R hR
  have hg : (fun l => (iblk m c 1 t : Vec Ideal S1x2048 .f32) (ix2 0 l)) = fun l => Gw m c (ix1 l) := funext fun l => blk_g m c t l
  rw [hx, hg]
  exact Finset.sum_congr rfl fun l _ => congrArg (_ * ·) (blk_w m c t l k)

/-- The result array is the projection of the arguments. -/
theorem final (c : Dev nD) : (dats m 0 c).arrAt 3 (cfgs 0).N = fun j => proj (X m c) (Gw m c) (W m c) (j 0) (j 1) := by
  refine (dats m 0 c).arrAt_eq_of_covers 3 _ (by decide +kernel) fun t hf y => ?_
  blk_simp
  rw [after0_3]
  frame_out
  have hN : t.val < 64 := (idx t).2.2.2.2
  have y0 : (y 0 : ℕ) < 512 := (y 0).isLt
  have y1 : (y 1 : ℕ) < 1536 := (y 1).isLt
  have key := point m c t ⟨y 0, y0⟩ ⟨y 1, y1⟩ ⟨t.val * 512 + (y 0 : ℕ), by omega⟩ rfl
  refine Eq.trans ?_ (key.trans ?_)
  · blk_ext
  · have e0 : (((cfg0.win 3).blk t).view.emb y) 0 = (⟨t.val * 512 + (y 0 : ℕ), by omega⟩ : Fin 32768) := Fin.ext (by blk_simp [idx t])
    have e1 : (((cfg0.win 3).blk t).view.emb y) 1 = (⟨y 1, y1⟩ : Fin 1536) := Fin.ext (by blk_simp [idx t])
    exact (congrArg₂ (proj (X m c) (Gw m c) (W m c)) e0 e1).symm

end Cert.PvIdeal.Value

end
-- ==== Proof.PvRead.lean ====
/- The reference's projection, read at an index. -/
module

public import proofs.«01_k».proof.Proof.PvArray
public import proofs.«01_k».proof.Proof.Gen.PvRefIdeal.Run

@[expose] public section

set_option maxRecDepth 16384

noncomputable section

namespace Cert.PvRefIdeal.Value

open Idealize.ShloMosaic Idealize.ShloMosaic.TcCoe Idealize.SL.Sem
open Cert.PvRefIdeal Cert.PvRefIdeal.Gen

/-- The reference ends with the projection in its result and its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = (fun j => PvIdeal.Value.proj (m ((c.tc : Thread nD τ).loc main_arg0)) (m ((c.tc : Thread nD τ).loc main_arg1))
        (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  generalize m ((c.tc : Thread nD τ).loc main_arg0) = x
  generalize m ((c.tc : Thread nD τ).loc main_arg1) = g
  generalize m ((c.tc : Thread nD τ).loc main_arg2) = w
  clear h
  funext j
  idx_vars j
  pointwise [PvIdeal.Value.proj, FfnMath.norm]

end Cert.PvRefIdeal.Value

end
-- ==== Proof.PvClaim.lean ====
/- The claims about the value projection call, assembled. -/
module

public import proofs.«01_k».proof.Defs
public import proofs.«01_k».proof.Proof.PvArray
public import proofs.«01_k».proof.Proof.PvRead
public import proofs.«01_k».proof.Proof.Gen.Pv.Frame

@[expose] public section

noncomputable section

namespace Cert.Proof.Pv

open Idealize.ShloMosaic Idealize.ShloMosaic.TcCoe Idealize.SL.Sem

/-- The kernel leaves its arguments as they were and every counter at zero. -/
theorem frame : Cert.quiescent_Pv := fun m ρ _ => Cert.Pv.Gen.frame m ρ

/-- So does the kernel over the extended reals. -/
theorem frame_ideal : Cert.quiescent_PvIdeal := fun m ρ _ => Cert.PvIdeal.Gen.frame m ρ

/-- So does the reference, which declares no counter. -/
theorem frame_ref : Cert.quiescent_PvRefIdeal := fun m ρ _ =>
  (θ_run Cert.PvRefIdeal.defs _ _).mono (fun r h => ⟨fun c => (h c).2, sem_eq_zero_of_no_sems (by decide) r.2⟩)
    (Cert.PvRefIdeal.Value.run (F := Ideal) m ρ)

/-- From arguments that agree, the kernel and the reference end with the same extended reals in their results. -/
theorem algebraic : Cert.algebraic_PvIdeal_PvRefIdeal := by
  intro m ρ m' ρ' _ hag
  refine ⟨fun c => fun j => Cert.PvIdeal.Value.proj (m ((c.tc : Thread Cert.PvIdeal.nD Cert.PvIdeal.τ).loc Cert.PvIdeal.main_arg0)) (m ((c.tc : Thread Cert.PvIdeal.nD Cert.PvIdeal.τ).loc Cert.PvIdeal.main_arg1)) (m ((c.tc : Thread Cert.PvIdeal.nD Cert.PvIdeal.τ).loc Cert.PvIdeal.main_arg2)) (j 0) (j 1), ?_, ?_⟩
  · exact (θ_run Cert.PvIdeal.defs _ _).mono (fun r h c => ⟨(h c).1.trans (Cert.PvIdeal.Value.final m c), (h c).2⟩) (Cert.PvIdeal.Value.run_blocks (F := Ideal) m ρ)
  · refine (θ_run Cert.PvRefIdeal.defs _ _).mono (fun r h c => ⟨(h c).1.trans ?_, (h c).2⟩) (Cert.PvRefIdeal.Value.run_proj m' ρ')
    rw [(hag c).1, (hag c).2.1, (hag c).2.2]
    rfl

end Cert.Proof.Pv

end
-- ==== Proof.PrArray.lean ====
/- The output gate projection's result array is the projection of its arguments. -/
module

public import proofs.«01_k».proof.Proof.FfnPoint
public import proofs.«01_k».proof.Proof.Gen.PrIdeal.Value
public import Idealize.ShloMosaic.Lib.Pipeline.ValueKit
public import Idealize.ShloMosaic.Lib.Pointwise

@[expose] public section

set_option maxRecDepth 16384

noncomputable section

namespace Cert.PrIdeal.Value

open Cert.PrIdeal Cert.PrIdeal.Gen Idealize.ShloMosaic Idealize.ShloMosaic.TcCoe Idealize.SL.Sem
open Idealize.ShloMosaic.Pipeline (Dat)

variable (m : (ℓ : Loc nD τ sig) → Buf (Elt Ideal) ℓ)

/-- A number times its logistic value. -/
def silu (a : EReal) : EReal := a * Ideal.div 1 (1 + Ideal.exp (0 - a))

/-- The output gate projection: row `r` of the normalised input against column `k` of the weights. -/
def proj (x : FVec Ideal S32768x2048 .f32) (g : FVec Ideal S2048 .f32) (w : FVec Ideal S2048x1536 .f32) (r : Fin 32768) (k : Fin 1536) : EReal :=
  silu (∑ l, FfnMath.norm (fun l => x (ix2 r l)) (fun l => g (ix1 l)) l * w (ix2 l k))

/-- The kernel's payload read at an index. -/
theorem pay1_at (x : Vec Ideal S512x2048 .f32) (g : Vec Ideal S1x2048 .f32) (w : Vec Ideal S2048x1536 .bf16) (r : Fin 512) (k : Fin 1536) :
    k0_pay1 (F := Ideal) x g w (ix2 r k) = silu (∑ l, FfnMath.norm (fun l => x (ix2 r l)) (fun l => g (ix2 0 l)) l * w (ix2 l k)) := by
  pointwise [k0_pay1, FfnMath.norm, silu]

/-- Where each window's block sits at grid point `t`. -/
theorem idx : ∀ t : Fin cfg0.N, win0_0.index t = ![t.val, 0] ∧ win0_1.index t = ![0, 0] ∧ win0_2.index t = ![0, 0] ∧ win0_3.index t = ![t.val, 0] ∧ t.val < 64 :=
  (by decide +kernel : ∀ t : Fin grid0.N, _)

/-- The kernel's arguments as arrays. -/
abbrev X (c : Dev nD) : FVec Ideal S32768x2048 .f32 := m ((c : Thread nD τ).loc main_arg0)
abbrev Gw (c : Dev nD) : FVec Ideal S2048 .f32 := m ((c : Thread nD τ).loc main_arg1)
abbrev W (c : Dev nD) : FVec Ideal S2048x1536 .f32 := m ((c : Thread nD τ).loc main_arg2)

/-- The input block at a point holds 512 rows of the input; the other two blocks are the whole arrays. -/
theorem blk_x (c : Dev nD) (t : Fin cfg0.N) (r : Fin 512) (l : Fin 2048) (R : Fin 32768) (hR : R.val = t.val * 512 + r.val) :
    (iblk m c 0 t : Vec Ideal S512x2048 .f32) (ix2 r l) = X m c (ix2 R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_w (c : Dev nD) (t : Fin cfg0.N) (l : Fin 2048) (k : Fin 1536) :
    (iblk m c 2 t : Vec Ideal S2048x1536 .bf16) (ix2 l k) = W m c (ix2 l k) := by
  blk_ext! [iblk, idx t]

/-- What a grid point writes at row `r`, column `k` of its block. -/
theorem point (c : Dev nD) (t : Fin cfg0.N) (r : Fin 512) (k : Fin 1536) (R : Fin 32768) (hR : R.val = t.val * 512 + r.val) :
    k0_pay1 (F := Ideal) (iblk m c 0 t) (iblk m c 1 t) (iblk m c 2 t) (ix2 r k) = proj (X m c) (Gw m c) (W m c) R k := by
  rw [pay1_at]
  unfold proj
  have hx : (fun l => (iblk m c 0 t : Vec Ideal S512x2048 .f32) (ix2 r l)) = fun l => X m c (ix2 R l) := funext fun l => blk_x m c t r l R hR
  have hg : (fun l => (iblk m c 1 t : Vec Ideal S1x2048 .f32) (ix2 0 l)) = fun l => Gw m c (ix1 l) := funext fun l => blk_g m c t l
  rw [hx, hg]
  exact congrArg silu (Finset.sum_congr rfl fun l _ => congrArg (_ * ·) (blk_w m c t l k))

/-- The result array is the projection of the arguments. -/
theorem final (c : Dev nD) : (dats m 0 c).arrAt 3 (cfgs 0).N = fun j => proj (X m c) (Gw m c) (W m c) (j 0) (j 1) := by
  refine (dats m 0 c).arrAt_eq_of_covers 3 _ (by decide +kernel) fun t hf y => ?_
  blk_simp
  rw [after0_3]
  frame_out
  have hN : t.val < 64 := (idx t).2.2.2.2
  have y0 : (y 0 : ℕ) < 512 := (y 0).isLt
  have y1 : (y 1 : ℕ) < 1536 := (y 1).isLt
  have key := point m c t ⟨y 0, y0⟩ ⟨y 1, y1⟩ ⟨t.val * 512 + (y 0 : ℕ), by omega⟩ rfl
  refine Eq.trans ?_ (key.trans ?_)
  · blk_ext
  · have e0 : (((cfg0.win 3).blk t).view.emb y) 0 = (⟨t.val * 512 + (y 0 : ℕ), by omega⟩ : Fin 32768) := Fin.ext (by blk_simp [idx t])
    have e1 : (((cfg0.win 3).blk t).view.emb y) 1 = (⟨y 1, y1⟩ : Fin 1536) := Fin.ext (by blk_simp [idx t])
    exact (congrArg₂ (proj (X m c) (Gw m c) (W m c)) e0 e1).symm

end Cert.PrIdeal.Value

end
-- ==== Proof.PrRead.lean ====
/- The reference's projection, read at an index. -/
module

public import proofs.«01_k».proof.Proof.PrArray
public import proofs.«01_k».proof.Proof.Gen.PrRefIdeal.Run

@[expose] public section

set_option maxRecDepth 16384

noncomputable section

namespace Cert.PrRefIdeal.Value

open Idealize.ShloMosaic Idealize.ShloMosaic.TcCoe Idealize.SL.Sem
open Cert.PrRefIdeal Cert.PrRefIdeal.Gen

/-- The reference ends with the projection in its result and its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun j => PrIdeal.Value.proj (m ((c.tc : Thread nD τ).loc main_arg0)) (m ((c.tc : Thread nD τ).loc main_arg1))
        (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  generalize m ((c.tc : Thread nD τ).loc main_arg0) = x
  generalize m ((c.tc : Thread nD τ).loc main_arg1) = g
  generalize m ((c.tc : Thread nD τ).loc main_arg2) = w
  clear h
  funext j
  idx_vars j
  pointwise [PrIdeal.Value.proj, PrIdeal.Value.silu, FfnMath.norm]
  simp only [zero_sub]

end Cert.PrRefIdeal.Value

end
-- ==== Proof.PrClaim.lean ====
/- The claims about the gate projection call, assembled. -/
module

public import proofs.«01_k».proof.Defs
public import proofs.«01_k».proof.Proof.PrArray
public import proofs.«01_k».proof.Proof.PrRead
public import proofs.«01_k».proof.Proof.Gen.Pr.Frame

@[expose] public section

noncomputable section

namespace Cert.Proof.Pr

open Idealize.ShloMosaic Idealize.ShloMosaic.TcCoe Idealize.SL.Sem

/-- The kernel leaves its arguments as they were and every counter at zero. -/
theorem frame : Cert.quiescent_Pr := fun m ρ _ => Cert.Pr.Gen.frame m ρ

/-- So does the kernel over the extended reals. -/
theorem frame_ideal : Cert.quiescent_PrIdeal := fun m ρ _ => Cert.PrIdeal.Gen.frame m ρ

/-- So does the reference, which declares no counter. -/
theorem frame_ref : Cert.quiescent_PrRefIdeal := fun m ρ _ =>
  (θ_run Cert.PrRefIdeal.defs _ _).mono (fun r h => ⟨fun c => (h c).2, sem_eq_zero_of_no_sems (by decide) r.2⟩)
    (Cert.PrRefIdeal.Value.run (F := Ideal) m ρ)

/-- From arguments that agree, the kernel and the reference end with the same extended reals in their results. -/
theorem algebraic : Cert.algebraic_PrIdeal_PrRefIdeal := by
  intro m ρ m' ρ' _ hag
  refine ⟨fun c => fun j => Cert.PrIdeal.Value.proj (m ((c.tc : Thread Cert.PrIdeal.nD Cert.PrIdeal.τ).loc Cert.PrIdeal.main_arg0)) (m ((c.tc : Thread Cert.PrIdeal.nD Cert.PrIdeal.τ).loc Cert.PrIdeal.main_arg1)) (m ((c.tc : Thread Cert.PrIdeal.nD Cert.PrIdeal.τ).loc Cert.PrIdeal.main_arg2)) (j 0) (j 1), ?_, ?_⟩
  · exact (θ_run Cert.PrIdeal.defs _ _).mono (fun r h c => ⟨(h c).1.trans (Cert.PrIdeal.Value.final m c), (h c).2⟩) (Cert.PrIdeal.Value.run_blocks (F := Ideal) m ρ)
  · refine (θ_run Cert.PrRefIdeal.defs _ _).mono (fun r h c => ⟨(h c).1.trans ?_, (h c).2⟩) (Cert.PrRefIdeal.Value.run_proj m' ρ')
    rw [(hag c).1, (hag c).2.1, (hag c).2.2]
    rfl

end Cert.Proof.Pr

end
-- ==== Proof.PgPoint.lean ====
/- The gated projection: the kernel's payloads read at an index, and the constants. -/
module

public import proofs.«01_k».proof.Proof.FfnPoint
public import proofs.«01_k».proof.Proof.SbMath
public import proofs.«01_k».proof.Proof.Gen.PgIdeal.Frame
public import Idealize.ShloMosaic.Lib.Pipeline.ValueKit
public import Idealize.ShloMosaic.Lib.Pointwise

@[expose] public section

set_option maxRecDepth 16384

noncomputable section

namespace Cert.PgIdeal.Value

open Cert.PgIdeal Cert.PgIdeal.Gen Idealize.ShloMosaic Idealize.ShloMosaic.TcCoe Idealize.SL.Sem

/-- A row of the product of the normalised input with the joined weights. -/
def z (x : Vec Ideal S512x2048 .f32) (g : Vec Ideal S1x2048 .f32) (w : Vec Ideal S2048x1664 .bf16) (r : Fin 512) (k : Fin 1664) : EReal :=
  ∑ l, FfnMath.norm (fun l => x (ix2 r l)) (fun l => g (ix2 0 l)) l * w (ix2 l k)

/-- The kernel's product read at an index. -/
theorem pay2_at (x : Vec Ideal S512x2048 .f32) (g : Vec Ideal S1x2048 .f32) (w : Vec Ideal S2048x1664 .bf16) (r : Fin 512) (k : Fin 1664) :
    k0_pay2 (F := Ideal) x g w (ix2 r k) = z x g w r k := by
  pointwise [k0_pay2, z, FfnMath.norm]

/-- The queries: the first 768 columns, scaled. -/
theorem q_at (x : Vec Ideal S512x2048 .f32) (g : Vec Ideal S1x2048 .f32) (w : Vec Ideal S2048x1664 .bf16) (r : Fin 512) (k : Fin 768) :
    k0_pay3 (F := Ideal) x g w (ix2 r k) = z x g w r ⟨0 + k.val, by omega⟩ * Ideal.ofBits FTy.f32 0x3E000000#32 := by
  rw [← pay2_at]
  pointwise [k0_pay3]

/-- The keys: the next 768 columns. -/
theorem k_at (x : Vec Ideal S512x2048 .f32) (g : Vec Ideal S1x2048 .f32) (w : Vec Ideal S2048x1664 .bf16) (r : Fin 512) (k : Fin 768) :
    k0_pay4 (F := Ideal) x g w (ix2 r k) = z x g w r ⟨768 + k.val, by omega⟩ := by
  rw [← pay2_at]
  pointwise [k0_pay4]

/-- The gate's logit: the last 128 columns times the gate's second weights, and the bias. -/
theorem logit_at (x : Vec Ideal S512x2048 .f32) (g : Vec Ideal S1x2048 .f32) (w : Vec Ideal S2048x1664 .bf16) (wg : Vec Ideal S128x768 .bf16) (b : Vec Ideal S1x768 .f32) (r : Fin 512) (k : Fin 768) :
    k0_pay5 (F := Ideal) x g w wg b (ix2 r k) = -((∑ l : Fin 128, z x g w r ⟨1536 + l.val, by omega⟩ * wg (ix2 l k)) + b (ix2 0 k)) := by
  simp only [← pay2_at]
  rw [← zero_sub]
  pointwise [k0_pay5]

/-- The logarithm of the gate from the negated logit. -/
theorem gate_at (v : FVec Ideal S512x768 .f32) (r : Fin 512) (k : Fin 768) :
    k0_pay1 (F := Ideal) v (ix2 r k) = (-(SbMath.sp (v (ix2 r k)))) * Ideal.ofBits FTy.f32 0x3D800000#32 := by
  rw [← zero_sub]
  pointwise [k0_pay1, SbMath.sp]

/-- The kernel's factor is the reciprocal of the reference's divisor, so the two agree at every extended real. -/
theorem sixteenth (y : EReal) : y * Ideal.ofBits FTy.f32 0x3D800000#32 = Ideal.div y (Ideal.ofBits FTy.f32 0x41800000#32) := by
  have h1 : Ideal.ofBits FTy.f32 0x3D800000#32 = ((1 / 16 : ℝ) : EReal) := by
    simp [Ideal.ofBits, Ideal.ieee, -EReal.coe_mul]; norm_num
  have h2 : Ideal.ofBits FTy.f32 0x41800000#32 = ((16 : ℝ) : EReal) := by
    simp [Ideal.ofBits, Ideal.ieee, -EReal.coe_mul]; norm_num
  rw [h1, h2, Ideal.div_coe (by norm_num : (16 : ℝ) ≠ 0)]

end Cert.PgIdeal.Value

end
-- ==== Proof.PgArray.lean ====
/- The gated projection's result arrays as functions of the arguments. -/
module

public import proofs.«01_k».proof.Proof.PgPoint
public import proofs.«01_k».proof.Proof.Gen.PgIdeal.Value
public import Idealize.ShloMosaic.Lib.StableHlo.RunRead

@[expose] public section

set_option maxRecDepth 16384

noncomputable section

namespace Cert.PgIdeal.Value

open Cert.PgIdeal Cert.PgIdeal.Gen Idealize.ShloMosaic Idealize.ShloMosaic.TcCoe Idealize.SL.Sem
open Idealize.ShloMosaic.StableHlo

variable (m : (ℓ : Loc nD τ sig) → Buf (Elt Ideal) ℓ)

/-- Row `r`, column `k` of the normalised input's product with weights of `n` columns. -/
def prod {n : ℕ} (x : FVec Ideal S32768x2048 .f32) (g : FVec Ideal S2048 .f32) (w : FVec Ideal ⟨2, ![2048, n]⟩ .f32) (r : Fin 32768) (k : Fin n) : EReal :=
  ∑ l, FfnMath.norm (fun l => x (ix2 r l)) (fun l => g (ix1 l)) l * w (ix2 l k)

/-- The queries: the first 768 columns, scaled. -/
def queries (x : FVec Ideal S32768x2048 .f32) (g : FVec Ideal S2048 .f32) (w : FVec Ideal S2048x1536 .f32) (r : Fin 32768) (d : Fin 768) : EReal :=
  prod x g w r ⟨0 + d.val, by omega⟩ * Ideal.ofBits FTy.f32 0x3E000000#32

/-- The keys: the next 768 columns. -/
def keys (x : FVec Ideal S32768x2048 .f32) (g : FVec Ideal S2048 .f32) (w : FVec Ideal S2048x1536 .f32) (r : Fin 32768) (d : Fin 768) : EReal :=
  prod x g w r ⟨768 + d.val, by omega⟩

/-- The logarithms of the forget gates: the logarithm of the sigmoid of the low-rank product with its bias, over sixteen. -/
def gates (x : FVec Ideal S32768x2048 .f32) (g : FVec Ideal S2048 .f32) (u : FVec Ideal S2048x16 .f32) (v : FVec Ideal S16x768 .f32) (b : FVec Ideal S768 .f32) (r : Fin 32768) (d : Fin 768) : EReal :=
  Ideal.div (-(SbMath.sp (-((∑ j, prod x g u r j * v (ix2 j d)) + b (ix1 d))))) (Ideal.ofBits FTy.f32 0x41800000#32)

/-- The host joins the two weights and 112 columns of zeros. -/
theorem joined (c : Dev nD) : (V m c main_v6 : FVec Ideal S2048x1664 .bf16)
    = truncf .bf16 (concatenate S2048x1664 1 [⟨S2048x1536, ((m ((c : Thread nD τ).loc main_arg2)) : FVec Ideal S2048x1536 .f32)⟩, ⟨S2048x16, ((m ((c : Thread nD τ).loc main_arg3)) : FVec Ideal S2048x16 .f32)⟩, ⟨S2048x112, (broadcastInDim S2048x112 ![] bcast_S_S2048x112 (constant S_ .f32 0x00000000#32) : FVec Ideal S2048x112 .f32)⟩] concatenates_S2048x1536_S2048x16_S2048x112_S2048x1664_d1 : FVec Ideal S2048x1664 .f32) bitsLt_bf16_f32 := by
  refine (after_last_write (ops := hostOps0) (i := 8) [main_v7] rfl rfl (by decide) _).trans ?_
  rw [unary_result']
  rw [upto_last_write (ops := hostOps0) (n := 8) (i := 2) [main_cst_0, main_v2, main_v3, main_v4, main_v5] rfl rfl (by decide) _]
  rw [nary_result']
  have h0 : upto (hostOps0 (F := Ideal)) (fun b => m (c, b)) 2 (Proc.devRef .tc main_arg2) = (m ((c : Thread nD τ).loc main_arg2)) :=
    upto_unwritten [main_cst, main_v0] rfl (by decide) _
  have h1 : upto (hostOps0 (F := Ideal)) (fun b => m (c, b)) 2 (Proc.devRef .tc main_arg3) = (m ((c : Thread nD τ).loc main_arg3)) :=
    upto_unwritten [main_cst, main_v0] rfl (by decide) _
  have h2 : upto (hostOps0 (F := Ideal)) (fun b => m (c, b)) 2 (Proc.devRef .tc main_v0) = (broadcastInDim S2048x112 ![] bcast_S_S2048x112 (constant S_ .f32 0x00000000#32) : FVec Ideal S2048x112 .f32) := by
    rw [upto_last_write (ops := hostOps0) (n := 2) (i := 1) [] rfl rfl (by decide) _, unary_result',
      upto_last_write (ops := hostOps0) (n := 1) (i := 0) [] rfl rfl (by decide) _, nullary_result']
  rw [← h0, ← h1, ← h2]
  rfl

/-- The host adds 112 rows of zeros to the gate's second weights. -/
theorem padded (c : Dev nD) : (V m c main_v4 : FVec Ideal S128x768 .bf16)
    = truncf .bf16 (concatenate S128x768 0 [⟨S16x768, ((m ((c : Thread nD τ).loc main_arg4)) : FVec Ideal S16x768 .f32)⟩, ⟨S112x768, (broadcastInDim S112x768 ![] bcast_S_S112x768 (constant S_ .f32 0x00000000#32) : FVec Ideal S112x768 .f32)⟩] concatenates_S16x768_S112x768_S128x768_d0 : FVec Ideal S128x768 .f32) bitsLt_bf16_f32 := by
  refine (after_last_write (ops := hostOps0) (i := 6) [main_v5, main_v6, main_v7] rfl rfl (by decide) _).trans ?_
  rw [unary_result']
  rw [upto_last_write (ops := hostOps0) (n := 6) (i := 5) [] rfl rfl (by decide) _]
  rw [binary_result']
  rw [upto_unwritten [main_cst, main_v0, main_v1, main_cst_0, main_v2] rfl (by decide) _]
  rw [upto_last_write (ops := hostOps0) (n := 5) (i := 4) [] rfl rfl (by decide) _, unary_result',
      upto_last_write (ops := hostOps0) (n := 4) (i := 3) [] rfl rfl (by decide) _, nullary_result']

/-- The joined weights' first 1536 columns. -/
theorem joined_qk (c : Dev nD) (l : Fin 2048) (k : Fin 1664) (K : Fin 1536) (h : K.val = k.val) :
    (V m c main_v6 : FVec Ideal S2048x1664 .bf16) (ix2 l k) = ((m ((c : Thread nD τ).loc main_arg2)) : FVec Ideal S2048x1536 .f32) (ix2 l K) := by
  rw [joined]
  have hk : k.val < 1536 := h ▸ K.isLt
  obtain rfl : K = ⟨k.val, hk⟩ := Fin.ext h
  pointwise []
  exact dif_pos hk

/-- The next sixteen columns. -/
theorem joined_g (c : Dev nD) (l : Fin 2048) (k : Fin 1664) (K : Fin 16) (h : k.val = 1536 + K.val) :
    (V m c main_v6 : FVec Ideal S2048x1664 .bf16) (ix2 l k) = ((m ((c : Thread nD τ).loc main_arg3)) : FVec Ideal S2048x16 .f32) (ix2 l K) := by
  rw [joined]
  have hk : ¬ k.val < 1536 := by omega
  have hk' : k.val - 1536 < 16 := by omega
  obtain rfl : K = ⟨k.val - 1536, hk'⟩ := Fin.ext (by simp only; omega)
  pointwise []
  rw [dif_neg hk, dif_pos hk']

/-- The padded weights' first sixteen rows. -/
theorem padded_g (c : Dev nD) (l : Fin 128) (k : Fin 768) (L : Fin 16) (h : L.val = l.val) :
    (V m c main_v4 : FVec Ideal S128x768 .bf16) (ix2 l k) = ((m ((c : Thread nD τ).loc main_arg4)) : FVec Ideal S16x768 .f32) (ix2 L k) := by
  rw [padded]
  have hl : l.val < 16 := h ▸ L.isLt
  obtain rfl : L = ⟨l.val, hl⟩ := Fin.ext h
  pointwise []
  exact dif_pos hl

/-- The rows after them are zero. -/
theorem padded_0 (c : Dev nD) (l : Fin 128) (k : Fin 768) (h : 16 ≤ l.val) :
    @Eq EReal ((V m c main_v4 : FVec Ideal S128x768 .bf16) (ix2 l k)) 0 := by
  rw [padded]
  have hl : ¬ l.val < 16 := by omega
  pointwise []
  exact dif_neg hl

/-- Where each window's block sits at grid point `t`. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ t.val < 64 :=
  (by decide +kernel : ∀ t : Fin grid0.N, _)

/-- The kernel's arguments as arrays. -/
abbrev X (c : Dev nD) : FVec Ideal S32768x2048 .f32 := m ((c : Thread nD τ).loc main_arg0)
abbrev Gw (c : Dev nD) : FVec Ideal S2048 .f32 := m ((c : Thread nD τ).loc main_arg1)
abbrev Wqk (c : Dev nD) : FVec Ideal S2048x1536 .f32 := m ((c : Thread nD τ).loc main_arg2)
abbrev Wg (c : Dev nD) : FVec Ideal S2048x16 .f32 := m ((c : Thread nD τ).loc main_arg3)
abbrev Wgate (c : Dev nD) : FVec Ideal S16x768 .f32 := m ((c : Thread nD τ).loc main_arg4)
abbrev B (c : Dev nD) : FVec Ideal S768 .f32 := m ((c : Thread nD τ).loc main_arg5)

/-- The input block at a point holds 512 rows of the input; the other blocks are the whole arrays. -/
theorem blk_x (c : Dev nD) (t : Fin cfg0.N) (r : Fin 512) (l : Fin 2048) (R : Fin 32768) (hR : R.val = t.val * 512 + r.val) :
    (iblk m c 0 t : Vec Ideal S512x2048 .f32) (ix2 r l) = X m c (ix2 R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_w (c : Dev nD) (t : Fin cfg0.N) (l : Fin 2048) (k : Fin 1664) :
    (iblk m c 2 t : Vec Ideal S2048x1664 .bf16) (ix2 l k) = (V m c main_v6 : FVec Ideal S2048x1664 .bf16) (ix2 l k) := by
  have e : ((win0_2.blk t).view.emb (ix2 l k) : S2048x1664.Idx) = ix2 l k := funext fun a => by
    match a with
    | ⟨0, _⟩ => exact Fin.ext (by blk_simp [idx t])
    | ⟨1, _⟩ => exact Fin.ext (by blk_simp [idx t])
  exact congrArg (V m c main_v6 : FVec Ideal S2048x1664 .bf16) e

theorem blk_gate (c : Dev nD) (t : Fin cfg0.N) (l : Fin 128) (k : Fin 768) :
    (iblk m c 3 t : Vec Ideal S128x768 .bf16) (ix2 l k) = (V m c main_v4 : FVec Ideal S128x768 .bf16) (ix2 l k) := by
  have e : ((win0_3.blk t).view.emb (ix2 l k) : S128x768.Idx) = ix2 l k := funext fun a => by
    match a with
    | ⟨0, _⟩ => exact Fin.ext (by blk_simp [idx t])
    | ⟨1, _⟩ => exact Fin.ext (by blk_simp [idx t])
  exact congrArg (V m c main_v4 : FVec Ideal S128x768 .bf16) e

theorem blk_b (c : Dev nD) (t : Fin cfg0.N) (k : Fin 768) :
    (iblk m c 4 t : Vec Ideal S1x768 .f32) (ix2 0 k) = B m c (ix1 k) := by
  blk_ext! [iblk, idx t]

/-- The product's row at a point, by columns: any weights that the joined ones hold there. -/
theorem z_eq (c : Dev nD) (t : Fin cfg0.N) (r : Fin 512) (R : Fin 32768) (hR : R.val = t.val * 512 + r.val) (k : Fin 1664)
    {n : ℕ} (w : FVec Ideal ⟨2, ![2048, n]⟩ .f32) (K : Fin n) (hw : ∀ l, (V m c main_v6 : FVec Ideal S2048x1664 .bf16) (ix2 l k) = w (ix2 l K)) :
    z (iblk m c 0 t) (iblk m c 1 t) (iblk m c 2 t) r k = prod (X m c) (Gw m c) w R K := by
  unfold z prod
  have hx : (fun l => (iblk m c 0 t : Vec Ideal S512x2048 .f32) (ix2 r l)) = fun l => X m c (ix2 R l) := funext fun l => blk_x m c t r l R hR
  have hg : (fun l => (iblk m c 1 t : Vec Ideal S1x2048 .f32) (ix2 0 l)) = fun l => Gw m c (ix1 l) := funext fun l => blk_g m c t l
  rw [hx, hg]
  exact Finset.sum_congr rfl fun l _ => congrArg (_ * ·) ((blk_w m c t l k).trans (hw l))

/-- The queries at a point. -/
theorem point1 (c : Dev nD) (t : Fin cfg0.N) (r : Fin 512) (d : Fin 768) (R : Fin 32768) (hR : R.val = t.val * 512 + r.val) :
    k0_pay3 (F := Ideal) (iblk m c 0 t) (iblk m c 1 t) (iblk m c 2 t) (ix2 r d) = queries (X m c) (Gw m c) (Wqk m c) R d := by
  refine (q_at _ _ _ r d).trans ?_
  exact congrArg (· * Ideal.ofBits FTy.f32 0x3E000000#32) (z_eq m c t r R hR _ (Wqk m c) _ fun l => joined_qk m c l _ _ rfl)

/-- The keys at a point. -/
theorem point2 (c : Dev nD) (t : Fin cfg0.N) (r : Fin 512) (d : Fin 768) (R : Fin 32768) (hR : R.val = t.val * 512 + r.val) :
    k0_pay4 (F := Ideal) (iblk m c 0 t) (iblk m c 1 t) (iblk m c 2 t) (ix2 r d) = keys (X m c) (Gw m c) (Wqk m c) R d := by
  refine (k_at _ _ _ r d).trans ?_
  exact z_eq m c t r R hR _ (Wqk m c) _ fun l => joined_qk m c l _ _ rfl

/-- A sum over 128 whose terms from the sixteenth on vanish is the sum over sixteen. -/
theorem sum_128 (f : Fin 128 → EReal) (h : ∀ l : Fin 128, 16 ≤ l.val → f l = 0) : ∑ l, f l = ∑ j : Fin 16, f ⟨j.val, by omega⟩ := by
  have e := Fin.sum_univ_add (a := 16) (b := 112) (fun l : Fin (16 + 112) => f l)
  refine e.trans ?_
  rw [Finset.sum_eq_zero (s := (Finset.univ : Finset (Fin 112))) (fun j _ => h (Fin.natAdd 16 j) (by simp)), add_zero]
  rfl

/-- The gates at a point. -/
theorem point3 (c : Dev nD) (t : Fin cfg0.N) (r : Fin 512) (d : Fin 768) (R : Fin 32768) (hR : R.val = t.val * 512 + r.val) :
    k0_pay1 (F := Ideal) (k0_pay5 (iblk m c 0 t) (iblk m c 1 t) (iblk m c 2 t) (iblk m c 3 t) (iblk m c 4 t)) (ix2 r d)
      = gates (X m c) (Gw m c) (Wg m c) (Wgate m c) (B m c) R d := by
  refine (gate_at _ r d).trans ((sixteenth _).trans ?_)
  unfold gates
  refine congrArg (fun y => Ideal.div (-(SbMath.sp y)) (Ideal.ofBits FTy.f32 0x41800000#32)) ?_
  refine (logit_at _ _ _ _ _ r d).trans ?_
  refine congrArg Neg.neg (congrArg₂ (· + ·) ?_ (blk_b m c t d))
  refine (sum_128 _ fun l hl => ?_).trans ?_
  · have e : @Eq EReal ((iblk m c 3 t : Vec Ideal S128x768 .bf16) (ix2 l d)) 0 := (blk_gate m c t l d).trans (padded_0 m c l d hl)
    exact (congrArg (_ * ·) e).trans (mul_zero _)
  · exact Finset.sum_congr rfl fun j _ => congrArg₂ (· * ·) (z_eq m c t r R hR _ (Wg m c) j fun l => joined_g m c l _ _ rfl)
      ((blk_gate m c t _ d).trans (padded_g m c _ d j rfl))

/-- The kernel's first result, over the extended reals. -/
theorem final1 (c : Dev nD) : (dats m 0 c).arrAt 5 (cfgs 0).N = fun j => queries (X m c) (Gw m c) (Wqk m c) (j 0) (j 1) := by
  refine (dats m 0 c).arrAt_eq_of_covers 5 _ (by decide +kernel) fun t hf y => ?_
  blk_simp
  rw [after0_5]
  frame_out
  have hN : t.val < 64 := (idx t).2.2.2.2.2.2.2.2
  have y0 : (y 0 : ℕ) < 512 := (y 0).isLt
  have y1 : (y 1 : ℕ) < 768 := (y 1).isLt
  have key := point1 m c t ⟨y 0, y0⟩ ⟨y 1, y1⟩ ⟨t.val * 512 + (y 0 : ℕ), by omega⟩ rfl
  refine Eq.trans ?_ (key.trans ?_)
  · blk_ext
  · have e0 : (((cfg0.win 5).blk t).view.emb y) 0 = (⟨t.val * 512 + (y 0 : ℕ), by omega⟩ : Fin 32768) := Fin.ext (by blk_simp [idx t])
    have e1 : (((cfg0.win 5).blk t).view.emb y) 1 = (⟨y 1, y1⟩ : Fin 768) := Fin.ext (by blk_simp [idx t])
    exact (congrArg₂ (queries (X m c) (Gw m c) (Wqk m c)) e0 e1).symm

/-- The kernel's second result. -/
theorem final2 (c : Dev nD) : (dats m 0 c).arrAt 6 (cfgs 0).N = fun j => keys (X m c) (Gw m c) (Wqk m c) (j 0) (j 1) := by
  refine (dats m 0 c).arrAt_eq_of_covers 6 _ (by decide +kernel) fun t hf y => ?_
  blk_simp
  rw [after0_6]
  frame_out
  have hN : t.val < 64 := (idx t).2.2.2.2.2.2.2.2
  have y0 : (y 0 : ℕ) < 512 := (y 0).isLt
  have y1 : (y 1 : ℕ) < 768 := (y 1).isLt
  have key := point2 m c t ⟨y 0, y0⟩ ⟨y 1, y1⟩ ⟨t.val * 512 + (y 0 : ℕ), by omega⟩ rfl
  refine Eq.trans ?_ (key.trans ?_)
  · blk_ext
  · have e0 : (((cfg0.win 6).blk t).view.emb y) 0 = (⟨t.val * 512 + (y 0 : ℕ), by omega⟩ : Fin 32768) := Fin.ext (by blk_simp [idx t])
    have e1 : (((cfg0.win 6).blk t).view.emb y) 1 = (⟨y 1, y1⟩ : Fin 768) := Fin.ext (by blk_simp [idx t])
    exact (congrArg₂ (keys (X m c) (Gw m c) (Wqk m c)) e0 e1).symm

/-- The kernel's third result. -/
theorem final3 (c : Dev nD) : (dats m 0 c).arrAt 7 (cfgs 0).N = fun j => gates (X m c) (Gw m c) (Wg m c) (Wgate m c) (B m c) (j 0) (j 1) := by
  refine (dats m 0 c).arrAt_eq_of_covers 7 _ (by decide +kernel) fun t hf y => ?_
  blk_simp
  rw [after0_7]
  frame_out
  have hN : t.val < 64 := (idx t).2.2.2.2.2.2.2.2
  have y0 : (y 0 : ℕ) < 512 := (y 0).isLt
  have y1 : (y 1 : ℕ) < 768 := (y 1).isLt
  have key := point3 m c t ⟨y 0, y0⟩ ⟨y 1, y1⟩ ⟨t.val * 512 + (y 0 : ℕ), by omega⟩ rfl
  refine Eq.trans ?_ (key.trans ?_)
  · blk_ext
  · have e0 : (((cfg0.win 7).blk t).view.emb y) 0 = (⟨t.val * 512 + (y 0 : ℕ), by omega⟩ : Fin 32768) := Fin.ext (by blk_simp [idx t])
    have e1 : (((cfg0.win 7).blk t).view.emb y) 1 = (⟨y 1, y1⟩ : Fin 768) := Fin.ext (by blk_simp [idx t])
    exact (congrArg₂ (gates (X m c) (Gw m c) (Wg m c) (Wgate m c) (B m c)) e0 e1).symm

end Cert.PgIdeal.Value

end
-- ==== Proof.PgRead.lean ====
/- The gated projection's reference, read at an index. -/
module

public import proofs.«01_k».proof.Proof.PgArray
public import proofs.«01_k».proof.Proof.SbRead
public import proofs.«01_k».proof.Proof.Gen.PgRefIdeal.Run

@[expose] public section

set_option maxRecDepth 16384

noncomputable section

namespace Cert.PgRefIdeal.Value

open Idealize.ShloMosaic Idealize.ShloMosaic.TcCoe Idealize.SL.Sem
open Cert.PgRefIdeal Cert.PgRefIdeal.Gen

/-- The reference's gates at an index. -/
theorem gates_at (m : (ℓ : Loc nD τ sig) → Buf (Elt Ideal) ℓ) (c : Dev nD) (r : Fin 32768) (d : Fin 768) :
    (res_main_v23 (F := Ideal) m c : FVec Ideal S32768x768 .f32) (ix2 r d) = PgIdeal.Value.gates (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) r d := by
  unfold res_main_v23
  generalize m ((c.tc : Thread nD τ).loc main_arg0) = x
  generalize m ((c.tc : Thread nD τ).loc main_arg1) = g
  generalize m ((c.tc : Thread nD τ).loc main_arg3) = u
  generalize m ((c.tc : Thread nD τ).loc main_arg4) = v
  generalize m ((c.tc : Thread nD τ).loc main_arg5) = b
  pointwise [PgIdeal.Value.prod, FfnMath.norm, PgIdeal.Value.gates]
  rw [← Cert.SbRefIdeal.Value.softplus_ref]

/-- The reference ends with the queries, the keys and the gates in its results and its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = (fun j => PgIdeal.Value.queries (m ((c.tc : Thread nD τ).loc main_arg0)) (m ((c.tc : Thread nD τ).loc main_arg1)) (m ((c.tc : Thread nD τ).loc main_arg2)) (j 0) (j 1))
      ∧ r.2.mem ((c.tc : Thread nD τ).loc main_v15) = (fun j => PgIdeal.Value.keys (m ((c.tc : Thread nD τ).loc main_arg0)) (m ((c.tc : Thread nD τ).loc main_arg1)) (m ((c.tc : Thread nD τ).loc main_arg2)) (j 0) (j 1))
      ∧ r.2.mem ((c.tc : Thread nD τ).loc main_v23) = (fun j => PgIdeal.Value.gates (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2⟩) (run m ρ)
  · clear h
    generalize m ((c.tc : Thread nD τ).loc main_arg0) = x
    generalize m ((c.tc : Thread nD τ).loc main_arg1) = g
    generalize m ((c.tc : Thread nD τ).loc main_arg2) = w
    funext j
    idx_vars j
    pointwise [PgIdeal.Value.queries, PgIdeal.Value.prod, FfnMath.norm]
  · clear h
    generalize m ((c.tc : Thread nD τ).loc main_arg0) = x
    generalize m ((c.tc : Thread nD τ).loc main_arg1) = g
    generalize m ((c.tc : Thread nD τ).loc main_arg2) = w
    funext j
    idx_vars j
    pointwise [PgIdeal.Value.keys, PgIdeal.Value.prod, FfnMath.norm]
  · funext j
    idx_vars j
    exact gates_at m c _ _

end Cert.PgRefIdeal.Value

end
-- ==== Proof.PgClaim.lean ====
/- The claims about the gated projection call, assembled. -/
module

public import proofs.«01_k».proof.Defs
public import proofs.«01_k».proof.Proof.PgArray
public import proofs.«01_k».proof.Proof.PgRead
public import proofs.«01_k».proof.Proof.Gen.Pg.Frame

@[expose] public section

noncomputable section

namespace Cert.Proof.Pg

open Idealize.ShloMosaic Idealize.ShloMosaic.TcCoe Idealize.SL.Sem

/-- The kernel leaves its arguments as they were and every counter at zero. -/
theorem frame : Cert.quiescent_Pg := fun m ρ _ => Cert.Pg.Gen.frame m ρ

/-- So does the kernel over the extended reals. -/
theorem frame_ideal : Cert.quiescent_PgIdeal := fun m ρ _ => Cert.PgIdeal.Gen.frame m ρ

/-- So does the reference, which declares no counter. -/
theorem frame_ref : Cert.quiescent_PgRefIdeal := fun m ρ _ =>
  (θ_run Cert.PgRefIdeal.defs _ _).mono (fun r h => ⟨fun c => (h c).2.2.2, sem_eq_zero_of_no_sems (by decide) r.2⟩)
    (Cert.PgRefIdeal.Value.run (F := Ideal) m ρ)

/-- From arguments that agree, the kernel and the reference end with the same extended reals in their results. -/
theorem algebraic : Cert.algebraic_PgIdeal_PgRefIdeal := by
  intro m ρ m' ρ' _ hag
  refine ⟨fun c => fun j => Cert.PgIdeal.Value.queries (m ((c.tc : Thread Cert.PgIdeal.nD Cert.PgIdeal.τ).loc Cert.PgIdeal.main_arg0)) (m ((c.tc : Thread Cert.PgIdeal.nD Cert.PgIdeal.τ).loc Cert.PgIdeal.main_arg1)) (m ((c.tc : Thread Cert.PgIdeal.nD Cert.PgIdeal.τ).loc Cert.PgIdeal.main_arg2)) (j 0) (j 1),
    fun c => fun j => Cert.PgIdeal.Value.keys (m ((c.tc : Thread Cert.PgIdeal.nD Cert.PgIdeal.τ).loc Cert.PgIdeal.main_arg0)) (m ((c.tc : Thread Cert.PgIdeal.nD Cert.PgIdeal.τ).loc Cert.PgIdeal.main_arg1)) (m ((c.tc : Thread Cert.PgIdeal.nD Cert.PgIdeal.τ).loc Cert.PgIdeal.main_arg2)) (j 0) (j 1),
    fun c => fun j => Cert.PgIdeal.Value.gates (m ((c.tc : Thread Cert.PgIdeal.nD Cert.PgIdeal.τ).loc Cert.PgIdeal.main_arg0)) (m ((c.tc : Thread Cert.PgIdeal.nD Cert.PgIdeal.τ).loc Cert.PgIdeal.main_arg1)) (m ((c.tc : Thread Cert.PgIdeal.nD Cert.PgIdeal.τ).loc Cert.PgIdeal.main_arg3)) (m ((c.tc : Thread Cert.PgIdeal.nD Cert.PgIdeal.τ).loc Cert.PgIdeal.main_arg4)) (m ((c.tc : Thread Cert.PgIdeal.nD Cert.PgIdeal.τ).loc Cert.PgIdeal.main_arg5)) (j 0) (j 1), ?_, ?_⟩
  · exact (θ_run Cert.PgIdeal.defs _ _).mono (fun r h c => ⟨(h c).1.trans (Cert.PgIdeal.Value.final1 m c), (h c).2.1.trans (Cert.PgIdeal.Value.final2 m c), (h c).2.2.1.trans (Cert.PgIdeal.Value.final3 m c), (h c).2.2.2⟩) (Cert.PgIdeal.Value.run_blocks (F := Ideal) m ρ)
  · refine (θ_run Cert.PgRefIdeal.defs _ _).mono (fun r h c => ⟨(h c).1.trans ?_, (h c).2.1.trans ?_, (h c).2.2.1.trans ?_, (h c).2.2.2⟩) (Cert.PgRefIdeal.Value.run_proj m' ρ')
    · rw [(hag c).1, (hag c).2.1, (hag c).2.2.1]
      rfl
    · rw [(hag c).1, (hag c).2.1, (hag c).2.2.1]
      rfl
    · rw [(hag c).1, (hag c).2.1, (hag c).2.2.2.1, (hag c).2.2.2.2.1, (hag c).2.2.2.2.2]
      rfl

end Cert.Proof.Pg

end
-- ==== Proof.XaPoint.lean ====
/- The cross-attention: the kernel's payloads read at an index. -/
module

public import proofs.«01_k».proof.Proof.HeadNorm
public import proofs.«01_k».proof.Proof.Gen.XaIdeal.Frame
public import Idealize.ShloMosaic.Lib.Pipeline.ValueKit
public import Idealize.ShloMosaic.Lib.Pointwise

@[expose] public section

set_option maxRecDepth 16384

noncomputable section

namespace Cert.XaIdeal.Value

open Cert.XaIdeal Cert.XaIdeal.Gen Idealize.ShloMosaic Idealize.ShloMosaic.TcCoe Idealize.SL.Sem
open Cert.HeadNorm

/-- The softmax of a row of 256 scores, each less the row's largest. -/
def soft (s : Fin 256 → EReal) (n : Fin 256) : EReal :=
  Ideal.div (Ideal.exp (s n - Finset.univ.fold max (Ideal.ofBits FTy.f32 4286578688#32) s))
    (∑ n', Ideal.exp (s n' - Finset.univ.fold max (Ideal.ofBits FTy.f32 4286578688#32) s))

/-- The product of the normalised rows with the queries' weights. -/
theorem pay3_at (x : Vec Ideal S1x512x2048 .f32) (g : Vec Ideal S1x2048 .f32) (w : Vec Ideal S2048x512 .bf16) (r : Fin 512) (k : Fin 512) :
    k0_pay3 (F := Ideal) x g w (ix2 r k) = ∑ l, FfnMath.norm (fun l => x (ix3 0 r l)) (fun l => g (ix2 0 l)) l * w (ix2 l k) := by
  pointwise [k0_pay3, k0_pay2, FfnMath.norm]

/-- The first head's queries. -/
theorem pay4_at (x : Vec Ideal S1x512x2048 .f32) (g : Vec Ideal S1x2048 .f32) (w : Vec Ideal S2048x512 .bf16) (qg : Vec Ideal S1x128 .f32) (z : FVec Ideal S512x512 .f32) (hz : k0_pay3 (F := Ideal) x g w = z) (r : Fin 512) (e' : Fin 128) :
    k0_pay4 (F := Ideal) x g w qg (ix2 r e') = (z (ix2 r ⟨0*128 + e'.val, by omega⟩) * Ideal.rsqrt (Ideal.div (∑ e'' : Fin 128, z (ix2 r ⟨0*128 + e''.val, by omega⟩) * z (ix2 r ⟨0*128 + e''.val, by omega⟩)) (Ideal.ofBits FTy.f32 1124073472#32) + Ideal.ofBits FTy.f32 897988541#32) * qg (ix2 0 e') * Ideal.ofBits FTy.f32 1035273459#32) := by
  subst hz
  pointwise [k0_pay4]

/-- One head's attention from its queries. -/
theorem pay5_at (q : FVec Ideal S512x128 .bf16) (k v : Vec Ideal S1x256x128 .bf16) (r : Fin 512) (e : Fin 128) :
    k0_pay5 (F := Ideal) q k v (ix2 r e) = ∑ n, soft (fun n => ∑ e' : Fin 128, q (ix2 r e') * k (ix3 0 n e')) n * v (ix3 0 n e) := by
  pointwise [k0_pay5, soft]

/-- The second head. -/
theorem head1 (z : FVec Ideal S512x512 .f32) (qg : Vec Ideal S1x128 .f32) (k v : Vec Ideal S1x256x128 .bf16) (r : Fin 512) (e : Fin 128) :
    k0_pay7 (F := Ideal) (k0_pay6 z qg k) v (ix2 r e) = ∑ n, soft (fun n => ∑ e' : Fin 128, (z (ix2 r ⟨1*128 + e'.val, by omega⟩) * Ideal.rsqrt (Ideal.div (∑ e'' : Fin 128, z (ix2 r ⟨1*128 + e''.val, by omega⟩) * z (ix2 r ⟨1*128 + e''.val, by omega⟩)) (Ideal.ofBits FTy.f32 1124073472#32) + Ideal.ofBits FTy.f32 897988541#32) * qg (ix2 0 e') * Ideal.ofBits FTy.f32 1035273459#32) * k (ix3 0 n e')) n * v (ix3 0 n e) := by
  pointwise [k0_pay7, k0_pay6, soft]

/-- The third head's weights. -/
theorem pay8_at (z : FVec Ideal S512x512 .f32) (qg : Vec Ideal S1x128 .f32) (k : Vec Ideal S1x256x128 .bf16) (r : Fin 512) (n : Fin 256) :
    k0_pay8 (F := Ideal) z qg k (ix2 r n) = soft (fun n => ∑ e' : Fin 128, (z (ix2 r ⟨2*128 + e'.val, by omega⟩) * Ideal.rsqrt (Ideal.div (∑ e'' : Fin 128, z (ix2 r ⟨2*128 + e''.val, by omega⟩) * z (ix2 r ⟨2*128 + e''.val, by omega⟩)) (Ideal.ofBits FTy.f32 1124073472#32) + Ideal.ofBits FTy.f32 897988541#32) * qg (ix2 0 e') * Ideal.ofBits FTy.f32 1035273459#32) * k (ix3 0 n e')) n := by
  pointwise [k0_pay8, soft]

/-- Four arrays side by side, read in the first. -/
theorem cat0 (o0 o1 o2 o3 : FVec Ideal S512x128 .bf16) (r : Fin 512) (e : Fin 128) :
    (concatenate S512x512 1 [⟨S512x128, o0⟩, ⟨S512x128, o1⟩, ⟨S512x128, o2⟩, ⟨S512x128, o3⟩] concatenates_S512x128_S512x128_S512x128_S512x128_S512x512_d1 : FVec Ideal S512x512 .bf16) (ix2 r ⟨0*128 + e.val, by omega⟩) = o0 (ix2 r e) := by
  pointwise []

/-- Four arrays side by side, read in the second. -/
theorem cat1 (o0 o1 o2 o3 : FVec Ideal S512x128 .bf16) (r : Fin 512) (e : Fin 128) :
    (concatenate S512x512 1 [⟨S512x128, o0⟩, ⟨S512x128, o1⟩, ⟨S512x128, o2⟩, ⟨S512x128, o3⟩] concatenates_S512x128_S512x128_S512x128_S512x128_S512x512_d1 : FVec Ideal S512x512 .bf16) (ix2 r ⟨1*128 + e.val, by omega⟩) = o1 (ix2 r e) := by
  pointwise []

/-- Four arrays side by side, read in the third. -/
theorem cat2 (o0 o1 o2 o3 : FVec Ideal S512x128 .bf16) (r : Fin 512) (e : Fin 128) :
    (concatenate S512x512 1 [⟨S512x128, o0⟩, ⟨S512x128, o1⟩, ⟨S512x128, o2⟩, ⟨S512x128, o3⟩] concatenates_S512x128_S512x128_S512x128_S512x128_S512x512_d1 : FVec Ideal S512x512 .bf16) (ix2 r ⟨2*128 + e.val, by omega⟩) = o2 (ix2 r e) := by
  pointwise []
  rw [dif_neg (by omega)]
  rw [dif_neg (by omega)]
  rw [dif_pos (by omega)]
  exact congrArg o2 (congrArg (ix2 r) (Fin.ext (by simp only; omega)))

/-- Four arrays side by side, read in the fourth. -/
theorem cat3 (o0 o1 o2 o3 : FVec Ideal S512x128 .bf16) (r : Fin 512) (e : Fin 128) :
    (concatenate S512x512 1 [⟨S512x128, o0⟩, ⟨S512x128, o1⟩, ⟨S512x128, o2⟩, ⟨S512x128, o3⟩] concatenates_S512x128_S512x128_S512x128_S512x128_S512x512_d1 : FVec Ideal S512x512 .bf16) (ix2 r ⟨3*128 + e.val, by omega⟩) = o3 (ix2 r e) := by
  pointwise []
  rw [dif_neg (by omega)]
  rw [dif_neg (by omega)]
  rw [dif_neg (by omega)]
  exact congrArg o3 (congrArg (ix2 r) (Fin.ext (by simp only; omega)))

/-- The four heads side by side, read in each. -/
theorem pay9_0 (z : FVec Ideal S512x512 .f32) (o0 o1 : FVec Ideal S512x128 .bf16) (p : FVec Ideal S512x256 .bf16) (v : Vec Ideal S1x256x128 .bf16) (qg : Vec Ideal S1x128 .f32) (k3 v3 : Vec Ideal S1x256x128 .bf16) (r : Fin 512) (e : Fin 128) :
    k0_pay9 (F := Ideal) z o0 o1 p v qg k3 v3 (ix2 r ⟨0*128 + e.val, by omega⟩) = o0 (ix2 r e) := by
  refine (cat0 o0 o1 _ _ r e).trans ?_
  rfl

theorem pay9_1 (z : FVec Ideal S512x512 .f32) (o0 o1 : FVec Ideal S512x128 .bf16) (p : FVec Ideal S512x256 .bf16) (v : Vec Ideal S1x256x128 .bf16) (qg : Vec Ideal S1x128 .f32) (k3 v3 : Vec Ideal S1x256x128 .bf16) (r : Fin 512) (e : Fin 128) :
    k0_pay9 (F := Ideal) z o0 o1 p v qg k3 v3 (ix2 r ⟨1*128 + e.val, by omega⟩) = o1 (ix2 r e) := by
  refine (cat1 o0 o1 _ _ r e).trans ?_
  rfl

theorem pay9_2 (z : FVec Ideal S512x512 .f32) (o0 o1 : FVec Ideal S512x128 .bf16) (p : FVec Ideal S512x256 .bf16) (v : Vec Ideal S1x256x128 .bf16) (qg : Vec Ideal S1x128 .f32) (k3 v3 : Vec Ideal S1x256x128 .bf16) (r : Fin 512) (e : Fin 128) :
    k0_pay9 (F := Ideal) z o0 o1 p v qg k3 v3 (ix2 r ⟨2*128 + e.val, by omega⟩) = ∑ n, p (ix2 r n) * v (ix3 0 n e) := by
  refine (cat2 o0 o1 _ _ r e).trans ?_
  pointwise []

theorem pay9_3 (z : FVec Ideal S512x512 .f32) (o0 o1 : FVec Ideal S512x128 .bf16) (p : FVec Ideal S512x256 .bf16) (v : Vec Ideal S1x256x128 .bf16) (qg : Vec Ideal S1x128 .f32) (k3 v3 : Vec Ideal S1x256x128 .bf16) (r : Fin 512) (e : Fin 128) :
    k0_pay9 (F := Ideal) z o0 o1 p v qg k3 v3 (ix2 r ⟨3*128 + e.val, by omega⟩) = ∑ n, soft (fun n => ∑ e' : Fin 128, (z (ix2 r ⟨3*128 + e'.val, by omega⟩) * Ideal.rsqrt (Ideal.div (∑ e'' : Fin 128, z (ix2 r ⟨3*128 + e''.val, by omega⟩) * z (ix2 r ⟨3*128 + e''.val, by omega⟩)) (Ideal.ofBits FTy.f32 1124073472#32) + Ideal.ofBits FTy.f32 897988541#32) * qg (ix2 0 e') * Ideal.ofBits FTy.f32 1035273459#32) * k3 (ix3 0 n e')) n * v3 (ix3 0 n e) := by
  refine (cat3 o0 o1 _ _ r e).trans ?_
  pointwise [soft]

/-- The stored block: the input and the heads' product with the output weights. -/
theorem pay1_at (x : Vec Ideal S1x512x2048 .f32) (o : FVec Ideal S512x512 .bf16) (wo : Vec Ideal S512x2048 .bf16) (r : Fin 512) (d : Fin 2048) :
    k0_pay1 (F := Ideal) (k0_pay2 x) o wo (ix3 0 r d) = x (ix3 0 r d) + ∑ k, o (ix2 r k) * wo (ix2 k d) := by
  pointwise [k0_pay1, k0_pay2]

end Cert.XaIdeal.Value

end
-- ==== Proof.XaArray.lean ====
/- The cross-attention's result array as a function of the arguments. -/
module

public import proofs.«01_k».proof.Proof.XaPoint
public import proofs.«01_k».proof.Proof.Gen.XaIdeal.Value

@[expose] public section

set_option maxRecDepth 16384

noncomputable section

namespace Cert.XaIdeal.Value

open Cert.XaIdeal Cert.XaIdeal.Gen Idealize.ShloMosaic Idealize.ShloMosaic.TcCoe Idealize.SL.Sem
open Cert.HeadNorm

/-- A head's output at feature `d` from the row `z` of unnormalised queries: the softmax of the scaled queries' products with the
    keys, times the values. -/
def att (z : Fin 512 → EReal) (qg : Fin 128 → EReal) (k v : Fin 256 → Fin 512 → EReal) (d : Fin 512) : EReal :=
  ∑ n, soft (fun n => ∑ e' : Fin 128, hn z qg (feat d e') * Ideal.ofBits FTy.f32 1035273459#32 * k n (feat d e')) n * v n d

/-- One head's attention is read from that head's columns alone. -/
theorem att_head (z : FVec Ideal S512x512 .f32) (qg : Vec Ideal S1x128 .f32) (k v : Fin 256 → Fin 512 → EReal) (kh vh : Vec Ideal S1x256x128 .bf16) (r : Fin 512) (h : Fin 4) (e : Fin 128)
    (hk : ∀ n e', kh (ix3 0 n e') = k n ⟨h.val * 128 + e'.val, by omega⟩) (hv : ∀ n e', vh (ix3 0 n e') = v n ⟨h.val * 128 + e'.val, by omega⟩) :
    (∑ n, soft (fun n => ∑ e' : Fin 128, (z (ix2 r ⟨h.val*128 + e'.val, by omega⟩) * Ideal.rsqrt (Ideal.div (∑ e'' : Fin 128, z (ix2 r ⟨h.val*128 + e''.val, by omega⟩) * z (ix2 r ⟨h.val*128 + e''.val, by omega⟩)) (Ideal.ofBits FTy.f32 1124073472#32) + Ideal.ofBits FTy.f32 897988541#32) * qg (ix2 0 e') * Ideal.ofBits FTy.f32 1035273459#32) * kh (ix3 0 n e')) n * vh (ix3 0 n e)) = att (fun d => z (ix2 r d)) (fun e => qg (ix2 0 e)) k v ⟨h.val * 128 + e.val, by omega⟩ := by
  unfold att
  have hf : ∀ e' : Fin 128, feat ⟨h.val * 128 + e.val, by omega⟩ e' = ⟨h.val * 128 + e'.val, by omega⟩ := fun e' => Fin.ext (by simp only [feat]; omega)
  have hs : (fun n => ∑ e' : Fin 128, (z (ix2 r ⟨h.val*128 + e'.val, by omega⟩) * Ideal.rsqrt (Ideal.div (∑ e'' : Fin 128, z (ix2 r ⟨h.val*128 + e''.val, by omega⟩) * z (ix2 r ⟨h.val*128 + e''.val, by omega⟩)) (Ideal.ofBits FTy.f32 1124073472#32) + Ideal.ofBits FTy.f32 897988541#32) * qg (ix2 0 e') * Ideal.ofBits FTy.f32 1035273459#32) * kh (ix3 0 n e'))
      = fun n => ∑ e' : Fin 128, hn (fun d => z (ix2 r d)) (fun e => qg (ix2 0 e)) (feat ⟨h.val * 128 + e.val, by omega⟩ e') * Ideal.ofBits FTy.f32 1035273459#32 * k n (feat ⟨h.val * 128 + e.val, by omega⟩ e') := by
    funext n
    refine Finset.sum_congr rfl fun e' _ => ?_
    rw [hf, hk, hn_head _ _ h e' _ rfl]
  rw [hs]
  exact Finset.sum_congr rfl fun n _ => congrArg (_ * ·) (hv n e)

/-- The keys' and the values' columns of each head. -/
theorem ld_0 (k : Vec Ideal S1x256x512 .bf16) (n : Fin 256) (e : Fin 128) : (View.ld k r0_4 : Vec Ideal S1x256x128 .bf16) (ix3 0 n e) = k (ix3 0 n ⟨0*128 + e.val, by omega⟩) := by
  refine congrArg k (funext fun a => ?_)
  match a with
  | ⟨0, _⟩ => rfl
  | ⟨1, _⟩ => exact Fin.ext (by show 0 + 1 * n.val = n.val; omega)
  | ⟨2, _⟩ => exact Fin.ext (by show 0 + 1 * e.val = 0 * 128 + e.val; omega)

theorem ld_128 (k : Vec Ideal S1x256x512 .bf16) (n : Fin 256) (e : Fin 128) : (View.ld k r0_5 : Vec Ideal S1x256x128 .bf16) (ix3 0 n e) = k (ix3 0 n ⟨1*128 + e.val, by omega⟩) := by
  refine congrArg k (funext fun a => ?_)
  match a with
  | ⟨0, _⟩ => rfl
  | ⟨1, _⟩ => exact Fin.ext (by show 0 + 1 * n.val = n.val; omega)
  | ⟨2, _⟩ => exact Fin.ext (by show 128 + 1 * e.val = 1 * 128 + e.val; omega)

theorem ld_256 (k : Vec Ideal S1x256x512 .bf16) (n : Fin 256) (e : Fin 128) : (View.ld k r0_6 : Vec Ideal S1x256x128 .bf16) (ix3 0 n e) = k (ix3 0 n ⟨2*128 + e.val, by omega⟩) := by
  refine congrArg k (funext fun a => ?_)
  match a with
  | ⟨0, _⟩ => rfl
  | ⟨1, _⟩ => exact Fin.ext (by show 0 + 1 * n.val = n.val; omega)
  | ⟨2, _⟩ => exact Fin.ext (by show 256 + 1 * e.val = 2 * 128 + e.val; omega)

theorem ld_384 (k : Vec Ideal S1x256x512 .bf16) (n : Fin 256) (e : Fin 128) : (View.ld k r0_7 : Vec Ideal S1x256x128 .bf16) (ix3 0 n e) = k (ix3 0 n ⟨3*128 + e.val, by omega⟩) := by
  refine congrArg k (funext fun a => ?_)
  match a with
  | ⟨0, _⟩ => rfl
  | ⟨1, _⟩ => exact Fin.ext (by show 0 + 1 * n.val = n.val; omega)
  | ⟨2, _⟩ => exact Fin.ext (by show 384 + 1 * e.val = 3 * 128 + e.val; omega)

/-- What the body leaves in its result block, read at an index. -/
theorem out7_at (x : Vec Ideal S1x512x2048 .f32) (g : Vec Ideal S1x2048 .f32) (wq : Vec Ideal S2048x512 .bf16) (qg : Vec Ideal S1x128 .f32) (kb vb : Vec Ideal S1x256x512 .bf16) (wo : Vec Ideal S512x2048 .bf16) (r : Fin 512) (d : Fin 2048) :
    out0_7 (F := Ideal) x g wq qg kb vb wo (ix3 0 r d) = x (ix3 0 r d)
      + ∑ j, att (fun k => ∑ l, FfnMath.norm (fun l => x (ix3 0 r l)) (fun l => g (ix2 0 l)) l * wq (ix2 l k)) (fun e => qg (ix2 0 e))
        (fun n k => kb (ix3 0 n k)) (fun n k => vb (ix3 0 n k)) j * wo (ix2 j d) := by
  unfold out0_7 k0_pay10
  rw [View.canon_cons_unit_lit _ _ _ (by decide)]
  rw [show View.ld x r0_0 = x from View.ld_unit_lit _ _ (by decide), show View.ld g r0_1 = g from View.ld_unit_lit _ _ (by decide), show View.ld wq r0_2 = wq from View.ld_unit_lit _ _ (by decide),
    show View.ld qg r0_3 = qg from View.ld_unit_lit _ _ (by decide), show View.ld wo r0_8 = wo from View.ld_unit_lit _ _ (by decide)]
  refine (pay1_at x _ wo r d).trans (congrArg (x (ix3 0 r d) + ·) (Finset.sum_congr rfl fun j _ => congrArg (· * wo (ix2 j d)) ?_))
  simp only [← pay3_at]
  have hp4 := fun e' => pay4_at x g wq qg _ rfl r e'
  generalize k0_pay4 (F := Ideal) x g wq qg = q0 at hp4 ⊢
  generalize k0_pay3 (F := Ideal) x g wq = zz at hp4 ⊢
  obtain ⟨h, e, rfl⟩ : ∃ (h : Fin 4) (e : Fin 128), j = ⟨h.val * 128 + e.val, by omega⟩ :=
    ⟨⟨j.val / 128, by omega⟩, ⟨j.val % 128, by omega⟩, Fin.ext (by simp only; omega)⟩
  match h with
  | ⟨0, _⟩ =>
    refine (pay9_0 _ _ _ _ _ _ _ _ r e).trans ((pay5_at _ _ _ r e).trans ?_)
    simp only [hp4]
    exact att_head _ _ _ _ _ _ r 0 e (ld_0 kb) (ld_0 vb)
  | ⟨1, _⟩ => exact (pay9_1 _ _ _ _ _ _ _ _ r e).trans ((head1 _ _ _ _ r e).trans (att_head _ _ _ _ _ _ r 1 e (ld_128 kb) (ld_128 vb)))
  | ⟨2, _⟩ =>
    refine (pay9_2 _ _ _ _ _ _ _ _ r e).trans ?_
    simp only [pay8_at]
    exact att_head _ _ _ _ _ _ r 2 e (ld_256 kb) (ld_256 vb)
  | ⟨3, _⟩ => exact (pay9_3 _ _ _ _ _ _ _ _ r e).trans (att_head _ _ _ _ _ _ r 3 e (ld_384 kb) (ld_384 vb))

variable (m : (ℓ : Loc nD τ sig) → Buf (Elt Ideal) ℓ)

/-- The cross-attention with its residual: row `r` of batch `b`. -/
def xattn (x : FVec Ideal S2x16384x2048 .f32) (g : FVec Ideal S2048 .f32) (wq : FVec Ideal S2048x512 .f32) (qg : FVec Ideal S128 .f32) (k v : FVec Ideal S2x256x512 .bf16)
    (wo : FVec Ideal S512x2048 .f32) (b : Fin 2) (r : Fin 16384) (d : Fin 2048) : EReal :=
  x (ix3 b r d) + ∑ j, att (fun k => ∑ l, FfnMath.norm (fun l => x (ix3 b r l)) (fun l => g (ix1 l)) l * wq (ix2 l k)) (fun e => qg (ix1 e))
    (fun n j => k (ix3 b n j)) (fun n j => v (ix3 b n j)) j * wo (ix2 j d)

/-- Where each window's block sits at grid point `t`. -/
theorem idx : ∀ t : Fin cfg0.N, win0_0.index t = ![t.val / 32, t.val % 32, 0] ∧ win0_1.index t = ![0, 0] ∧ win0_2.index t = ![0, 0] ∧ win0_3.index t = ![0, 0]
    ∧ win0_4.index t = ![t.val / 32, 0, 0] ∧ win0_5.index t = ![t.val / 32, 0, 0] ∧ win0_6.index t = ![0, 0] ∧ win0_7.index t = ![t.val / 32, t.val % 32, 0] ∧ t.val < 64 :=
  (by decide +kernel : ∀ t : Fin grid0.N, _)

/-- The kernel's arguments as arrays. -/
abbrev X (c : Dev nD) : FVec Ideal S2x16384x2048 .f32 := m ((c : Thread nD τ).loc main_arg0)
abbrev Gw (c : Dev nD) : FVec Ideal S2048 .f32 := m ((c : Thread nD τ).loc main_arg1)
abbrev Wq (c : Dev nD) : FVec Ideal S2048x512 .f32 := m ((c : Thread nD τ).loc main_arg2)
abbrev Qg (c : Dev nD) : FVec Ideal S128 .f32 := m ((c : Thread nD τ).loc main_arg3)
abbrev Kb (c : Dev nD) : FVec Ideal S2x256x512 .bf16 := m ((c : Thread nD τ).loc main_arg4)
abbrev Vb (c : Dev nD) : FVec Ideal S2x256x512 .bf16 := m ((c : Thread nD τ).loc main_arg5)
abbrev Wo (c : Dev nD) : FVec Ideal S512x2048 .f32 := m ((c : Thread nD τ).loc main_arg6)

/-- The input block at a point holds 512 rows of one batch, the keys' and the values' one batch; the other blocks are the whole arrays. -/
theorem blk_x (c : Dev nD) (t : Fin cfg0.N) (r : Fin 512) (l : Fin 2048) (b : Fin 2) (R : Fin 16384) (hb : b.val = t.val / 32) (hR : R.val = t.val % 32 * 512 + r.val) :
    (iblk m c 0 t : Vec Ideal S1x512x2048 .f32) (ix3 0 r l) = X m c (ix3 b R l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_wq (c : Dev nD) (t : Fin cfg0.N) (l : Fin 2048) (k : Fin 512) :
    (iblk m c 2 t : Vec Ideal S2048x512 .bf16) (ix2 l k) = Wq m c (ix2 l k) := by
  blk_ext! [iblk, idx t]

theorem blk_qg (c : Dev nD) (t : Fin cfg0.N) (e : Fin 128) :
    (iblk m c 3 t : Vec Ideal S1x128 .f32) (ix2 0 e) = Qg m c (ix1 e) := by
  blk_ext! [iblk, idx t]

theorem blk_k (c : Dev nD) (t : Fin cfg0.N) (n : Fin 256) (j : Fin 512) (b : Fin 2) (hb : b.val = t.val / 32) :
    (iblk m c 4 t : Vec Ideal S1x256x512 .bf16) (ix3 0 n j) = Kb m c (ix3 b n j) := by
  blk_ext [iblk, V, idx t]

theorem blk_v (c : Dev nD) (t : Fin cfg0.N) (n : Fin 256) (j : Fin 512) (b : Fin 2) (hb : b.val = t.val / 32) :
    (iblk m c 5 t : Vec Ideal S1x256x512 .bf16) (ix3 0 n j) = Vb m c (ix3 b n j) := by
  blk_ext [iblk, V, idx t]

theorem blk_wo (c : Dev nD) (t : Fin cfg0.N) (l : Fin 512) (k : Fin 2048) :
    (iblk m c 6 t : Vec Ideal S512x2048 .bf16) (ix2 l k) = Wo m c (ix2 l k) := by
  blk_ext! [iblk, idx t]

/-- What a point leaves in its block, read at an index. -/
theorem point (c : Dev nD) (t : Fin cfg0.N) (r : Fin 512) (d : Fin 2048) (b : Fin 2) (R : Fin 16384) (hb : b.val = t.val / 32) (hR : R.val = t.val % 32 * 512 + r.val) :
    out0_7 (F := Ideal) (iblk m c 0 t) (iblk m c 1 t) (iblk m c 2 t) (iblk m c 3 t) (iblk m c 4 t) (iblk m c 5 t) (iblk m c 6 t) (ix3 0 r d)
      = xattn (X m c) (Gw m c) (Wq m c) (Qg m c) (Kb m c) (Vb m c) (Wo m c) b R d := by
  refine (out7_at _ _ _ _ _ _ _ r d).trans ?_
  unfold xattn
  have hx : (fun l => (iblk m c 0 t : Vec Ideal S1x512x2048 .f32) (ix3 0 r l)) = fun l => X m c (ix3 b R l) := funext fun l => blk_x m c t r l b R hb hR
  have hg : (fun l => (iblk m c 1 t : Vec Ideal S1x2048 .f32) (ix2 0 l)) = fun l => Gw m c (ix1 l) := funext fun l => blk_g m c t l
  have hq : (fun e => (iblk m c 3 t : Vec Ideal S1x128 .f32) (ix2 0 e)) = fun e => Qg m c (ix1 e) := funext fun e => blk_qg m c t e
  have hk : (fun n j => (iblk m c 4 t : Vec Ideal S1x256x512 .bf16) (ix3 0 n j)) = fun n j => Kb m c (ix3 b n j) := funext fun n => funext fun j => blk_k m c t n j b hb
  have hv : (fun n j => (iblk m c 5 t : Vec Ideal S1x256x512 .bf16) (ix3 0 n j)) = fun n j => Vb m c (ix3 b n j) := funext fun n => funext fun j => blk_v m c t n j b hb
  rw [hx, hg, hq, hk, hv]
  have hz : (fun k : Fin 512 => ∑ l, FfnMath.norm (fun l => X m c (ix3 b R l)) (fun l => Gw m c (ix1 l)) l * (iblk m c 2 t : Vec Ideal S2048x512 .bf16) (ix2 l k))
      = fun k => ∑ l, FfnMath.norm (fun l => X m c (ix3 b R l)) (fun l => Gw m c (ix1 l)) l * Wq m c (ix2 l k) :=
    funext fun k => Finset.sum_congr rfl fun l _ => congrArg (_ * ·) (blk_wq m c t l k)
  rw [hz]
  exact congrArg₂ (· + ·) (blk_x m c t r d b R hb hR) (Finset.sum_congr rfl fun j _ => congrArg (_ * ·) (blk_wo m c t j d))

/-- The kernel's result array, over the extended reals. -/
theorem final (c : Dev nD) : (dats m 0 c).arrAt 7 (cfgs 0).N = fun j => xattn (X m c) (Gw m c) (Wq m c) (Qg m c) (Kb m c) (Vb m c) (Wo m c) (j 0) (j 1) (j 2) := by
  refine (dats m 0 c).arrAt_eq_of_covers 7 _ (by decide +kernel) fun t hf y => ?_
  blk_simp
  rw [after0_7]
  have hN : t.val < 64 := (idx t).2.2.2.2.2.2.2.2
  have y0 : (y 0 : ℕ) < 1 := (y 0).isLt
  have y1 : (y 1 : ℕ) < 512 := (y 1).isLt
  have y2 : (y 2 : ℕ) < 2048 := (y 2).isLt
  have key := point m c t ⟨y 1, y1⟩ ⟨y 2, y2⟩ ⟨t.val / 32, by omega⟩ ⟨t.val % 32 * 512 + (y 1 : ℕ), by omega⟩ rfl rfl
  refine Eq.trans ?_ (key.trans ?_)
  · refine congrArg (out0_7 (F := Ideal) (iblk m c 0 t) (iblk m c 1 t) (iblk m c 2 t) (iblk m c 3 t) (iblk m c 4 t) (iblk m c 5 t) (iblk m c 6 t)) (funext fun a => ?_)
    match a with
    | ⟨0, _⟩ => exact Fin.ext (by show (y 0 : ℕ) = 0; omega)
    | ⟨1, _⟩ => rfl
    | ⟨2, _⟩ => rfl
  · have e0 : (((cfg0.win 7).blk t).view.emb y) 0 = (⟨t.val / 32, by omega⟩ : Fin 2) := Fin.ext (by blk_simp [idx t])
    have e1 : (((cfg0.win 7).blk t).view.emb y) 1 = (⟨t.val % 32 * 512 + (y 1 : ℕ), by omega⟩ : Fin 16384) := Fin.ext (by blk_simp [idx t])
    have e2 : (((cfg0.win 7).blk t).view.emb y) 2 = (⟨y 2, y2⟩ : Fin 2048) := Fin.ext (by blk_simp [idx t])
    exact (congr (congrArg₂ (xattn (X m c) (Gw m c) (Wq m c) (Qg m c) (Kb m c) (Vb m c) (Wo m c)) e0 e1) e2).symm

end Cert.XaIdeal.Value

end
-- ==== Proof.XaRead.lean ====
/- The cross-attention's reference, read at an index stage by stage. -/
module

public import proofs.«01_k».proof.Proof.XaArray
public import proofs.«01_k».proof.Proof.Gen.XaRefIdeal.Run

@[expose] public section

set_option maxRecDepth 16384

noncomputable section

namespace Cert.XaRefIdeal.Value

open Idealize.ShloMosaic Idealize.ShloMosaic.TcCoe Idealize.SL.Sem
open Cert.XaRefIdeal Cert.XaRefIdeal.Gen
open Cert.HeadNorm Cert.XaIdeal.Value

/-- The reference's stages: the normalised rows' product with the queries' weights, -/
def stageZ (x : FVec Ideal S2x16384x2048 .f32) (g : FVec Ideal S2048 .f32) (wq : FVec Ideal S2048x512 .f32) : FVec Ideal S2x16384x512 .f32 := (Host.dotGeneral dot_S2x16384x2048_S2048x512_S2x16384x512_2_0_01_1_n_n none (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) wq)

/-- the queries by heads, normalised, -/
def stageQ (Z : FVec Ideal S2x16384x512 .f32) (qg : FVec Ideal S128 .f32) : FVec Ideal S2x4x16384x128 .f32 := (mulf (mulf (transpose S2x4x16384x128 [0, 2, 1, 3] (shapeCast S2x16384x4x128 Z shapeCasts_S2x16384x512_S2x16384x4x128) transposes_S2x16384x4x128_S2x4x16384x128_0_2_1_3) (broadcastInDim S2x4x16384x128 ![0, 1, 2, 3] bcast_S2x4x16384x1_S2x4x16384x128_0_1_2_3 (Host.rsqrt (addf (Host.divf (broadcastInDim S2x4x16384x1 ![0, 1, 2] bcast_S2x4x16384_S2x4x16384x1_0_1_2 (Host.reduceAdd (mulf (transpose S2x4x16384x128 [0, 2, 1, 3] (shapeCast S2x16384x4x128 Z shapeCasts_S2x16384x512_S2x16384x4x128) transposes_S2x16384x4x128_S2x4x16384x128_0_2_1_3) (transpose S2x4x16384x128 [0, 2, 1, 3] (shapeCast S2x16384x4x128 Z shapeCasts_S2x16384x512_S2x16384x4x128) transposes_S2x16384x4x128_S2x4x16384x128_0_2_1_3)) (constant S_ .f32 0x00000000#32) reducesTo_S2x4x16384x128_S2x4x16384_d3 h_S_)) (broadcastInDim S2x4x16384x1 ![] bcast_S_S2x4x16384x1 (constant S_ .f32 0x43000000#32))) (broadcastInDim S2x4x16384x1 ![] bcast_S_S2x4x16384x1 (constant S_ .f32 0x358637BD#32)))))) (broadcastInDim S2x4x16384x128 ![0, 1, 2, 3] bcast_S1x1x1x128_S2x4x16384x128_0_1_2_3 (broadcastInDim S1x1x1x128 ![3] bcast_S128_S1x1x1x128_3 qg)))

/-- the scaled scores, -/
def stageS (Q : FVec Ideal S2x4x16384x128 .f32) (kk : FVec Ideal S2x256x512 .bf16) : FVec Ideal S2x4x16384x256 .f32 := (mulf (Host.dotGeneral dot_S2x4x16384x128_S2x4x256x128_S2x4x16384x256_3_3_2_2_01_01 none Q (transpose S2x4x256x128 [0, 2, 1, 3] (shapeCast S2x256x4x128 (extf .f32 kk bitsLt_bf16_f32) shapeCasts_S2x256x512_S2x256x4x128) transposes_S2x256x4x128_S2x4x256x128_0_2_1_3)) (broadcastInDim S2x4x16384x256 ![] bcast_S_S2x4x16384x256 (constant S_ .f32 0x3DB504F3#32)))

/-- each row's largest score, -/
def stageM (S : FVec Ideal S2x4x16384x256 .f32) : FVec Ideal S2x4x16384 .f32 := Host.reduce FloatOps.maximumf S (constant S_ .f32 0xFF800000#32) reducesTo_S2x4x16384x256_S2x4x16384_d3 h_S_

/-- the exponentials of the scores less it, -/
def stageE (S : FVec Ideal S2x4x16384x256 .f32) (M : FVec Ideal S2x4x16384 .f32) : FVec Ideal S2x4x16384x256 .f32 := Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) M))))

/-- those over their sum, -/
def stageP (E : FVec Ideal S2x4x16384x256 .f32) : FVec Ideal S2x4x16384x256 .f32 := Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_)))

/-- which together make the softmax, -/
def soften (S : FVec Ideal S2x4x16384x256 .f32) : FVec Ideal S2x4x16384x256 .f32 := stageP (stageE S (stageM S))

/-- and the residual with the heads' product with the output weights. -/
def stageT (x : FVec Ideal S2x16384x2048 .f32) (P : FVec Ideal S2x4x16384x256 .f32) (vv : FVec Ideal S2x256x512 .bf16) (wo : FVec Ideal S512x2048 .f32) : FVec Ideal S2x16384x2048 .f32 := addf x (Host.dotGeneral dot_S2x16384x512_S512x2048_S2x16384x2048_2_0_01_1_n_n none (shapeCast S2x16384x512 (transpose S2x16384x4x128 [0, 2, 1, 3] (Host.dotGeneral dot_S2x4x16384x256_S2x4x256x128_S2x4x16384x128_3_2_2_3_01_01 none P (transpose S2x4x256x128 [0, 2, 1, 3] (shapeCast S2x256x4x128 (extf .f32 vv bitsLt_bf16_f32) shapeCasts_S2x256x512_S2x256x4x128) transposes_S2x256x4x128_S2x4x256x128_0_2_1_3)) transposes_S2x4x16384x128_S2x16384x4x128_0_2_1_3) shapeCasts_S2x16384x4x128_S2x16384x512) wo)

/-- The projected queries at an index. -/
theorem stageZ_at (x : FVec Ideal S2x16384x2048 .f32) (g : FVec Ideal S2048 .f32) (wq : FVec Ideal S2048x512 .f32) (b : Fin 2) (r : Fin 16384) (k : Fin 512) :
    stageZ x g wq (ix3 b r k) = ∑ l, FfnMath.norm (fun l => x (ix3 b r l)) (fun l => g (ix1 l)) l * wq (ix2 l k) := by
  pointwise [stageZ, FfnMath.norm]

/-- The queries of a head at an index. -/
theorem stageQ_at (Z : FVec Ideal S2x16384x512 .f32) (qg : FVec Ideal S128 .f32) (b : Fin 2) (h : Fin 4) (r : Fin 16384) (e : Fin 128) :
    stageQ Z qg (ix4 b h r e) = hn (fun d => Z (ix3 b r d)) (fun e => qg (ix1 e)) ⟨h.val * 128 + e.val, by omega⟩ := by
  rw [hn_head _ _ h e _ rfl]
  pointwise [stageQ]

/-- A score at an index. -/
theorem stageS_at (Q : FVec Ideal S2x4x16384x128 .f32) (kk : FVec Ideal S2x256x512 .bf16) (b : Fin 2) (h : Fin 4) (r : Fin 16384) (n : Fin 256) :
    stageS Q kk (ix4 b h r n) = (∑ e : Fin 128, Q (ix4 b h r e) * kk (ix3 b n ⟨h.val * 128 + e.val, by omega⟩)) * Ideal.ofBits FTy.f32 1035273459#32 := by
  pointwise [stageS]

/-- The reference takes the larger of the row's largest score and minus infinity, from which that maximum starts already. -/
theorem max_fold (s : Fin 256 → EReal) : max (Ideal.ofBits FTy.f32 4286578688#32) (Finset.univ.fold max (Ideal.ofBits FTy.f32 4286578688#32) s) = Finset.univ.fold max (Ideal.ofBits FTy.f32 4286578688#32) s :=
  max_eq_right ((Finset.le_fold_max _).2 (Or.inl le_rfl))

/-- The largest score of a row, as a fold. -/
theorem stageM_at (S : FVec Ideal S2x4x16384x256 .f32) (b : Fin 2) (h : Fin 4) (r : Fin 16384) :
    stageM S (ix3 b h r) = Finset.univ.fold max (Ideal.ofBits FTy.f32 4286578688#32) (fun n => S (ix4 b h r n)) := by
  unfold stageM
  rw [Host.reduce_eq_fold_single _ _ _ _ (by decide : Shape.Reduces S2x4x16384x256 [3] S2x4x16384)]
  refine congrArg (fun f => Finset.fold max (Ideal.ofBits FTy.f32 4286578688#32) f (Finset.univ : Finset (Fin 256))) (funext fun n => congrArg S (funext fun a => ?_))
  match a with
  | ⟨0, _⟩ => rfl
  | ⟨1, _⟩ => rfl
  | ⟨2, _⟩ => rfl
  | ⟨3, _⟩ => rfl

/-- An exponential read at an index. -/
theorem stageE_at (S : FVec Ideal S2x4x16384x256 .f32) (M : FVec Ideal S2x4x16384 .f32) (b : Fin 2) (h : Fin 4) (r : Fin 16384) (n : Fin 256) :
    stageE S M (ix4 b h r n) = Ideal.exp (S (ix4 b h r n) - max (Ideal.ofBits FTy.f32 4286578688#32) (M (ix3 b h r))) := by
  pointwise [stageE]

/-- A weight read at an index. -/
theorem stageP_at (E : FVec Ideal S2x4x16384x256 .f32) (b : Fin 2) (h : Fin 4) (r : Fin 16384) (n : Fin 256) :
    stageP E (ix4 b h r n) = Ideal.div (E (ix4 b h r n)) (∑ n, E (ix4 b h r n)) := by
  pointwise [stageP]

/-- The weights of a row are the softmax of its scores. -/
theorem soft_at (S : FVec Ideal S2x4x16384x256 .f32) (b : Fin 2) (h : Fin 4) (r : Fin 16384) (n : Fin 256) :
    soften S (ix4 b h r n) = soft (fun n => S (ix4 b h r n)) n := by
  unfold soften
  rw [stageP_at]
  simp only [stageE_at, stageM_at, max_fold]
  rfl

/-- The result at an index. -/
theorem stageT_at (x : FVec Ideal S2x16384x2048 .f32) (P : FVec Ideal S2x4x16384x256 .f32) (vv : FVec Ideal S2x256x512 .bf16) (wo : FVec Ideal S512x2048 .f32) (b : Fin 2) (r : Fin 16384) (d : Fin 2048) :
    stageT x P vv wo (ix3 b r d) = x (ix3 b r d) + ∑ j : Fin 512, (∑ n, P (ix4 b ⟨j.val / 128, by omega⟩ r n) * vv (ix3 b n j)) * wo (ix2 j d) := by
  pointwise [stageT]

/-- The scale, a positive real, passes through a sum of extended reals. -/
theorem sum_scale {ι : Type} (s : Finset ι) (f g : ι → EReal) : (∑ e ∈ s, f e * g e) * Ideal.ofBits FTy.f32 1035273459#32 = ∑ e ∈ s, f e * Ideal.ofBits FTy.f32 1035273459#32 * g e := by
  obtain ⟨q, hq, hc⟩ : ∃ q : ℝ, 0 ≤ q ∧ Ideal.ofBits FTy.f32 1035273459#32 = (q : EReal) := by
    refine ⟨11863283 / 134217728, by norm_num, ?_⟩
    simp [Ideal.ofBits, Ideal.ieee, -EReal.coe_mul]; norm_num
  rw [hc]
  classical
  induction s using Finset.induction_on with
  | empty => simp
  | insert a s ha ih =>
    rw [Finset.sum_insert ha, Finset.sum_insert ha, EReal.right_distrib_of_nonneg_of_ne_top (EReal.coe_nonneg.2 hq) (EReal.coe_ne_top q), ih]
    congr 1
    rw [mul_assoc, mul_comm (g a), ← mul_assoc]

/-- The reference's result at an index is the cross-attention with its residual. -/
theorem stages_at (x : FVec Ideal S2x16384x2048 .f32) (g : FVec Ideal S2048 .f32) (wq : FVec Ideal S2048x512 .f32) (qg : FVec Ideal S128 .f32) (kk : FVec Ideal S2x256x512 .bf16) (vv : FVec Ideal S2x256x512 .bf16) (wo : FVec Ideal S512x2048 .f32) (b : Fin 2) (r : Fin 16384) (d : Fin 2048) :
    stageT x (soften (stageS (stageQ (stageZ x g wq) qg) kk)) vv wo (ix3 b r d) = xattn x g wq qg kk vv wo b r d := by
  rw [stageT_at]
  unfold xattn
  refine congrArg (_ + ·) (Finset.sum_congr rfl fun j _ => congrArg (· * wo (ix2 j d)) ?_)
  unfold att
  refine Finset.sum_congr rfl fun n _ => congrArg (· * vv (ix3 b n j)) ?_
  rw [soft_at]
  refine congrArg (soft · n) (funext fun n => ?_)
  rw [stageS_at, sum_scale]
  refine Finset.sum_congr rfl fun e _ => ?_
  rw [stageQ_at]
  simp only [stageZ_at]
  rfl

/-- The reference ends with the cross-attention in its result and its arguments unchanged. -/
theorem run_xattn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = (fun j => xattn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run m ρ)
  clear h
  funext j
  idx_vars j
  refine Eq.trans ?_ (stages_at _ _ _ _ _ _ _ _ _ _)
  unfold res_main_v53 stageT soften stageP stageE stageM stageS stageQ stageZ
  rfl

end Cert.XaRefIdeal.Value

end
-- ==== Proof.XaClaim.lean ====
/- The claims about the cross-attention call, assembled. -/
module

public import proofs.«01_k».proof.Defs
public import proofs.«01_k».proof.Proof.XaArray
public import proofs.«01_k».proof.Proof.XaRead
public import proofs.«01_k».proof.Proof.Gen.Xa.Frame

@[expose] public section

noncomputable section

namespace Cert.Proof.Xa

open Idealize.ShloMosaic Idealize.ShloMosaic.TcCoe Idealize.SL.Sem

/-- The kernel leaves its arguments as they were and every counter at zero. -/
theorem frame : Cert.quiescent_Xa := fun m ρ _ => Cert.Xa.Gen.frame m ρ

/-- So does the kernel over the extended reals. -/
theorem frame_ideal : Cert.quiescent_XaIdeal := fun m ρ _ => Cert.XaIdeal.Gen.frame m ρ

/-- So does the reference, which declares no counter. -/
theorem frame_ref : Cert.quiescent_XaRefIdeal := fun m ρ _ =>
  (θ_run Cert.XaRefIdeal.defs _ _).mono (fun r h => ⟨fun c => (h c).2, sem_eq_zero_of_no_sems (by decide) r.2⟩)
    (Cert.XaRefIdeal.Value.run (F := Ideal) m ρ)

/-- From arguments that agree, the kernel and the reference end with the same extended reals in their results. -/
theorem algebraic : Cert.algebraic_XaIdeal_XaRefIdeal := by
  intro m ρ m' ρ' _ hag
  refine ⟨fun c => fun j => Cert.XaIdeal.Value.xattn (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4)) (m ((c.tc : Thread Cert.XaIdeal.nD Cert.XaIdeal.τ).loc Cert.XaIdeal.main_arg5)) (m ((c.tc : Thread Cert.XaIdeal.nD Cert.XaIdeal.τ).loc Cert.XaIdeal.main_arg6)) (j 0) (j 1) (j 2), ?_, ?_⟩
  · exact (θ_run Cert.XaIdeal.defs _ _).mono (fun r h c => ⟨(h c).1.trans (Cert.XaIdeal.Value.final m c), (h c).2⟩) (Cert.XaIdeal.Value.run_blocks (F := Ideal) m ρ)
  · refine (θ_run Cert.XaRefIdeal.defs _ _).mono (fun r h c => ⟨(h c).1.trans ?_, (h c).2⟩) (Cert.XaRefIdeal.Value.run_xattn m' ρ')
    rw [(hag c).1, (hag c).2.1, (hag c).2.2.1, (hag c).2.2.2.1, (hag c).2.2.2.2.1, (hag c).2.2.2.2.2.1, (hag c).2.2.2.2.2.2]
    rfl

end Cert.Proof.Xa

end
-- ==== Proof.MkvPoint.lean ====
/- The memory's keys and values: the kernel's payloads read at an index. -/
module

public import proofs.«01_k».proof.Proof.HeadNorm
public import proofs.«01_k».proof.Proof.Gen.MkvIdeal.Frame
public import Idealize.ShloMosaic.Lib.Pipeline.ValueKit
public import Idealize.ShloMosaic.Lib.Pointwise

@[expose] public section

set_option maxRecDepth 16384

noncomputable section

namespace Cert.MkvIdeal.Value

open Cert.MkvIdeal Cert.MkvIdeal.Gen Idealize.ShloMosaic Idealize.ShloMosaic.TcCoe Idealize.SL.Sem
open Cert.HeadNorm

/-- A row of the product of the normalised memory with the weights. -/
def z (x : Vec Ideal S512x2048 .f32) (g : Vec Ideal S1x2048 .f32) (w : Vec Ideal S2048x1024 .bf16) (r : Fin 512) (k : Fin 1024) : EReal :=
  ∑ l, FfnMath.norm (fun l => x (ix2 r l)) (fun l => g (ix2 0 l)) l * w (ix2 l k)

/-- The kernel's product read at an index. -/
theorem pay3_at (x : Vec Ideal S512x2048 .f32) (g : Vec Ideal S1x2048 .f32) (w : Vec Ideal S2048x1024 .bf16) (r : Fin 512) (k : Fin 1024) :
    k0_pay3 (F := Ideal) x g w (ix2 r k) = z x g w r k := by
  pointwise [k0_pay3, z, FfnMath.norm]

/-- The four heads of the memory's keys: normalised. -/
theorem k0 (x : Vec Ideal S512x2048 .f32) (g : Vec Ideal S1x2048 .f32) (w : Vec Ideal S2048x1024 .bf16) (p : Vec Ideal S1x128 .f32) (r : Fin 512) (e : Fin 128) :
    k0_pay4 (F := Ideal) x g w p (ix2 r e) = hn (fun d => z x g w r ⟨0 + d.val, by omega⟩) (fun e => p (ix2 0 e)) ⟨0 + e.val, by omega⟩ := by
  rw [hn_head _ _ 0 e _ (by simp <;> rfl)]
  simp only [← pay3_at]
  pointwise [k0_pay4]

theorem k1 (x : Vec Ideal S512x2048 .f32) (g : Vec Ideal S1x2048 .f32) (w : Vec Ideal S2048x1024 .bf16) (p : Vec Ideal S1x128 .f32) (r : Fin 512) (e : Fin 128) :
    k0_pay7 (F := Ideal) (k0_pay5 x g w) (k0_pay6 p) (ix2 r e) = hn (fun d => z x g w r ⟨0 + d.val, by omega⟩) (fun e => p (ix2 0 e)) ⟨128 + e.val, by omega⟩ := by
  rw [hn_head _ _ 1 e _ (by simp <;> rfl)]
  simp only [← pay3_at]
  pointwise [k0_pay7, k0_pay5, k0_pay6]

theorem k2 (x : Vec Ideal S512x2048 .f32) (g : Vec Ideal S1x2048 .f32) (w : Vec Ideal S2048x1024 .bf16) (p : Vec Ideal S1x128 .f32) (r : Fin 512) (e : Fin 128) :
    k0_pay8 (F := Ideal) (k0_pay3 x g w) p (ix2 r e) = hn (fun d => z x g w r ⟨0 + d.val, by omega⟩) (fun e => p (ix2 0 e)) ⟨256 + e.val, by omega⟩ := by
  rw [hn_head _ _ 2 e _ (by simp <;> rfl)]
  simp only [← pay3_at]
  pointwise [k0_pay8]

theorem k3 (x : Vec Ideal S512x2048 .f32) (g : Vec Ideal S1x2048 .f32) (w : Vec Ideal S2048x1024 .bf16) (p : Vec Ideal S1x128 .f32) (r : Fin 512) (e : Fin 128) :
    k0_pay1 (F := Ideal) (k0_pay9 (k0_pay3 x g w)) (k0_pay10 p) (k0_pay11 (k0_pay3 x g w)) (ix2 r e) = hn (fun d => z x g w r ⟨0 + d.val, by omega⟩) (fun e => p (ix2 0 e)) ⟨384 + e.val, by omega⟩ := by
  rw [hn_head _ _ 3 e _ (by simp <;> rfl)]
  simp only [← pay3_at]
  pointwise [k0_pay1, k0_pay9, k0_pay10, k0_pay11]

/-- The memory's values: the last 512 columns of the product. -/
theorem v_at (x : Vec Ideal S512x2048 .f32) (g : Vec Ideal S1x2048 .f32) (w : Vec Ideal S2048x1024 .bf16) (r : Fin 512) (d : Fin 512) :
    k0_pay2 (F := Ideal) (k0_pay3 x g w) (ix2 r d) = z x g w r ⟨512 + d.val, by omega⟩ := by
  rw [← pay3_at]
  pointwise [k0_pay2]

end Cert.MkvIdeal.Value

end
-- ==== Proof.MkvArray.lean ====
/- The memory's keys and values: the two result arrays. -/
module

public import proofs.«01_k».proof.Proof.MkvPoint
public import proofs.«01_k».proof.Proof.Gen.MkvIdeal.Value

@[expose] public section

set_option maxRecDepth 16384

noncomputable section

namespace Cert.MkvIdeal.Value

open Cert.MkvIdeal Cert.MkvIdeal.Gen Idealize.ShloMosaic Idealize.ShloMosaic.TcCoe Idealize.SL.Sem
open Cert.HeadNorm

/-- Where the four stores sit in the block. -/
theorem emb_0 (r : Fin 512) (e : Fin 128) : (r0_4.emb (ix2 r e) : S512x512.Idx) = ix2 r ⟨0 + e.val, by omega⟩ := by
  funext a
  match a with
  | ⟨0, _⟩ => exact Fin.ext (by blk_simp)
  | ⟨1, _⟩ => exact Fin.ext (by blk_simp)

theorem emb_128 (r : Fin 512) (e : Fin 128) : (r0_5.emb (ix2 r e) : S512x512.Idx) = ix2 r ⟨128 + e.val, by omega⟩ := by
  funext a
  match a with
  | ⟨0, _⟩ => exact Fin.ext (by blk_simp)
  | ⟨1, _⟩ => exact Fin.ext (by blk_simp)

theorem emb_256 (r : Fin 512) (e : Fin 128) : (r0_6.emb (ix2 r e) : S512x512.Idx) = ix2 r ⟨256 + e.val, by omega⟩ := by
  funext a
  match a with
  | ⟨0, _⟩ => exact Fin.ext (by blk_simp)
  | ⟨1, _⟩ => exact Fin.ext (by blk_simp)

theorem emb_384 (r : Fin 512) (e : Fin 128) : (r0_7.emb (ix2 r e) : S512x512.Idx) = ix2 r ⟨384 + e.val, by omega⟩ := by
  funext a
  match a with
  | ⟨0, _⟩ => exact Fin.ext (by blk_simp)
  | ⟨1, _⟩ => exact Fin.ext (by blk_simp)

/-- The keys of a block. -/
def kblk (x : Vec Ideal S512x2048 .f32) (g : Vec Ideal S1x2048 .f32) (w : Vec Ideal S2048x1024 .bf16) (p : Vec Ideal S1x128 .f32) (r d : Fin 512) : EReal :=
  hn (fun d => z x g w r ⟨0 + d.val, by omega⟩) (fun e => p (ix2 0 e)) d

/-- What the body leaves for the keys, read at an index: its four stores are the four heads. -/
theorem out4_at (x : Vec Ideal S512x2048 .f32) (g : Vec Ideal S1x2048 .f32) (w : Vec Ideal S2048x1024 .bf16) (p : Vec Ideal S1x128 .f32) (r d : Fin 512) :
    out0_4 (F := Ideal) x g w p (ix2 r d) = kblk x g w p r d := by
  unfold out0_4 k0_pay12
  rw [show View.ld x r0_0 = x from View.ld_unit_lit _ _ (by decide), show View.ld g r0_1 = g from View.ld_unit_lit _ _ (by decide), show View.ld w r0_2 = w from View.ld_unit_lit _ _ (by decide), show View.ld p r0_3 = p from View.ld_unit_lit _ _ (by decide)]
  refine View.canon_apply_of_pieces (Val := Elt Ideal) (show FVec Ideal S512x512 .bf16 from fun y => kblk x g w p (y 0) (y 1)) _ ?_ (ix2 r d) (cover0_4 _ _ _ _ _)
  intro pc hpc
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k3 x g w p r e).trans ?_
    show _ = kblk x g w p (r0_7.emb (ix2 r e) 0) (r0_7.emb (ix2 r e) 1)
    rw [emb_384 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k2 x g w p r e).trans ?_
    show _ = kblk x g w p (r0_6.emb (ix2 r e) 0) (r0_6.emb (ix2 r e) 1)
    rw [emb_256 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k1 x g w p r e).trans ?_
    show _ = kblk x g w p (r0_5.emb (ix2 r e) 0) (r0_5.emb (ix2 r e) 1)
    rw [emb_128 r e]
    rfl
  rcases List.mem_cons.mp hpc with rfl | hpc
  · intro v
    obtain ⟨r, e, rfl⟩ : ∃ (r : Fin 512) (e : Fin 128), v = ix2 r e := ⟨v 0, v 1, funext fun a => by match a with | ⟨0, _⟩ => rfl | ⟨1, _⟩ => rfl⟩
    refine (k0 x g w p r e).trans ?_
    show _ = kblk x g w p (r0_4.emb (ix2 r e) 0) (r0_4.emb (ix2 r e) 1)
    rw [emb_0 r e]
    rfl
  nomatch hpc

/-- What the body leaves for the values. -/
theorem out5_at (x : Vec Ideal S512x2048 .f32) (g : Vec Ideal S1x2048 .f32) (w : Vec Ideal S2048x1024 .bf16) (p : Vec Ideal S1x128 .f32) (r d : Fin 512) :
    out0_5 (F := Ideal) x g w p (ix2 r d) = z x g w r ⟨512 + d.val, by omega⟩ := by
  refine Eq.trans ?_ (v_at x g w r d)
  unfold out0_5 k0_pay12
  rw [show View.ld x r0_0 = x from View.ld_unit_lit _ _ (by decide), show View.ld g r0_1 = g from View.ld_unit_lit _ _ (by decide), show View.ld w r0_2 = w from View.ld_unit_lit _ _ (by decide)]
  rw [View.canon_cons_unit_lit _ _ _ (by decide)]

variable (m : (ℓ : Loc nD τ sig) → Buf (Elt Ideal) ℓ)

/-- Row `r`, column `k` of the normalised memory's product with the weights. -/
def prod (x : FVec Ideal S512x2048 .f32) (g : FVec Ideal S2048 .f32) (w : FVec Ideal S2048x1024 .f32) (r : Fin 512) (k : Fin 1024) : EReal :=
  ∑ l, FfnMath.norm (fun l => x (ix2 r l)) (fun l => g (ix1 l)) l * w (ix2 l k)

/-- The memory's keys: the first 512 columns, every head normalised. -/
def keys (x : FVec Ideal S512x2048 .f32) (g : FVec Ideal S2048 .f32) (w : FVec Ideal S2048x1024 .f32) (p : FVec Ideal S128 .f32) (r : Fin 512) (d : Fin 512) : EReal :=
  hn (fun d => prod x g w r ⟨0 + d.val, by omega⟩) (fun e => p (ix1 e)) d

/-- The memory's values: the last 512 columns. -/
def values (x : FVec Ideal S512x2048 .f32) (g : FVec Ideal S2048 .f32) (w : FVec Ideal S2048x1024 .f32) (r : Fin 512) (d : Fin 512) : EReal :=
  prod x g w r ⟨512 + d.val, by omega⟩

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The kernel's arguments as arrays. -/
abbrev X (c : Dev nD) : FVec Ideal S512x2048 .f32 := m ((c : Thread nD τ).loc main_arg0)
abbrev Gw (c : Dev nD) : FVec Ideal S2048 .f32 := m ((c : Thread nD τ).loc main_arg1)
abbrev W (c : Dev nD) : FVec Ideal S2048x1024 .f32 := m ((c : Thread nD τ).loc main_arg2)
abbrev Kg (c : Dev nD) : FVec Ideal S128 .f32 := m ((c : Thread nD τ).loc main_arg3)

/-- The blocks are the whole arrays. -/
theorem blk_x (c : Dev nD) (t : Fin cfg0.N) (r : Fin 512) (l : Fin 2048) :
    (iblk m c 0 t : Vec Ideal S512x2048 .f32) (ix2 r l) = X m c (ix2 r l) := by
  blk_ext [iblk, V, idx t]

theorem blk_g (c : Dev nD) (t : Fin cfg0.N) (l : Fin 2048) :
    (iblk m c 1 t : Vec Ideal S1x2048 .f32) (ix2 0 l) = Gw m c (ix1 l) := by
  blk_ext! [iblk, idx t]

theorem blk_w (c : Dev nD) (t : Fin cfg0.N) (l : Fin 2048) (k : Fin 1024) :
    (iblk m c 2 t : Vec Ideal S2048x1024 .bf16) (ix2 l k) = W m c (ix2 l k) := by
  blk_ext! [iblk, idx t]

theorem blk_p (c : Dev nD) (t : Fin cfg0.N) (e : Fin 128) :
    (iblk m c 3 t : Vec Ideal S1x128 .f32) (ix2 0 e) = Kg m c (ix1 e) := by
  blk_ext! [iblk, idx t]

/-- The product's row at the point. -/
theorem z_eq (c : Dev nD) (t : Fin cfg0.N) (r : Fin 512) :
    z (iblk m c 0 t) (iblk m c 1 t) (iblk m c 2 t) r = prod (X m c) (Gw m c) (W m c) r := by
  funext k
  unfold z prod
  have hx : (fun l => (iblk m c 0 t : Vec Ideal S512x2048 .f32) (ix2 r l)) = fun l => X m c (ix2 r l) := funext fun l => blk_x m c t r l
  have hg : (fun l => (iblk m c 1 t : Vec Ideal S1x2048 .f32) (ix2 0 l)) = fun l => Gw m c (ix1 l) := funext fun l => blk_g m c t l
  rw [hx, hg]
  exact Finset.sum_congr rfl fun l _ => congrArg (_ * ·) (blk_w m c t l k)

/-- What the point leaves for the keys and the values. -/
theorem point1 (c : Dev nD) (t : Fin cfg0.N) (r d : Fin 512) :
    out0_4 (F := Ideal) (iblk m c 0 t) (iblk m c 1 t) (iblk m c 2 t) (iblk m c 3 t) (ix2 r d) = keys (X m c) (Gw m c) (W m c) (Kg m c) r d := by
  have hp : (fun e => (iblk m c 3 t : Vec Ideal S1x128 .f32) (ix2 0 e)) = fun e => Kg m c (ix1 e) := funext fun e => blk_p m c t e
  rw [out4_at]
  unfold kblk
  rw [z_eq m c t r, hp]
  rfl

theorem point2 (c : Dev nD) (t : Fin cfg0.N) (r d : Fin 512) :
    out0_5 (F := Ideal) (iblk m c 0 t) (iblk m c 1 t) (iblk m c 2 t) (iblk m c 3 t) (ix2 r d) = values (X m c) (Gw m c) (W m c) r d := by
  rw [out5_at, z_eq m c t r]
  rfl

/-- The first result array holds the memory's keys. -/
theorem final1 (c : Dev nD) : (dats m 0 c).arrAt 4 (cfgs 0).N = fun j => keys (X m c) (Gw m c) (W m c) (Kg m c) (j 0) (j 1) := by
  refine (dats m 0 c).arrAt_eq_of_covers 4 _ (by decide +kernel) fun t hf y => ?_
  blk_simp
  rw [after0_4]
  have y0 : (y 0 : ℕ) < 512 := (y 0).isLt
  have y1 : (y 1 : ℕ) < 512 := (y 1).isLt
  have key := point1 m c t ⟨y 0, y0⟩ ⟨y 1, y1⟩
  refine Eq.trans ?_ (key.trans ?_)
  · blk_ext
  · have e0 : (((cfg0.win 4).blk t).view.emb y) 0 = (⟨y 0, y0⟩ : Fin 512) := Fin.ext (by blk_simp [idx t])
    have e1 : (((cfg0.win 4).blk t).view.emb y) 1 = (⟨y 1, y1⟩ : Fin 512) := Fin.ext (by blk_simp [idx t])
    exact (congrArg₂ (keys (X m c) (Gw m c) (W m c) (Kg m c)) e0 e1).symm

/-- The second result array holds the memory's values. -/
theorem final2 (c : Dev nD) : (dats m 0 c).arrAt 5 (cfgs 0).N = fun j => values (X m c) (Gw m c) (W m c) (j 0) (j 1) := by
  refine (dats m 0 c).arrAt_eq_of_covers 5 _ (by decide +kernel) fun t hf y => ?_
  blk_simp
  rw [after0_5]
  have y0 : (y 0 : ℕ) < 512 := (y 0).isLt
  have y1 : (y 1 : ℕ) < 512 := (y 1).isLt
  have key := point2 m c t ⟨y 0, y0⟩ ⟨y 1, y1⟩
  refine Eq.trans ?_ (key.trans ?_)
  · blk_ext
  · have e0 : (((cfg0.win 5).blk t).view.emb y) 0 = (⟨y 0, y0⟩ : Fin 512) := Fin.ext (by blk_simp [idx t])
    have e1 : (((cfg0.win 5).blk t).view.emb y) 1 = (⟨y 1, y1⟩ : Fin 512) := Fin.ext (by blk_simp [idx t])
    exact (congrArg₂ (values (X m c) (Gw m c) (W m c)) e0 e1).symm

end Cert.MkvIdeal.Value

end
-- ==== Proof.MkvRead.lean ====
/- The reference's keys and values of the memory, read at an index. -/
module

public import proofs.«01_k».proof.Proof.MkvArray
public import proofs.«01_k».proof.Proof.Gen.MkvRefIdeal.Run

@[expose] public section

set_option maxRecDepth 16384

noncomputable section

namespace Cert.MkvRefIdeal.Value

open Idealize.ShloMosaic Idealize.ShloMosaic.TcCoe Idealize.SL.Sem
open Cert.MkvRefIdeal Cert.MkvRefIdeal.Gen

/-- The reference ends with the keys and the values in its results and its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = (fun j => MkvIdeal.Value.keys (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v32) = (fun j => MkvIdeal.Value.values (m ((c.tc : Thread nD τ).loc main_arg0)) (m ((c.tc : Thread nD τ).loc main_arg1)) (m ((c.tc : Thread nD τ).loc main_arg2)) (j 0) (j 1))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (run m ρ)
  all_goals
    clear h
    generalize m ((c.tc : Thread nD τ).loc main_arg0) = x
    generalize m ((c.tc : Thread nD τ).loc main_arg1) = g
    generalize m ((c.tc : Thread nD τ).loc main_arg2) = w
  · generalize m ((c.tc : Thread nD τ).loc main_arg3) = p
    funext j
    idx_vars j
    pointwise [MkvIdeal.Value.keys, HeadNorm.hn, HeadNorm.feat, MkvIdeal.Value.prod, FfnMath.norm]
  · funext j
    idx_vars j
    pointwise [MkvIdeal.Value.values, MkvIdeal.Value.prod, FfnMath.norm]

end Cert.MkvRefIdeal.Value

end
-- ==== Proof.MkvClaim.lean ====
/- The claims about the memory projection call, assembled. -/
module

public import proofs.«01_k».proof.Defs
public import proofs.«01_k».proof.Proof.MkvArray
public import proofs.«01_k».proof.Proof.MkvRead
public import proofs.«01_k».proof.Proof.Gen.Mkv.Frame

@[expose] public section

noncomputable section

namespace Cert.Proof.Mkv

open Idealize.ShloMosaic Idealize.ShloMosaic.TcCoe Idealize.SL.Sem

/-- The kernel leaves its arguments as they were and every counter at zero. -/
theorem frame : Cert.quiescent_Mkv := fun m ρ _ => Cert.Mkv.Gen.frame m ρ

/-- So does the kernel over the extended reals. -/
theorem frame_ideal : Cert.quiescent_MkvIdeal := fun m ρ _ => Cert.MkvIdeal.Gen.frame m ρ

/-- So does the reference, which declares no counter. -/
theorem frame_ref : Cert.quiescent_MkvRefIdeal := fun m ρ _ =>
  (θ_run Cert.MkvRefIdeal.defs _ _).mono (fun r h => ⟨fun c => (h c).2.2, sem_eq_zero_of_no_sems (by decide) r.2⟩)
    (Cert.MkvRefIdeal.Value.run (F := Ideal) m ρ)

/-- From arguments that agree, the kernel and the reference end with the same extended reals in their results. -/
theorem algebraic : Cert.algebraic_MkvIdeal_MkvRefIdeal := by
  intro m ρ m' ρ' _ hag
  refine ⟨fun c => fun j => Cert.MkvIdeal.Value.keys (m ((c.tc : Thread Cert.MkvIdeal.nD Cert.MkvIdeal.τ).loc Cert.MkvIdeal.main_arg0)) (m ((c.tc : Thread Cert.MkvIdeal.nD Cert.MkvIdeal.τ).loc Cert.MkvIdeal.main_arg1)) (m ((c.tc : Thread Cert.MkvIdeal.nD Cert.MkvIdeal.τ).loc Cert.MkvIdeal.main_arg2)) (m ((c.tc : Thread Cert.MkvIdeal.nD Cert.MkvIdeal.τ).loc Cert.MkvIdeal.main_arg3)) (j 0) (j 1),
    fun c => fun j => Cert.MkvIdeal.Value.values (m ((c.tc : Thread Cert.MkvIdeal.nD Cert.MkvIdeal.τ).loc Cert.MkvIdeal.main_arg0)) (m ((c.tc : Thread Cert.MkvIdeal.nD Cert.MkvIdeal.τ).loc Cert.MkvIdeal.main_arg1)) (m ((c.tc : Thread Cert.MkvIdeal.nD Cert.MkvIdeal.τ).loc Cert.MkvIdeal.main_arg2)) (j 0) (j 1), ?_, ?_⟩
  · exact (θ_run Cert.MkvIdeal.defs _ _).mono (fun r h c => ⟨(h c).1.trans (Cert.MkvIdeal.Value.final1 m c), (h c).2.1.trans (Cert.MkvIdeal.Value.final2 m c), (h c).2.2⟩) (Cert.MkvIdeal.Value.run_blocks (F := Ideal) m ρ)
  · refine (θ_run Cert.MkvRefIdeal.defs _ _).mono (fun r h c => ⟨(h c).1.trans ?_, (h c).2.1.trans ?_, (h c).2.2⟩) (Cert.MkvRefIdeal.Value.run_proj m' ρ')
    · rw [(hag c).1, (hag c).2.1, (hag c).2.2.1, (hag c).2.2.2]
      rfl
    · rw [(hag c).1, (hag c).2.1, (hag c).2.2.1]
      rfl

end Cert.Proof.Mkv

end
-- ==== Proof.lean ====
module

public import proofs.«01_k».proof.Defs
public import proofs.«01_k».proof.Proof.Gen.Sb
public import proofs.«01_k».proof.Proof.Gen.SbIdeal
public import proofs.«01_k».proof.Proof.Gen.SbRefIdeal
public import proofs.«01_k».proof.Proof.Gen.Ffn
public import proofs.«01_k».proof.Proof.Gen.FfnIdeal
public import proofs.«01_k».proof.Proof.Gen.FfnRefIdeal
public import proofs.«01_k».proof.Proof.Gen.Conv
public import proofs.«01_k».proof.Proof.Gen.ConvIdeal
public import proofs.«01_k».proof.Proof.Gen.ConvRefIdeal
public import proofs.«01_k».proof.Proof.Gen.Out
public import proofs.«01_k».proof.Proof.Gen.OutIdeal
public import proofs.«01_k».proof.Proof.Gen.OutRefIdeal
public import proofs.«01_k».proof.Proof.Gen.Psb
public import proofs.«01_k».proof.Proof.Gen.PsbIdeal
public import proofs.«01_k».proof.Proof.Gen.PsbRefIdeal
public import proofs.«01_k».proof.Proof.Gen.Pv
public import proofs.«01_k».proof.Proof.Gen.PvIdeal
public import proofs.«01_k».proof.Proof.Gen.PvRefIdeal
public import proofs.«01_k».proof.Proof.Gen.Pr
public import proofs.«01_k».proof.Proof.Gen.PrIdeal
public import proofs.«01_k».proof.Proof.Gen.PrRefIdeal
public import proofs.«01_k».proof.Proof.Gen.Pg
public import proofs.«01_k».proof.Proof.Gen.PgIdeal
public import proofs.«01_k».proof.Proof.Gen.PgRefIdeal
public import proofs.«01_k».proof.Proof.Gen.Xa
public import proofs.«01_k».proof.Proof.Gen.XaIdeal
public import proofs.«01_k».proof.Proof.Gen.XaRefIdeal
public import proofs.«01_k».proof.Proof.Gen.Mkv
public import proofs.«01_k».proof.Proof.Gen.MkvIdeal
public import proofs.«01_k».proof.Proof.Gen.MkvRefIdeal
public import proofs.«01_k».proof.Proof.SbClaim
public import proofs.«01_k».proof.Proof.FfnClaim
public import proofs.«01_k».proof.Proof.ConvClaim
public import proofs.«01_k».proof.Proof.OutClaim
public import proofs.«01_k».proof.Proof.PsbClaim
public import proofs.«01_k».proof.Proof.PvClaim
public import proofs.«01_k».proof.Proof.PrClaim
public import proofs.«01_k».proof.Proof.PgClaim
public import proofs.«01_k».proof.Proof.XaClaim
public import proofs.«01_k».proof.Proof.MkvClaim
public import Idealize.ShloMosaic.Adequacy
public import Idealize.ShloMosaic.Init

@[expose] public section

noncomputable section

namespace Cert.Proof

/-- Everything this certificate claims. -/
theorem claim : Cert.Claim :=
  ⟨Cert.Sb.Gen.facts, Cert.SbIdeal.Gen.facts, Cert.SbRefIdeal.Gen.facts, Cert.Ffn.Gen.facts, Cert.FfnIdeal.Gen.facts, Cert.FfnRefIdeal.Gen.facts, Cert.Conv.Gen.facts, Cert.ConvIdeal.Gen.facts, Cert.ConvRefIdeal.Gen.facts, Cert.Out.Gen.facts, Cert.OutIdeal.Gen.facts, Cert.OutRefIdeal.Gen.facts, Cert.Psb.Gen.facts, Cert.PsbIdeal.Gen.facts, Cert.PsbRefIdeal.Gen.facts, Cert.Pv.Gen.facts, Cert.PvIdeal.Gen.facts, Cert.PvRefIdeal.Gen.facts, Cert.Pr.Gen.facts, Cert.PrIdeal.Gen.facts, Cert.PrRefIdeal.Gen.facts, Cert.Pg.Gen.facts, Cert.PgIdeal.Gen.facts, Cert.PgRefIdeal.Gen.facts, Cert.Xa.Gen.facts, Cert.XaIdeal.Gen.facts, Cert.XaRefIdeal.Gen.facts, Cert.Mkv.Gen.facts, Cert.MkvIdeal.Gen.facts, Cert.MkvRefIdeal.Gen.facts,
    Sb.frame, Sb.frame_ideal, Sb.frame_ref,
    Ffn.frame, Ffn.frame_ideal, Ffn.frame_ref,
    Conv.frame, Conv.frame_ideal, Conv.frame_ref,
    Out.frame, Out.frame_ideal, Out.frame_ref,
    Psb.frame, Psb.frame_ideal, Psb.frame_ref,
    Pv.frame, Pv.frame_ideal, Pv.frame_ref,
    Pr.frame, Pr.frame_ideal, Pr.frame_ref,
    Pg.frame, Pg.frame_ideal, Pg.frame_ref,
    Xa.frame, Xa.frame_ideal, Xa.frame_ref,
    Mkv.frame, Mkv.frame_ideal, Mkv.frame_ref,
    trivial, Sb.algebraic,
    trivial, Ffn.algebraic,
    trivial, Conv.algebraic,
    trivial, Out.algebraic,
    trivial, Psb.algebraic,
    trivial, Pv.algebraic,
    trivial, Pr.algebraic,
    trivial, Pg.algebraic,
    trivial, Xa.algebraic,
    trivial, Mkv.algebraic⟩

end Cert.Proof

end
